-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v299) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x10272 : Shape := ⟨3, ![1, 1024, 10272]⟩
abbrev S1x4x128x128 : Shape := ⟨4, ![1, 4, 128, 128]⟩
abbrev S1x4x128 : Shape := ⟨3, ![1, 4, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1x1024x1024 : Shape := ⟨3, ![1, 1024, 1024]⟩
abbrev S1x2048x1024 : Shape := ⟨3, ![1, 2048, 1024]⟩
abbrev S1x256x1024 : Shape := ⟨3, ![1, 256, 1024]⟩
abbrev S1024 : Shape := ⟨1, ![1024]⟩
abbrev S8x8192x256 : Shape := ⟨3, ![8, 8192, 256]⟩
abbrev S1024x10272 : Shape := ⟨2, ![1024, 10272]⟩
abbrev S4x128x128 : Shape := ⟨3, ![4, 128, 128]⟩
abbrev S4x128 : Shape := ⟨2, ![4, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1024x1024 : Shape := ⟨2, ![1024, 1024]⟩
abbrev S2048x1024 : Shape := ⟨2, ![2048, 1024]⟩
abbrev S256x1024 : Shape := ⟨2, ![256, 1024]⟩
abbrev S1024x8192 : Shape := ⟨2, ![1024, 8192]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S1024x10368 : Shape := ⟨2, ![1024, 10368]⟩
abbrev S128x128 : Shape := ⟨2, ![128, 128]⟩
abbrev S1x128x128 : Shape := ⟨3, ![1, 128, 128]⟩
abbrev S128x4 : Shape := ⟨2, ![128, 4]⟩
abbrev S128x4x256 : Shape := ⟨3, ![128, 4, 256]⟩
abbrev S128x1024 : Shape := ⟨2, ![128, 1024]⟩
abbrev S1x128 : Shape := ⟨2, ![1, 128]⟩
abbrev S32x64 : Shape := ⟨2, ![32, 64]⟩
abbrev S1x256x256 : Shape := ⟨3, ![1, 256, 256]⟩
abbrev S24x264x128 : Shape := ⟨3, ![24, 264, 128]⟩
abbrev S256x2048 : Shape := ⟨2, ![256, 2048]⟩
abbrev S128x2048 : Shape := ⟨2, ![128, 2048]⟩
abbrev S24x8x128 : Shape := ⟨3, ![24, 8, 128]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S1024x512 : Shape := ⟨2, ![1024, 512]⟩
abbrev S256x512 : Shape := ⟨2, ![256, 512]⟩
abbrev S1x256x128 : Shape := ⟨3, ![1, 256, 128]⟩
abbrev S8x128 : Shape := ⟨2, ![8, 128]⟩
abbrev S1x8x128 : Shape := ⟨3, ![1, 8, 128]⟩
abbrev S128x512 : Shape := ⟨2, ![128, 512]⟩
abbrev S128x128x1 : Shape := ⟨3, ![128, 128, 1]⟩
abbrev S256x3072 : Shape := ⟨2, ![256, 3072]⟩
abbrev S128 : Shape := ⟨1, ![128]⟩
abbrev S128x1 : Shape := ⟨2, ![128, 1]⟩
abbrev S128x256 : Shape := ⟨2, ![128, 256]⟩
abbrev S1x512 : Shape := ⟨2, ![1, 512]⟩

abbrev nBuf : Space → Nat
  | .hbm => 97
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S1x8x8192x256, .f32⟩
  | .hbm, ⟨2, _⟩ => ⟨S1x1024, .f32⟩
  | .hbm, ⟨3, _⟩ => ⟨S1x1024x10272, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x4x128, .f32⟩
  | .hbm, ⟨8, _⟩ => ⟨S1x4x3072, .f32⟩
  | .hbm, ⟨9, _⟩ => ⟨S1x3072, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S1x2048, .f32⟩
  | .hbm, ⟨14, _⟩ => ⟨S1x1024x1024, .f32⟩
  | .hbm, ⟨15, _⟩ => ⟨S1x2048x1024, .f32⟩
  | .hbm, ⟨16, _⟩ => ⟨S1x1024x1024, .f32⟩
  | .hbm, ⟨17, _⟩ => ⟨S1x1024, .f32⟩
  | .hbm, ⟨18, _⟩ => ⟨S1x1024x1024, .f32⟩
  | .hbm, ⟨19, _⟩ => ⟨S1x256x1024, .f32⟩
  | .hbm, ⟨20, _⟩ => ⟨S1024, .f32⟩
  | .hbm, ⟨21, _⟩ => ⟨S8x8192x256, .f32⟩
  | .hbm, ⟨22, _⟩ => ⟨S1024, .f32⟩
  | .hbm, ⟨23, _⟩ => ⟨S1024x10272, .f32⟩
  | .hbm, ⟨24, _⟩ => ⟨S1024, .f32⟩
  | .hbm, ⟨25, _⟩ => ⟨S1024, .f32⟩
  | .hbm, ⟨26, _⟩ => ⟨S4x128x128, .f32⟩
  | .hbm, ⟨27, _⟩ => ⟨S4x128, .f32⟩
  | .hbm, ⟨28, _⟩ => ⟨S4x3072, .f32⟩
  | .hbm, ⟨29, _⟩ => ⟨S3072, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S2048, .f32⟩
  | .hbm, ⟨34, _⟩ => ⟨S1024x1024, .f32⟩
  | .hbm, ⟨35, _⟩ => ⟨S2048x1024, .f32⟩
  | .hbm, ⟨36, _⟩ => ⟨S1024x1024, .f32⟩
  | .hbm, ⟨37, _⟩ => ⟨S1024, .f32⟩
  | .hbm, ⟨38, _⟩ => ⟨S1024x1024, .f32⟩
  | .hbm, ⟨39, _⟩ => ⟨S256x1024, .f32⟩
  | .hbm, ⟨40, _⟩ => ⟨S1024x10272, .bf16⟩
  | .hbm, ⟨41, _⟩ => ⟨S1024x8192, .bf16⟩
  | .hbm, ⟨42, _⟩ => ⟨S1024x2048, .bf16⟩
  | .hbm, ⟨43, _⟩ => ⟨S1024x32, .bf16⟩
  | .hbm, ⟨44, _⟩ => ⟨S_, .i32⟩
  | .hbm, ⟨45, _⟩ => ⟨S_, .bf16⟩
  | .hbm, ⟨46, _⟩ => ⟨S1024x128, .bf16⟩
  | .hbm, ⟨47, _⟩ => ⟨S1024x10368, .bf16⟩
  | .hbm, ⟨48, _⟩ => ⟨S_, .f32⟩
  | .hbm, ⟨49, _⟩ => ⟨S128x128, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S_, .f32⟩
  | .hbm, ⟨57, _⟩ => ⟨S128x128, .f32⟩
  | .hbm, ⟨58, _⟩ => ⟨S128x128, .f32⟩
  | .hbm, ⟨59, _⟩ => ⟨S1x128x128, .f32⟩
  | .hbm, ⟨60, _⟩ => ⟨S_, .f32⟩
  | .hbm, ⟨61, _⟩ => ⟨S1x128x128, .f32⟩
  | .hbm, ⟨62, _⟩ => ⟨S1x128x128, .i1⟩
  | .hbm, ⟨63, _⟩ => ⟨S_, .f32⟩
  | .hbm, ⟨64, _⟩ => ⟨S_, .f32⟩
  | .hbm, ⟨65, _⟩ => ⟨S4x128x128, .i1⟩
  | .hbm, ⟨66, _⟩ => ⟨S4x128x128, .f32⟩
  | .hbm, ⟨67, _⟩ => ⟨S4x128x128, .f32⟩
  | .hbm, ⟨68, _⟩ => ⟨S4x128x128, .bf16⟩
  | .hbm, ⟨69, _⟩ => ⟨S128x4, .f32⟩
  | .hbm, ⟨70, _⟩ => ⟨S128x4x256, .f32⟩
  | .hbm, ⟨71, _⟩ => ⟨S128x1024, .f32⟩
  | .hbm, ⟨72, _⟩ => ⟨S1024x1024, .bf16⟩
  | .hbm, ⟨73, _⟩ => ⟨S2048x1024, .bf16⟩
  | .hbm, ⟨74, _⟩ => ⟨S1024x1024, .bf16⟩
  | .hbm, ⟨75, _⟩ => ⟨S1024x1024, .bf16⟩
  | .hbm, ⟨76, _⟩ => ⟨S256x1024, .bf16⟩
  | .hbm, ⟨77, _⟩ => ⟨S1x3072, .f32⟩
  | .hbm, ⟨78, _⟩ => ⟨S1x32, .f32⟩
  | .hbm, ⟨79, _⟩ => ⟨S_, .i32⟩
  | .hbm, ⟨80, _⟩ => ⟨S_, .f32⟩
  | .hbm, ⟨81, _⟩ => ⟨S1x128, .f32⟩
  | .hbm, ⟨82, _⟩ => ⟨S1x32, .f32⟩
  | .hbm, ⟨83, _⟩ => ⟨S_, .i32⟩
  | .hbm, ⟨84, _⟩ => ⟨S_, .f32⟩
  | .hbm, ⟨85, _⟩ => ⟨S1x128, .f32⟩
  | .hbm, ⟨86, _⟩ => ⟨S32x64, .f32⟩
  | .hbm, ⟨87, _⟩ => ⟨S2048, .f32⟩
  | .hbm, ⟨88, _⟩ => ⟨S1x2048, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x2048, .f32⟩
  | .hbm, ⟨93, _⟩ => ⟨S1x1024, .f32⟩
  | .hbm, ⟨94, _⟩ => ⟨S1x1024, .f32⟩
  | .hbm, ⟨95, _⟩ => ⟨S128x128, .bf16⟩
  | .hbm, ⟨96, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1024x10368, .bf16⟩
  | .local _ .vmem, ⟨5, _⟩ => ⟨S1024x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S256x1024, .bf16⟩
  | .local _ .vmem, ⟨10, _⟩ => ⟨S4x128x128, .bf16⟩
  | .local _ .vmem, ⟨11, _⟩ => ⟨S128x1024, .f32⟩
  | .local _ .vmem, ⟨12, _⟩ => ⟨S4x3072, .f32⟩
  | .local _ .vmem, ⟨13, _⟩ => ⟨S1x3072, .f32⟩
  | .local _ .vmem, ⟨14, _⟩ => ⟨S1x128, .f32⟩
  | .local _ .vmem, ⟨15, _⟩ => ⟨S1x128, .f32⟩
  | .local _ .vmem, ⟨16, _⟩ => ⟨S1x2048, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x2048, .f32⟩
  | .local _ .vmem, ⟨21, _⟩ => ⟨S1x1024, .f32⟩
  | .local _ .vmem, ⟨22, _⟩ => ⟨S1x1024, .f32⟩
  | .local _ .vmem, ⟨23, _⟩ => ⟨S128x128, .bf16⟩
  | .local _ .vmem, ⟨24, _⟩ => ⟨S1x256x1024, .f32⟩
  | .local _ .vmem, ⟨25, _⟩ => ⟨S1x256x1024, .f32⟩
  | .local _ .vmem, ⟨26, _⟩ => ⟨S24x264x128, .f32⟩
  | .local _ .vmem, ⟨27, _⟩ => ⟨S256x2048, .f32⟩
  | .local _ .vmem, ⟨28, _⟩ => ⟨S128x2048, .f32⟩
  | .local _ .vmem, ⟨29, _⟩ => ⟨S256x1024, .bf16⟩
  | .local _ .vmem, ⟨30, _⟩ => ⟨S256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_cst : Ref sig .tc := ⟨.hbm, 56, rfl⟩
abbrev main_call1_v5 : Ref sig .tc := ⟨.hbm, 57, rfl⟩
abbrev main_v26 : Ref sig .tc := ⟨.hbm, 58, rfl⟩
abbrev main_v27 : Ref sig .tc := ⟨.hbm, 59, rfl⟩
abbrev main_cst_0 : Ref sig .tc := ⟨.hbm, 60, rfl⟩
abbrev main_v28 : Ref sig .tc := ⟨.hbm, 61, rfl⟩
abbrev main_v29 : Ref sig .tc := ⟨.hbm, 62, rfl⟩
abbrev main_cst_1 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_2 : Ref sig .tc := ⟨.hbm, 79, rfl⟩
abbrev main_call3_v0 : Ref sig .tc := ⟨.hbm, 80, rfl⟩
abbrev main_v42 : Ref sig .tc := ⟨.hbm, 81, rfl⟩
abbrev main_v43 : Ref sig .tc := ⟨.hbm, 82, rfl⟩
abbrev main_c_3 : Ref sig .tc := ⟨.hbm, 83, rfl⟩
abbrev main_call4_v0 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg22_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem22_1 : DmaSem sig := 25

abbrev nD : Nat := 1
abbrev τ : Topo := Topo.v7x

variable {F : FTy → Type} [FloatOps F]

abbrev grid0 : Pipeline.Grid := ⟨1, ![257], ![false]⟩

def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let c0_i32_5 : BitVec 32 := 0#32
  let v18 : BitVec 1 := Scalar.cmpi .eq c32_i32_4 c0_i32_5
  let c1_i32_6 : BitVec 32 := 1#32
  let v19 : BitVec 32 := Scalar.select v18 c1_i32_6 c32_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let c0_i32_7 : BitVec 32 := 0#32
  let v19 : BitVec 1 := Scalar.cmpi .eq c32_i32_6 c0_i32_7
  let c1_i32_8 : BitVec 32 := 1#32
  let v20 : BitVec 32 := Scalar.select v19 c1_i32_8 c32_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c32_i32_6 : BitVec 32 := 32#32
  let c0_i32_7 : BitVec 32 := 0#32
  let v19 : BitVec 1 := Scalar.cmpi .eq c32_i32_6 c0_i32_7
  let c1_i32_8 : BitVec 32 := 1#32
  let v20 : BitVec 32 := Scalar.select v19 c1_i32_8 c32_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10368 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x10272 : Shape := ⟨3, ![1, 1024, 10272]⟩
abbrev S1x4x128x128 : Shape := ⟨4, ![1, 4, 128, 128]⟩
abbrev S1x4x128 : Shape := ⟨3, ![1, 4, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S1x1024x1024 : Shape := ⟨3, ![1, 1024, 1024]⟩
abbrev S1x2048x1024 : Shape := ⟨3, ![1, 2048, 1024]⟩
abbrev S1x256x1024 : Shape := ⟨3, ![1, 256, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x10272 : Shape := ⟨2, ![1024, 10272]⟩
abbrev S8x8192x10272 : Shape := ⟨3, ![8, 8192, 10272]⟩
abbrev S8x8192x2048 : Shape := ⟨3, ![8, 8192, 2048]⟩
abbrev S8x8192x3072 : Shape := ⟨3, ![8, 8192, 3072]⟩
abbrev S8x8192x32 : Shape := ⟨3, ![8, 8192, 32]⟩
abbrev S4x128x128 : Shape := ⟨3, ![4, 128, 128]⟩
abbrev S4x128 : Shape := ⟨2, ![4, 128]⟩
abbrev S128x128 : Shape := ⟨2, ![128, 128]⟩
abbrev S1x128x128 : Shape := ⟨3, ![1, 128, 128]⟩
abbrev S8x64x128x4x256 : Shape := ⟨5, ![8, 64, 128, 4, 256]⟩
abbrev S4x8x64x256x128 : Shape := ⟨5, ![4, 8, 64, 256, 128]⟩
abbrev S128x4 : Shape := ⟨2, ![128, 4]⟩
abbrev S1x1x128x4x1 : Shape := ⟨5, ![1, 1, 128, 4, 1]⟩
abbrev S1024x1024 : Shape := ⟨2, ![1024, 1024]⟩
abbrev S4x3072 : Shape := ⟨2, ![4, 3072]⟩
abbrev S3072 : Shape := ⟨1, ![3072]⟩
abbrev S8x8195x3072 : Shape := ⟨3, ![8, 8195, 3072]⟩
abbrev S1x1x3072 : Shape := ⟨3, ![1, 1, 3072]⟩
abbrev S8x8192x512 : Shape := ⟨3, ![8, 8192, 512]⟩
abbrev S32 : Shape := ⟨1, ![32]⟩
abbrev S1x1x32 : Shape := ⟨3, ![1, 1, 32]⟩
abbrev S4x8 : Shape := ⟨2, ![4, 8]⟩
abbrev S8x64x128x4x8x64 : Shape := ⟨6, ![8, 64, 128, 4, 8, 64]⟩
abbrev S8x64x128x4x8 : Shape := ⟨5, ![8, 64, 128, 4, 8]⟩
abbrev S8x64x128x4x8x1 : Shape := ⟨6, ![8, 64, 128, 4, 8, 1]⟩
abbrev S1x1x1x4x8 : Shape := ⟨5, ![1, 1, 1, 4, 8]⟩
abbrev S8x64x128x4x128 : Shape := ⟨5, ![8, 64, 128, 4, 128]⟩
abbrev S1x1x128x128x1x1 : Shape := ⟨6, ![1, 1, 128, 128, 1, 1]⟩
abbrev S8x64x128x1x4x8 : Shape := ⟨6, ![8, 64, 128, 1, 4, 8]⟩
abbrev S8x64x1x128x4x8 : Shape := ⟨6, ![8, 64, 1, 128, 4, 8]⟩
abbrev S8x64x128x128x4x8 : Shape := ⟨6, ![8, 64, 128, 128, 4, 8]⟩
abbrev S8x64x4x128x128 : Shape := ⟨5, ![8, 64, 4, 128, 128]⟩
abbrev S8x64x128x128x4 : Shape := ⟨5, ![8, 64, 128, 128, 4]⟩
abbrev S8x64x128x128x4x1 : Shape := ⟨6, ![8, 64, 128, 128, 4, 1]⟩
abbrev S8x64x4x8x64x128 : Shape := ⟨6, ![8, 64, 4, 8, 64, 128]⟩
abbrev S8x64x1x4x8 : Shape := ⟨5, ![8, 64, 1, 4, 8]⟩
abbrev S8x64x4x8 : Shape := ⟨4, ![8, 64, 4, 8]⟩
abbrev S64 : Shape := ⟨1, ![64]⟩
abbrev S64x1x1 : Shape := ⟨3, ![64, 1, 1]⟩
abbrev S1x64x1 : Shape := ⟨3, ![1, 64, 1]⟩
abbrev S1x1x64 : Shape := ⟨3, ![1, 1, 64]⟩
abbrev S1x64x64 : Shape := ⟨3, ![1, 64, 64]⟩
abbrev S64x1x64 : Shape := ⟨3, ![64, 1, 64]⟩
abbrev S64x64x64 : Shape := ⟨3, ![64, 64, 64]⟩
abbrev S1x64x64x64x1x1 : Shape := ⟨6, ![1, 64, 64, 64, 1, 1]⟩
abbrev S8x1x1x64x4x8 : Shape := ⟨6, ![8, 1, 1, 64, 4, 8]⟩
abbrev S8x64x64x64x4x8 : Shape := ⟨6, ![8, 64, 64, 64, 4, 8]⟩
abbrev S8x64x64x4x8 : Shape := ⟨5, ![8, 64, 64, 4, 8]⟩
abbrev S64x64x1 : Shape := ⟨3, ![64, 64, 1]⟩
abbrev S1x64x64x1x1 : Shape := ⟨5, ![1, 64, 64, 1, 1]⟩
abbrev S8x4x8x64x128x64 : Shape := ⟨6, ![8, 4, 8, 64, 128, 64]⟩
abbrev S4x8x1 : Shape := ⟨3, ![4, 8, 1]⟩
abbrev S1x1x1x4x8x1 : Shape := ⟨6, ![1, 1, 1, 4, 8, 1]⟩
abbrev S2048 : Shape := ⟨1, ![2048]⟩
abbrev S8x8192x4x512 : Shape := ⟨4, ![8, 8192, 4, 512]⟩
abbrev S8x8192x4 : Shape := ⟨3, ![8, 8192, 4]⟩
abbrev S8x8192x4x1 : Shape := ⟨4, ![8, 8192, 4, 1]⟩
abbrev S1x1x2048 : Shape := ⟨3, ![1, 1, 2048]⟩
abbrev S2048x1024 : Shape := ⟨2, ![2048, 1024]⟩
abbrev S8x8192x256 : Shape := ⟨3, ![8, 8192, 256]⟩
abbrev S256x1024 : Shape := ⟨2, ![256, 1024]⟩

abbrev nBuf : Space → Nat
  | .hbm => 428
  | .vmem => 0
  | .smem => 0
  | _ => 0

abbrev hbmTy0_0 (i : Nat) : BufTy := match i % 128 with
  | 0 => ⟨S8x8192x1024, .f32⟩
  | 1 => ⟨S1x8x8192x256, .f32⟩
  | 2 => ⟨S1x1024, .f32⟩
  | 3 => ⟨S1x1024x10272, .f32⟩
  | 4 => ⟨S1x1024, .f32⟩
  | 5 => ⟨S1x1024, .f32⟩
  | 6 => ⟨S1x4x128x128, .f32⟩
  | 7 => ⟨S1x4x128, .f32⟩
  | 8 => ⟨S1x4x3072, .f32⟩
  | 9 => ⟨S1x3072, .f32⟩
  | 10 => ⟨S1x32, .f32⟩
  | 11 => ⟨S1x32, .f32⟩
  | 12 => ⟨S1x32, .f32⟩
  | 13 => ⟨S1x2048, .f32⟩
  | 14 => ⟨S1x1024x1024, .f32⟩
  | 15 => ⟨S1x2048x1024, .f32⟩
  | 16 => ⟨S1x1024x1024, .f32⟩
  | 17 => ⟨S1x1024, .f32⟩
  | 18 => ⟨S1x1024x1024, .f32⟩
  | 19 => ⟨S1x256x1024, .f32⟩
  | 20 => ⟨S1024, .f32⟩
  | 21 => ⟨S1024, .f32⟩
  | 22 => ⟨S8x8192x1024, .f32⟩
  | 23 => ⟨S_, .f32⟩
  | 24 => ⟨S8x8192, .f32⟩
  | 25 => ⟨S8x8192x1, .f32⟩
  | 26 => ⟨S_, .f32⟩
  | 27 => ⟨S8x8192x1, .f32⟩
  | 28 => ⟨S8x8192x1, .f32⟩
  | 29 => ⟨S_, .f32⟩
  | 30 => ⟨S8x8192x1, .f32⟩
  | 31 => ⟨S8x8192x1, .f32⟩
  | 32 => ⟨S8x8192x1, .f32⟩
  | 33 => ⟨S8x8192x1024, .f32⟩
  | 34 => ⟨S8x8192x1024, .f32⟩
  | 35 => ⟨S1x1x1024, .f32⟩
  | 36 => ⟨S8x8192x1024, .f32⟩
  | 37 => ⟨S8x8192x1024, .f32⟩
  | 38 => ⟨S1024x10272, .f32⟩
  | 39 => ⟨S8x8192x10272, .f32⟩
  | 40 => ⟨S8x8192x1024, .f32⟩
  | 41 => ⟨S8x8192x1024, .f32⟩
  | 42 => ⟨S8x8192x1024, .f32⟩
  | 43 => ⟨S8x8192x2048, .f32⟩
  | 44 => ⟨S8x8192x3072, .f32⟩
  | 45 => ⟨S8x8192x32, .f32⟩
  | 46 => ⟨S8x8192x1024, .f32⟩
  | 47 => ⟨S8x8192x1024, .f32⟩
  | 48 => ⟨S1024, .f32⟩
  | 49 => ⟨S1024, .f32⟩
  | 50 => ⟨S4x128x128, .f32⟩
  | 51 => ⟨S4x128, .f32⟩
  | 52 => ⟨S8x8192x1024, .f32⟩
  | 53 => ⟨S8x8192x1024, .f32⟩
  | 54 => ⟨S_, .f32⟩
  | 55 => ⟨S8x8192x1024, .f32⟩
  | 56 => ⟨S8x8192x1024, .f32⟩
  | 57 => ⟨S8x8192x1024, .f32⟩
  | 58 => ⟨S_, .f32⟩
  | 59 => ⟨S8x8192x1024, .f32⟩
  | 60 => ⟨S8x8192x1024, .f32⟩
  | 61 => ⟨S8x8192x1024, .f32⟩
  | 62 => ⟨S_, .f32⟩
  | 63 => ⟨S8x8192x1024, .f32⟩
  | 64 => ⟨S8x8192x1024, .f32⟩
  | 65 => ⟨S_, .f32⟩
  | 66 => ⟨S8x8192x1024, .f32⟩
  | 67 => ⟨S8x8192x1024, .f32⟩
  | 68 => ⟨S8x8192x1024, .f32⟩
  | 69 => ⟨S8x8192x1024, .f32⟩
  | 70 => ⟨S8x8192x1024, .f32⟩
  | 71 => ⟨S_, .f32⟩
  | 72 => ⟨S8x8192x1024, .f32⟩
  | 73 => ⟨S8x8192x1024, .f32⟩
  | 74 => ⟨S8x8192x1024, .f32⟩
  | 75 => ⟨S_, .f32⟩
  | 76 => ⟨S8x8192x1024, .f32⟩
  | 77 => ⟨S8x8192x1024, .f32⟩
  | 78 => ⟨S8x8192x1024, .f32⟩
  | 79 => ⟨S_, .f32⟩
  | 80 => ⟨S8x8192x1024, .f32⟩
  | 81 => ⟨S8x8192x1024, .f32⟩
  | 82 => ⟨S_, .f32⟩
  | 83 => ⟨S8x8192x1024, .f32⟩
  | 84 => ⟨S8x8192x1024, .f32⟩
  | 85 => ⟨S8x8192x1024, .f32⟩
  | 86 => ⟨S_, .f32⟩
  | 87 => ⟨S8x8192, .f32⟩
  | 88 => ⟨S8x8192x1, .f32⟩
  | 89 => ⟨S_, .f32⟩
  | 90 => ⟨S8x8192x1, .f32⟩
  | 91 => ⟨S8x8192x1, .f32⟩
  | 92 => ⟨S8x8192x1024, .f32⟩
  | 93 => ⟨S8x8192x1024, .f32⟩
  | 94 => ⟨S8x8192x1024, .f32⟩
  | 95 => ⟨S_, .f32⟩
  | 96 => ⟨S8x8192, .f32⟩
  | 97 => ⟨S8x8192x1, .f32⟩
  | 98 => ⟨S_, .f32⟩
  | 99 => ⟨S8x8192x1, .f32⟩
  | 100 => ⟨S8x8192x1, .f32⟩
  | 101 => ⟨S_, .f32⟩
  | 102 => ⟨S8x8192x1, .f32⟩
  | 103 => ⟨S8x8192x1, .f32⟩
  | 104 => ⟨S8x8192x1, .f32⟩
  | 105 => ⟨S8x8192x1024, .f32⟩
  | 106 => ⟨S8x8192x1024, .f32⟩
  | 107 => ⟨S1x1x1024, .f32⟩
  | 108 => ⟨S8x8192x1024, .f32⟩
  | 109 => ⟨S8x8192x1024, .f32⟩
  | 110 => ⟨S1x1x1024, .f32⟩
  | 111 => ⟨S8x8192x1024, .f32⟩
  | 112 => ⟨S8x8192x1024, .f32⟩
  | 113 => ⟨S_, .i1⟩
  | 114 => ⟨S128x128, .i1⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .i1⟩
  | 122 => ⟨S128x128, .i1⟩
  | 123 => ⟨S128x128, .i1⟩
  | 124 => ⟨S1x128x128, .i1⟩
  | 125 => ⟨S_, .f32⟩
  | 126 => ⟨S4x128x128, .f32⟩
  | 127 => ⟨S4x128x128, .i1⟩
  | _ => ⟨S8x8192x1024, .f32⟩

abbrev hbmTy0_1 (i : Nat) : BufTy := match i % 128 with
  | 0 => ⟨S4x128x128, .f32⟩
  | 1 => ⟨S8x64x128x4x256, .f32⟩
  | 2 => ⟨S4x8x64x256x128, .f32⟩
  | 3 => ⟨S8x64x128x4x256, .f32⟩
  | 4 => ⟨S128x4, .f32⟩
  | 5 => ⟨S1x1x128x4x1, .f32⟩
  | 6 => ⟨S8x64x128x4x256, .f32⟩
  | 7 => ⟨S8x64x128x4x256, .f32⟩
  | 8 => ⟨S8x8192x1024, .f32⟩
  | 9 => ⟨S8x8192x1024, .f32⟩
  | 10 => ⟨S8x8192x1024, .f32⟩
  | 11 => ⟨S8x8192x1024, .f32⟩
  | 12 => ⟨S_, .f32⟩
  | 13 => ⟨S8x8192x1024, .f32⟩
  | 14 => ⟨S8x8192x1024, .f32⟩
  | 15 => ⟨S_, .f32⟩
  | 16 => ⟨S8x8192x1024, .f32⟩
  | 17 => ⟨S8x8192x1024, .f32⟩
  | 18 => ⟨S8x8192x1024, .f32⟩
  | 19 => ⟨S8x8192x1024, .f32⟩
  | 20 => ⟨S1024x1024, .f32⟩
  | 21 => ⟨S8x8192x1024, .f32⟩
  | 22 => ⟨S4x3072, .f32⟩
  | 23 => ⟨S3072, .f32⟩
  | 24 => ⟨S_, .i32⟩
  | 25 => ⟨S_, .f32⟩
  | 26 => ⟨S8x8195x3072, .f32⟩
  | 27 => ⟨S1x3072, .f32⟩
  | 28 => ⟨S3072, .f32⟩
  | 29 => ⟨S8x8192x3072, .f32⟩
  | 30 => ⟨S1x1x3072, .f32⟩
  | 31 => ⟨S8x8192x3072, .f32⟩
  | 32 => ⟨S8x8192x3072, .f32⟩
  | 33 => ⟨S_, .f32⟩
  | 34 => ⟨S8x8192x3072, .f32⟩
  | 35 => ⟨S8x8192x3072, .f32⟩
  | 36 => ⟨S1x3072, .f32⟩
  | 37 => ⟨S3072, .f32⟩
  | 38 => ⟨S8x8192x3072, .f32⟩
  | 39 => ⟨S1x1x3072, .f32⟩
  | 40 => ⟨S8x8192x3072, .f32⟩
  | 41 => ⟨S8x8192x3072, .f32⟩
  | 42 => ⟨S8x8192x3072, .f32⟩
  | 43 => ⟨S1x3072, .f32⟩
  | 44 => ⟨S3072, .f32⟩
  | 45 => ⟨S8x8192x3072, .f32⟩
  | 46 => ⟨S1x1x3072, .f32⟩
  | 47 => ⟨S8x8192x3072, .f32⟩
  | 48 => ⟨S8x8192x3072, .f32⟩
  | 49 => ⟨S8x8192x3072, .f32⟩
  | 50 => ⟨S1x3072, .f32⟩
  | 51 => ⟨S3072, .f32⟩
  | 52 => ⟨S8x8192x3072, .f32⟩
  | 53 => ⟨S1x1x3072, .f32⟩
  | 54 => ⟨S8x8192x3072, .f32⟩
  | 55 => ⟨S8x8192x3072, .f32⟩
  | 56 => ⟨S8x8192x3072, .f32⟩
  | 57 => ⟨S1x1x3072, .f32⟩
  | 58 => ⟨S8x8192x3072, .f32⟩
  | 59 => ⟨S8x8192x3072, .f32⟩
  | 60 => ⟨S8x8192x3072, .f32⟩
  | 61 => ⟨S8x8192x3072, .f32⟩
  | 62 => ⟨S_, .f32⟩
  | 63 => ⟨S8x8192x3072, .f32⟩
  | 64 => ⟨S8x8192x3072, .f32⟩
  | 65 => ⟨S_, .f32⟩
  | 66 => ⟨S8x8192x3072, .f32⟩
  | 67 => ⟨S8x8192x3072, .f32⟩
  | 68 => ⟨S8x8192x3072, .f32⟩
  | 69 => ⟨S8x8192x2048, .f32⟩
  | 70 => ⟨S8x8192x512, .f32⟩
  | 71 => ⟨S8x8192x512, .f32⟩
  | 72 => ⟨S32, .f32⟩
  | 73 => ⟨S1x1x32, .f32⟩
  | 74 => ⟨S8x8192x32, .f32⟩
  | 75 => ⟨S8x8192x32, .f32⟩
  | 76 => ⟨S_, .f32⟩
  | 77 => ⟨S8x8192x32, .f32⟩
  | 78 => ⟨S8x8192x32, .f32⟩
  | 79 => ⟨S8x8192x32, .f32⟩
  | 80 => ⟨S8x8192x32, .f32⟩
  | 81 => ⟨S8x8192x32, .i1⟩
  | 82 => ⟨S8x8192x32, .f32⟩
  | 83 => ⟨S8x8192x32, .f32⟩
  | 84 => ⟨S8x8192x32, .f32⟩
  | 85 => ⟨S8x8192x32, .f32⟩
  | 86 => ⟨S8x8192x32, .f32⟩
  | 87 => ⟨S8x8192x32, .f32⟩
  | 88 => ⟨S8x8192x32, .f32⟩
  | 89 => ⟨S8x8192x32, .f32⟩
  | 90 => ⟨S32, .f32⟩
  | 91 => ⟨S32, .f32⟩
  | 92 => ⟨S32, .f32⟩
  | 93 => ⟨S4x8, .f32⟩
  | 94 => ⟨S4x8, .f32⟩
  | 95 => ⟨S8x64x128x4x8x64, .f32⟩
  | 96 => ⟨S8x64x128x4x8, .f32⟩
  | 97 => ⟨S8x64x128x4x8x1, .f32⟩
  | 98 => ⟨S8x64x128x4x8x64, .f32⟩
  | 99 => ⟨S8x64x128x4x8x64, .f32⟩
  | 100 => ⟨S1x1x1x4x8, .f32⟩
  | 101 => ⟨S8x64x128x4x8, .f32⟩
  | 102 => ⟨S8x64x128x4x8, .f32⟩
  | 103 => ⟨S_, .f32⟩
  | 104 => ⟨S_, .f32⟩
  | 105 => ⟨S8x64x128x4x8, .f32⟩
  | 106 => ⟨S8x64x128x4x128, .f32⟩
  | 107 => ⟨S8x64x128x4x128, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x1x128x128x1x1, .i1⟩
  | 120 => ⟨S8x64x128x1x4x8, .f32⟩
  | 121 => ⟨S8x64x1x128x4x8, .f32⟩
  | 122 => ⟨S8x64x128x128x4x8, .f32⟩
  | 123 => ⟨S8x64x128x128x4x8, .f32⟩
  | 124 => ⟨S8x64x128x128x4x8, .f32⟩
  | 125 => ⟨S_, .f32⟩
  | 126 => ⟨S_, .f32⟩
  | 127 => ⟨S8x64x128x128x4x8, .i1⟩
  | _ => ⟨S8x8192x1024, .f32⟩

abbrev hbmTy0_2 (i : Nat) : BufTy := match i % 128 with
  | 0 => ⟨S8x64x128x128x4x8, .f32⟩
  | 1 => ⟨S8x64x128x128x4x8, .f32⟩
  | 2 => ⟨S8x64x128x128x4x8, .f32⟩
  | 3 => ⟨S8x64x4x128x128, .f32⟩
  | 4 => ⟨S8x64x128x128x4, .f32⟩
  | 5 => ⟨S8x64x128x128x4x1, .f32⟩
  | 6 => ⟨S8x64x128x128x4x8, .f32⟩
  | 7 => ⟨S8x64x128x128x4x8, .f32⟩
  | 8 => ⟨S8x64x4x8x64x128, .f32⟩
  | 9 => ⟨S8x64x128x4x8x64, .f32⟩
  | 10 => ⟨S8x64x1x4x8, .f32⟩
  | 11 => ⟨S8x64x128x4x8, .f32⟩
  | 12 => ⟨S8x64x128x4x8, .f32⟩
  | 13 => ⟨S8x64x128x4x8, .f32⟩
  | 14 => ⟨S8x64x128x4x8x1, .f32⟩
  | 15 => ⟨S8x64x128x4x8x64, .f32⟩
  | 16 => ⟨S8x64x128x4x8x64, .f32⟩
  | 17 => ⟨S8x64x4x8x64x128, .f32⟩
  | 18 => ⟨S8x64x1x4x8, .f32⟩
  | 19 => ⟨S8x64x4x8, .f32⟩
  | 20 => ⟨S64, .i32⟩
  | 21 => ⟨S64x1x1, .i32⟩
  | 22 => ⟨S64, .i32⟩
  | 23 => ⟨S1x64x1, .i32⟩
  | 24 => ⟨S64, .i32⟩
  | 25 => ⟨S1x1x64, .i32⟩
  | 26 => ⟨S1x64x64, .i32⟩
  | 27 => ⟨S1x64x64, .i32⟩
  | 28 => ⟨S1x64x64, .i1⟩
  | 29 => ⟨S64x1x64, .i32⟩
  | 30 => ⟨S64x1x64, .i32⟩
  | 31 => ⟨S64x1x64, .i1⟩
  | 32 => ⟨S64x64x64, .i1⟩
  | 33 => ⟨S64x64x64, .i1⟩
  | 34 => ⟨S64x64x64, .i1⟩
  | 35 => ⟨S1x64x64x64x1x1, .i1⟩
  | 36 => ⟨S8x1x1x64x4x8, .f32⟩
  | 37 => ⟨S_, .f32⟩
  | 38 => ⟨S_, .f32⟩
  | 39 => ⟨S8x64x64x64x4x8, .i1⟩
  | 40 => ⟨S8x64x64x64x4x8, .f32⟩
  | 41 => ⟨S8x64x64x64x4x8, .f32⟩
  | 42 => ⟨S8x64x64x64x4x8, .f32⟩
  | 43 => ⟨S_, .f32⟩
  | 44 => ⟨S8x64x64x4x8, .f32⟩
  | 45 => ⟨S64x64x1, .i32⟩
  | 46 => ⟨S64x64x1, .i32⟩
  | 47 => ⟨S64x64x1, .i1⟩
  | 48 => ⟨S1x64x64x1x1, .i1⟩
  | 49 => ⟨S8x64x64x4x8, .f32⟩
  | 50 => ⟨S_, .f32⟩
  | 51 => ⟨S_, .f32⟩
  | 52 => ⟨S8x64x64x4x8, .i1⟩
  | 53 => ⟨S8x64x64x4x8, .f32⟩
  | 54 => ⟨S8x64x64x4x8, .f32⟩
  | 55 => ⟨S8x4x8x64x128x64, .f32⟩
  | 56 => ⟨S8x64x4x8x64x128, .f32⟩
  | 57 => ⟨S8x64x4x8x64x128, .f32⟩
  | 58 => ⟨S8x64x128x4x8x64, .f32⟩
  | 59 => ⟨S8x64x128x4x8, .f32⟩
  | 60 => ⟨S8x64x128x4x8x1, .f32⟩
  | 61 => ⟨S8x64x128x4x8x64, .f32⟩
  | 62 => ⟨S8x64x128x4x8x64, .f32⟩
  | 63 => ⟨S8x64x128x4x8x64, .f32⟩
  | 64 => ⟨S4x8, .f32⟩
  | 65 => ⟨S4x8x1, .f32⟩
  | 66 => ⟨S1x1x1x4x8x1, .f32⟩
  | 67 => ⟨S8x64x128x4x8x64, .f32⟩
  | 68 => ⟨S8x64x128x4x8x64, .f32⟩
  | 69 => ⟨S8x64x128x4x8x64, .f32⟩
  | 70 => ⟨S8x8192x2048, .f32⟩
  | 71 => ⟨S2048, .f32⟩
  | 72 => ⟨S8x8192x2048, .f32⟩
  | 73 => ⟨S8x8192x2048, .f32⟩
  | 74 => ⟨S_, .f32⟩
  | 75 => ⟨S8x8192x2048, .f32⟩
  | 76 => ⟨S8x8192x2048, .f32⟩
  | 77 => ⟨S_, .f32⟩
  | 78 => ⟨S8x8192x2048, .f32⟩
  | 79 => ⟨S8x8192x2048, .f32⟩
  | 80 => ⟨S8x8192x2048, .f32⟩
  | 81 => ⟨S8x8192x2048, .f32⟩
  | 82 => ⟨S8x8192x4x512, .f32⟩
  | 83 => ⟨S8x8192x4x512, .f32⟩
  | 84 => ⟨S_, .f32⟩
  | 85 => ⟨S8x8192x4, .f32⟩
  | 86 => ⟨S8x8192x4x1, .f32⟩
  | 87 => ⟨S_, .f32⟩
  | 88 => ⟨S8x8192x4x1, .f32⟩
  | 89 => ⟨S8x8192x4x1, .f32⟩
  | 90 => ⟨S_, .f32⟩
  | 91 => ⟨S8x8192x4x1, .f32⟩
  | 92 => ⟨S8x8192x4x1, .f32⟩
  | 93 => ⟨S8x8192x4x1, .f32⟩
  | 94 => ⟨S8x8192x4x512, .f32⟩
  | 95 => ⟨S8x8192x4x512, .f32⟩
  | 96 => ⟨S8x8192x2048, .f32⟩
  | 97 => ⟨S1x1x2048, .f32⟩
  | 98 => ⟨S8x8192x2048, .f32⟩
  | 99 => ⟨S8x8192x2048, .f32⟩
  | 100 => ⟨S2048x1024, .f32⟩
  | 101 => ⟨S8x8192x1024, .f32⟩
  | 102 => ⟨S8x8192x1024, .f32⟩
  | 103 => ⟨S8x8192x1024, .f32⟩
  | 104 => ⟨S_, .f32⟩
  | 105 => ⟨S8x8192x1024, .f32⟩
  | 106 => ⟨S8x8192x1024, .f32⟩
  | 107 => ⟨S_, .f32⟩
  | 108 => ⟨S8x8192x1024, .f32⟩
  | 109 => ⟨S8x8192x1024, .f32⟩
  | 110 => ⟨S8x8192x1024, .f32⟩
  | 111 => ⟨S8x8192x1024, .f32⟩
  | 112 => ⟨S8x8192x1024, .f32⟩
  | 113 => ⟨S_, .f32⟩
  | 114 => ⟨S8x8192x1024, .f32⟩
  | 115 => ⟨S8x8192x1024, .f32⟩
  | 116 => ⟨S_, .f32⟩
  | 117 => ⟨S8x8192x1024, .f32⟩
  | 118 => ⟨S8x8192x1024, .f32⟩
  | 119 => ⟨S8x8192x1024, .f32⟩
  | 120 => ⟨S8x8192x1024, .f32⟩
  | 121 => ⟨S1024x1024, .f32⟩
  | 122 => ⟨S8x8192x1024, .f32⟩
  | 123 => ⟨S8x8192x1024, .f32⟩
  | 124 => ⟨S1024, .f32⟩
  | 125 => ⟨S8x8192x1024, .f32⟩
  | 126 => ⟨S_, .f32⟩
  | 127 => ⟨S8x8192, .f32⟩
  | _ => ⟨S8x8192x1024, .f32⟩

abbrev hbmTy0_3 (i : Nat) : BufTy := match i % 128 with
  | 0 => ⟨S8x8192x1, .f32⟩
  | 1 => ⟨S_, .f32⟩
  | 2 => ⟨S8x8192x1, .f32⟩
  | 3 => ⟨S8x8192x1, .f32⟩
  | 4 => ⟨S_, .f32⟩
  | 5 => ⟨S8x8192x1, .f32⟩
  | 6 => ⟨S8x8192x1, .f32⟩
  | 7 => ⟨S8x8192x1, .f32⟩
  | 8 => ⟨S8x8192x1024, .f32⟩
  | 9 => ⟨S8x8192x1024, .f32⟩
  | 10 => ⟨S1x1x1024, .f32⟩
  | 11 => ⟨S8x8192x1024, .f32⟩
  | 12 => ⟨S8x8192x1024, .f32⟩
  | 13 => ⟨S1024x1024, .f32⟩
  | 14 => ⟨S8x8192x1024, .f32⟩
  | 15 => ⟨S8x8192x1024, .f32⟩
  | 16 => ⟨S8x8192x1024, .f32⟩
  | 17 => ⟨S_, .f32⟩
  | 18 => ⟨S8x8192x1024, .f32⟩
  | 19 => ⟨S8x8192x1024, .f32⟩
  | 20 => ⟨S_, .f32⟩
  | 21 => ⟨S8x8192x1024, .f32⟩
  | 22 => ⟨S8x8192x1024, .f32⟩
  | 23 => ⟨S8x8192x256, .f32⟩
  | 24 => ⟨S256x1024, .f32⟩
  | 25 => ⟨S8x8192x1024, .f32⟩
  | 26 => ⟨S8x8192x1024, .f32⟩
  | 27 => ⟨S8x8192x1024, .f32⟩
  | 28 => ⟨S8x8192x1024, .f32⟩
  | 29 => ⟨S_, .f32⟩
  | 30 => ⟨S8x8192, .f32⟩
  | 31 => ⟨S8x8192x1, .f32⟩
  | 32 => ⟨S_, .f32⟩
  | 33 => ⟨S8x8192x1, .f32⟩
  | 34 => ⟨S8x8192x1, .f32⟩
  | 35 => ⟨S_, .f32⟩
  | 36 => ⟨S8x8192x1, .f32⟩
  | 37 => ⟨S8x8192x1, .f32⟩
  | 38 => ⟨S8x8192x1, .f32⟩
  | 39 => ⟨S8x8192x1024, .f32⟩
  | 40 => ⟨S8x8192x1024, .f32⟩
  | 41 => ⟨S1x1x1024, .f32⟩
  | 42 => ⟨S8x8192x1024, .f32⟩
  | 43 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | 3 => hbmTy0_3 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c : Ref sig .tc := ⟨.hbm, 113, rfl⟩
abbrev main_v76 : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_c_0 : Ref sig .tc := ⟨.hbm, 121, rfl⟩
abbrev main_call0_v5 : Ref sig .tc := ⟨.hbm, 122, rfl⟩
abbrev main_v77 : Ref sig .tc := ⟨.hbm, 123, rfl⟩
abbrev main_v78 : Ref sig .tc := ⟨.hbm, 124, rfl⟩
abbrev main_cst_15 : Ref sig .tc := ⟨.hbm, 125, rfl⟩
abbrev main_v79 : Ref sig .tc := ⟨.hbm, 126, rfl⟩
abbrev main_call1_v0 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_call2_v0 : Ref sig .tc := ⟨.hbm, 138, rfl⟩
abbrev main_call2_v1 : Ref sig .tc := ⟨.hbm, 139, rfl⟩
abbrev main_call2_cst : Ref sig .tc := ⟨.hbm, 140, rfl⟩
abbrev main_call2_v2 : Ref sig .tc := ⟨.hbm, 141, rfl⟩
abbrev main_call2_v3 : Ref sig .tc := ⟨.hbm, 142, rfl⟩
abbrev main_call2_cst_0 : Ref sig .tc := ⟨.hbm, 143, rfl⟩
abbrev main_call2_v4 : Ref sig .tc := ⟨.hbm, 144, rfl⟩
abbrev main_call2_v5 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_16 : Ref sig .tc := ⟨.hbm, 152, rfl⟩
abbrev main_call3_v0 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_17 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_call4_v0 : Ref sig .tc := ⟨.hbm, 188, rfl⟩
abbrev main_call4_v1 : Ref sig .tc := ⟨.hbm, 189, rfl⟩
abbrev main_call4_cst : Ref sig .tc := ⟨.hbm, 190, rfl⟩
abbrev main_call4_v2 : Ref sig .tc := ⟨.hbm, 191, rfl⟩
abbrev main_call4_v3 : Ref sig .tc := ⟨.hbm, 192, rfl⟩
abbrev main_call4_cst_0 : Ref sig .tc := ⟨.hbm, 193, rfl⟩
abbrev main_call4_v4 : Ref sig .tc := ⟨.hbm, 194, rfl⟩
abbrev main_call4_v5 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_call5_cst : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_v6 : Ref sig .tc := ⟨.hbm, 211, rfl⟩
abbrev main_call5_v7 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_call6_call0_cst : Ref sig .tc := ⟨.hbm, 231, rfl⟩
abbrev main_call6_call0_v0 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_c_18 : Ref sig .tc := ⟨.hbm, 236, rfl⟩
abbrev main_v154 : Ref sig .tc := ⟨.hbm, 237, rfl⟩
abbrev main_call7_v0 : Ref sig .tc := ⟨.hbm, 238, rfl⟩
abbrev main_call7_c : Ref sig .tc := ⟨.hbm, 239, rfl⟩
abbrev main_call7_v1 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_call7_c_0 : Ref sig .tc := ⟨.hbm, 244, rfl⟩
abbrev main_call7_v5 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_19 : Ref sig .tc := ⟨.hbm, 253, rfl⟩
abbrev main_call8_v0 : Ref sig .tc := ⟨.hbm, 254, rfl⟩
abbrev main_call8_v1 : Ref sig .tc := ⟨.hbm, 255, rfl⟩
abbrev main_call8_v2 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_cst_20 : Ref sig .tc := ⟨.hbm, 293, rfl⟩
abbrev main_call9_v0 : Ref sig .tc := ⟨.hbm, 294, rfl⟩
abbrev main_call9_v1 : Ref sig .tc := ⟨.hbm, 295, rfl⟩
abbrev main_call9_v2 : Ref sig .tc := ⟨.hbm, 296, rfl⟩
abbrev main_call9_v3 : Ref sig .tc := ⟨.hbm, 297, rfl⟩
abbrev main_v198 : Ref sig .tc := ⟨.hbm, 298, rfl⟩
abbrev main_cst_21 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_cst_22 : Ref sig .tc := ⟨.hbm, 306, rfl⟩
abbrev main_call10_v0 : Ref sig .tc := ⟨.hbm, 307, rfl⟩
abbrev main_call10_v1 : Ref sig .tc := ⟨.hbm, 308, rfl⟩
abbrev main_call10_v2 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_call11_v0 : Ref sig .tc := ⟨.hbm, 328, rfl⟩
abbrev main_call11_v1 : Ref sig .tc := ⟨.hbm, 329, rfl⟩
abbrev main_call11_cst : Ref sig .tc := ⟨.hbm, 330, rfl⟩
abbrev main_call11_v2 : Ref sig .tc := ⟨.hbm, 331, rfl⟩
abbrev main_call11_v3 : Ref sig .tc := ⟨.hbm, 332, rfl⟩
abbrev main_call11_cst_0 : Ref sig .tc := ⟨.hbm, 333, rfl⟩
abbrev main_call11_v4 : Ref sig .tc := ⟨.hbm, 334, rfl⟩
abbrev main_call11_v5 : Ref sig .tc := ⟨.hbm, 335, rfl⟩
abbrev main_v223 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_cst_23 : Ref sig .tc := ⟨.hbm, 340, rfl⟩
abbrev main_v227 : Ref sig .tc := ⟨.hbm, 341, rfl⟩
abbrev main_v228 : Ref sig .tc := ⟨.hbm, 342, rfl⟩
abbrev main_cst_24 : Ref sig .tc := ⟨.hbm, 343, rfl⟩
abbrev main_v229 : Ref sig .tc := ⟨.hbm, 344, rfl⟩
abbrev main_v230 : Ref sig .tc := ⟨.hbm, 345, rfl⟩
abbrev main_cst_25 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_cst_26 : Ref sig .tc := ⟨.hbm, 360, rfl⟩
abbrev main_v244 : Ref sig .tc := ⟨.hbm, 361, rfl⟩
abbrev main_v245 : Ref sig .tc := ⟨.hbm, 362, rfl⟩
abbrev main_cst_27 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_cst_28 : Ref sig .tc := ⟨.hbm, 369, rfl⟩
abbrev main_v251 : Ref sig .tc := ⟨.hbm, 370, rfl⟩
abbrev main_v252 : Ref sig .tc := ⟨.hbm, 371, rfl⟩
abbrev main_cst_29 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_cst_30 : Ref sig .tc := ⟨.hbm, 382, rfl⟩
abbrev main_v262 : Ref sig .tc := ⟨.hbm, 383, rfl⟩
abbrev main_v263 : Ref sig .tc := ⟨.hbm, 384, rfl⟩
abbrev main_cst_31 : Ref sig .tc := ⟨.hbm, 385, rfl⟩
abbrev main_v264 : Ref sig .tc := ⟨.hbm, 386, rfl⟩
abbrev main_v265 : Ref sig .tc := ⟨.hbm, 387, rfl⟩
abbrev main_cst_32 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_v276 : Ref sig .tc := ⟨.hbm, 399, rfl⟩
abbrev main_v277 : Ref sig .tc := ⟨.hbm, 400, rfl⟩
abbrev main_cst_33 : Ref sig .tc := ⟨.hbm, 401, rfl⟩
abbrev main_v278 : Ref sig .tc := ⟨.hbm, 402, rfl⟩
abbrev main_v279 : Ref sig .tc := ⟨.hbm, 403, rfl⟩
abbrev main_cst_34 : Ref sig .tc := ⟨.hbm, 404, rfl⟩
abbrev main_v280 : Ref sig .tc := ⟨.hbm, 405, rfl⟩
abbrev main_v281 : Ref sig .tc := ⟨.hbm, 406, rfl⟩
abbrev main_v282 : Ref sig .tc := ⟨.hbm, 407, rfl⟩
abbrev main_v283 : Ref sig .tc := ⟨.hbm, 408, rfl⟩
abbrev main_v284 : Ref sig .tc := ⟨.hbm, 409, rfl⟩
abbrev main_v285 : Ref sig .tc := ⟨.hbm, 410, rfl⟩
abbrev main_v286 : Ref sig .tc := ⟨.hbm, 411, rfl⟩
abbrev main_v287 : Ref sig .tc := ⟨.hbm, 412, rfl⟩
abbrev main_cst_35 : Ref sig .tc := ⟨.hbm, 413, rfl⟩
abbrev main_v288 : Ref sig .tc := ⟨.hbm, 414, rfl⟩
abbrev main_v289 : Ref sig .tc := ⟨.hbm, 415, rfl⟩
abbrev main_cst_36 : Ref sig .tc := ⟨.hbm, 416, rfl⟩
abbrev main_v290 : Ref sig .tc := ⟨.hbm, 417, rfl⟩
abbrev main_v291 : Ref sig .tc := ⟨.hbm, 418, rfl⟩
abbrev main_cst_37 : Ref sig .tc := ⟨.hbm, 419, rfl⟩
abbrev main_v292 : Ref sig .tc := ⟨.hbm, 420, rfl⟩
abbrev main_v293 : Ref sig .tc := ⟨.hbm, 421, rfl⟩
abbrev main_v294 : Ref sig .tc := ⟨.hbm, 422, rfl⟩
abbrev main_v295 : Ref sig .tc := ⟨.hbm, 423, rfl⟩
abbrev main_v296 : Ref sig .tc := ⟨.hbm, 424, rfl⟩
abbrev main_v297 : Ref sig .tc := ⟨.hbm, 425, rfl⟩
abbrev main_v298 : Ref sig .tc := ⟨.hbm, 426, rfl⟩
abbrev main_v299 : Ref sig .tc := ⟨.hbm, 427, rfl⟩

abbrev nD : Nat := 1
abbrev τ : Topo := Topo.v7x

variable {F : FTy → Type} [FloatOps F]
-- ==== Proof.Frame.Covers.lean ====
/- What one grid point of the kernel leaves in its output block and in each scratch buffer that it hands to the next
   point, case by case (the first point, a point inside a sequence, a later sequence's first point): the stores of the
   body's run read back, and the proof that they cover the buffer. -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 22 tile its block (1 store of `S1x256x1024`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (y : S1x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).1 S1x256x1024.size (by sl_kernel_rfl) y

/-- What case A leaves in output 22's staging buffer: its pieces read back over junk. -/
def out0_A_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) : Vec F S1x256x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).1)

/-- Case A's pieces for scratch `arg24`, which the kernel carries between points, cover it: 97 pieces (stores and landed copies) of several sizes (`S1x128x128`, `S1x256x128`, `S1x8x128`, `S24x8x128`) tiling it when cut into blocks of `![1, 8, 128]` (Lib/Ring.lean `Piece.tiledBy`). -/
theorem scover0_A_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (y : S24x264x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.1 ![1, 8, 128] (by sl_kernel_rfl) y

/-- What case A leaves in scratch `arg24`: its pieces read back over junk. -/
def sout0_A_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) : Vec F S24x264x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.1)

/-- Case A's pieces for scratch `arg26`, which the kernel carries between points, cover it: one of them a store of the WHOLE buffer (Lib/Ring.lean `sl_whole_mem`). -/
theorem scover0_A_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.1 (by sl_whole_mem) y

/-- What case A leaves in scratch `arg26`: its pieces read back over junk. -/
def sout0_A_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) : Vec F S128x2048 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.1)

/-- Case A's pieces for scratch `arg27`, which the kernel carries between points, cover it: 2 pieces of `S256x1024` tiling it (Lib/Ring.lean `Piece.tiledL`). -/
theorem scover0_A_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.1 S256x1024.size (by sl_kernel_rfl) y

/-- What case A leaves in scratch `arg27`: its pieces read back over junk. -/
def sout0_A_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) : Vec F S256x1024 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.1)

/-- Case A's pieces for scratch `arg28`, which the kernel carries between points, cover it: 2 pieces of `S256x1024` tiling it (Lib/Ring.lean `Piece.tiledL`). -/
theorem scover0_A_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.2.1 S256x1024.size (by sl_kernel_rfl) y

/-- What case A leaves in scratch `arg28`: its pieces read back over junk. -/
def sout0_A_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) : Vec F S256x1024 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21).2.2.2.2.1)

/-- Case B's pieces for output 22 tile its block (1 store of `S1x256x1024`, checked by the kernel's evaluation: Lib/Ring.lean `Piece.tiledL`, linear in the pieces, through a loop's `@[irreducible]` trip theorem too), so they cover it. -/
theorem cover0_B_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) (y : S1x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).1 S1x256x1024.size (by sl_kernel_rfl) y

/-- What case B leaves in output 22's staging buffer: its pieces read back over junk. -/
def out0_B_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) : Vec F S1x256x1024 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).1)

/-- Case B's pieces for scratch `arg24`, which the kernel carries between points, cover it: 96 pieces (stores and landed copies) of several sizes (`S1x128x128`, `S1x256x128`, `S1x8x128`) tiling it when cut into blocks of `![1, 8, 128]` (Lib/Ring.lean `Piece.tiledBy`). -/
theorem scover0_B_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) (y : S24x264x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.1 ![1, 8, 128] (by sl_kernel_rfl) y

/-- What case B leaves in scratch `arg24`: its pieces read back over junk. -/
def sout0_B_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) : Vec F S24x264x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.1)

/-- Case B's pieces for scratch `arg26`, which the kernel carries between points, cover it: 8 pieces of `S128x512` tiling it (Lib/Ring.lean `Piece.tiledL`). -/
theorem scover0_B_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.1 S128x512.size (by sl_kernel_rfl) y

/-- What case B leaves in scratch `arg26`: its pieces read back over junk. -/
def sout0_B_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) : Vec F S128x2048 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.1)

/-- Case B's pieces for scratch `arg27`, which the kernel carries between points, cover it: 1 piece of `S256x1024` tiling it (Lib/Ring.lean `Piece.tiledL`). -/
theorem scover0_B_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.1 S256x1024.size (by sl_kernel_rfl) y

/-- What case B leaves in scratch `arg27`: its pieces read back over junk. -/
def sout0_B_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) : Vec F S256x1024 .bf16 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.1)

/-- Case B's pieces for scratch `arg28`, which the kernel carries between points, cover it: 1 piece of `S256x1024` tiling it (Lib/Ring.lean `Piece.tiledL`). -/
theorem scover0_B_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.2.1 S256x1024.size (by sl_kernel_rfl) y

/-- What case B leaves in scratch `arg28`: its pieces read back over junk. -/
def sout0_B_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : ¬cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs0 : Vec F S24x264x128 .f32) (xs2 : Vec F S128x2048 .f32) (xs3 : Vec F S256x1024 .bf16) (xs4 : Vec F S256x1024 .f32) : Vec F S256x1024 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs0 xs2 xs3 xs4).2.2.2.2.1)

/-- Case C's pieces for output 22 tile its block (1 store of `S1x256x1024`, checked by the kernel's evaluation: Lib/Ring.lean `Piece.tiledL`, linear in the pieces, through a loop's `@[irreducible]` trip theorem too), so they cover it. -/
theorem cover0_C_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) (y : S1x256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).1 S1x256x1024.size (by sl_kernel_rfl) y

/-- What case C leaves in output 22's staging buffer: its pieces read back over junk. -/
def out0_C_22 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) : Vec F S1x256x1024 .f32 :=
  VO0_22.read (Elt F) (VO0_22.writes (Elt F) VO0_22.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).1)

/-- Case C's pieces for scratch `arg24`, which the kernel carries between points, cover it: 97 pieces (stores and landed copies) of several sizes (`S1x128x128`, `S1x256x128`, `S1x8x128`, `S24x8x128`) tiling it when cut into blocks of `![1, 8, 128]` (Lib/Ring.lean `Piece.tiledBy`). -/
theorem scover0_C_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) (y : S24x264x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.1 ![1, 8, 128] (by sl_kernel_rfl) y

/-- What case C leaves in scratch `arg24`: its pieces read back over junk. -/
def sout0_C_0 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) : Vec F S24x264x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.1)

/-- Case C's pieces for scratch `arg26`, which the kernel carries between points, cover it: one of them a store of the WHOLE buffer (Lib/Ring.lean `sl_whole_mem`). -/
theorem scover0_C_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) (y : S128x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.1, y ∈ pc.1.set :=
  View.cover_of_wholeMem (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.1 (by sl_whole_mem) y

/-- What case C leaves in scratch `arg26`: its pieces read back over junk. -/
def sout0_C_2 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) : Vec F S128x2048 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.1)

/-- Case C's pieces for scratch `arg27`, which the kernel carries between points, cover it: 1 piece of `S256x1024` tiling it (Lib/Ring.lean `Piece.tiledL`). -/
theorem scover0_C_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.1 S256x1024.size (by sl_kernel_rfl) y

/-- What case C leaves in scratch `arg27`: its pieces read back over junk. -/
def sout0_C_3 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) : Vec F S256x1024 .bf16 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.1)

/-- Case C's pieces for scratch `arg28`, which the kernel carries between points, cover it: 1 piece of `S256x1024` tiling it (Lib/Ring.lean `Piece.tiledL`). -/
theorem scover0_C_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.2.1 S256x1024.size (by sl_kernel_rfl) y

/-- What case C leaves in scratch `arg28`: its pieces read back over junk. -/
def sout0_C_4 (c : Dev nD) (i : grid0.Coords) (arg1 : Memref sig .tc .vmem S1x256x1024 .f32) (harg1 : arg1.IsWhole) (arg2 : Memref sig .tc .vmem S1x256x256 .f32) (harg2 : arg2.IsWhole) (arg3 : Memref sig .tc .vmem S1024x10368 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S256x1024 .bf16) (harg8 : arg8.IsWhole) (arg9 : Memref sig .tc .vmem S4x128x128 .bf16) (harg9 : arg9.IsWhole) (arg10 : Memref sig .tc .vmem S128x1024 .f32) (harg10 : arg10.IsWhole) (arg11 : Memref sig .tc .vmem S4x3072 .f32) (harg11 : arg11.IsWhole) (arg12 : Memref sig .tc .vmem S1x3072 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x2048 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x2048 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S128x128 .bf16) (harg22 : arg22.IsWhole) (arg23 : Memref sig .tc .vmem S1x256x1024 .f32) (harg23 : arg23.IsWhole) (arg24 : Memref sig .tc .vmem S24x264x128 .f32) (harg24 : arg24.IsWhole) (arg25 : Memref sig .tc .vmem S256x2048 .f32) (harg25 : arg25.IsWhole) (arg26 : Memref sig .tc .vmem S128x2048 .f32) (harg26 : arg26.IsWhole) (arg27 : Memref sig .tc .vmem S256x1024 .bf16) (harg27 : arg27.IsWhole) (arg28 : Memref sig .tc .vmem S256x1024 .f32) (harg28 : arg28.IsWhole) (hc0 : ¬cond0_0 i) (hc1 : cond0_1 i)
    (x0 : Vec F S1x256x1024 .f32) (x1 : Vec F S1x256x256 .f32) (x2 : Vec F S1024x10368 .bf16) (x3 : Vec F S1024x1024 .bf16) (x4 : Vec F S2048x1024 .bf16) (x5 : Vec F S1024x1024 .bf16) (x6 : Vec F S1024x1024 .bf16) (x7 : Vec F S256x1024 .bf16) (x8 : Vec F S4x128x128 .bf16) (x9 : Vec F S128x1024 .f32) (x10 : Vec F S4x3072 .f32) (x11 : Vec F S1x3072 .f32) (x12 : Vec F S1x128 .f32) (x13 : Vec F S1x128 .f32) (x14 : Vec F S1x2048 .f32) (x15 : Vec F S1x1024 .f32) (x16 : Vec F S1x1024 .f32) (x17 : Vec F S1x1024 .f32) (x18 : Vec F S1x2048 .f32) (x19 : Vec F S1x1024 .f32) (x20 : Vec F S1x1024 .f32) (x21 : Vec F S128x128 .bf16) (xs3 : Vec F S256x1024 .bf16) (xs4 : Vec F S256x1024 .f32) : Vec F S256x1024 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 x0 x1 x2 x3 x4 x5 x6 x7 x8 x9 x10 x11 x12 x13 x14 x15 x16 x17 x18 x19 x20 x21 xs3 xs4).2.2.2.2.1)

end Cert.KernelIdeal.Gen

end
-- ==== Proof.Frame.Run.lean ====
/- The run of the whole program and its frame: what the output block and the carried scratch hold after every grid point,
   the proof data of the pipeline, the body's obligation, the launch, and the frame at any float values. -/
module

public import proofs.«01_k».proof.Proof.Frame.Covers
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .f32 × Vec F S24x264x128 .f32 × Vec F S128x2048 .f32 × Vec F S256x1024 .bf16 × Vec F S256x1024 .f32
  | 0, hn => (out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩))
  | n + 1, hn =>
    if h0 : (n + 1) % 257 = 0 then
      if h1 : (n + 1) % 32 = 0 then
        (out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩))
      else
        False.elim (by have hN : n + 1 < 257 := lt_of_lt_of_eq hn (show cfg0.N = 257 from N_0); omega)
    else
      if h1 : (n + 1) % 32 = 0 then
        (out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.2.2.1 (outsAt0 c n (Nat.lt_of_succ_lt hn)).2.2.2.2)
      else
        (out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 257 = 0) (h1 : t.val % 32 = 0) :
    outsAt0 m c t.val t.isLt = (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 257 = 0) (h1 : ¬t.val % 32 = 0) :
    outsAt0 m c t.val t.isLt = (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 257 = 0) (h1 : t.val % 32 = 0) :
    outsAt0 m c t.val t.isLt = (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r))

/-- Before the first point the invariant is that of the untouched scratch. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ owns (c : Thread nD τ) scM0_2 fullShare ((outsAt0 m c n hn).2.2.1) ∗ owns (c : Thread nD τ) scM0_3 fullShare ((outsAt0 m c n hn).2.2.2.1) ∗ owns (c : Thread nD τ) scM0_4 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ owns (c : Thread nD τ) scM0_2 fullShare ((outsAt0 m c (n - 1) (by omega)).2.2.1) ∗ owns (c : Thread nD τ) scM0_3 fullShare ((outsAt0 m c (n - 1) (by omega)).2.2.2.1) ∗ owns (c : Thread nD τ) scM0_4 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t.val t.isLt).1
    | ⟨_ + 23, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 33600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.succ = PhiS m c (t.val + 1) t.isLt from rfl, PhiS_succ]
  have hN : t.val < 257 := lt_of_lt_of_eq t.isLt (show cfg0.N = 257 from N_0)
  by_cases h0 : t.val % 257 = 0
  · by_cases h1 : t.val % 32 = 0
    · by_cases hz : t.val = 0
      · rw [PhiS_castSucc m c t, PhiS_zero m c _ _ hz, PhiA0_eq]
        rw [outsAt0_A m c t h0 h1]
        unfold out0_A_22 sout0_A_0 sout0_A_2 sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, H19, H20, H21, ⟨%e22, H22⟩, ⟨%es0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 257 := lt_of_lt_of_eq t.isLt (show cfg0.N = 257 from N_0); omega
    · exfalso; omega
  · by_cases h1 : t.val % 32 = 0
    · by_cases hz : t.val = 0
      · exfalso; have hN : t.val < 257 := lt_of_lt_of_eq t.isLt (show cfg0.N = 257 from N_0); omega
      · rw [PhiS_castSucc m c t, PhiS_pos m c _ _ hz]
        rw [outsAt0_C m c t h0 h1]
        unfold out0_C_22 sout0_C_0 sout0_C_2 sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexists _; iexact HS0
        isplitl [HS1]; · iexact HS1
        isplitl [HS2]; · iexists _; iexact HS2
        isplitl [HS3]; · iexact HS3
        isplitl [HS4]; · iexact HS4
        iintro ⟨H0, H1, H2, H3, H4, H5, H6, H7, H8, H9, H10, H11, H12, H13, H14, H15, H16, H17, H18, H19, H20, H21, ⟨%e22, H22⟩, ⟨%es0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 257 := lt_of_lt_of_eq t.isLt (show cfg0.N = 257 from N_0); omega
      · rw [PhiS_castSucc m c t, PhiS_pos m c _ _ hz]
        rw [outsAt0_B m c t h0 h1]
        unfold out0_B_22 sout0_B_0 sout0_B_2 sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, H17, H18, H19, H20, H21, ⟨%e22, H22⟩, ⟨%es0, HS0⟩, ⟨%fT1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexists _; unfold owns; iexists _; isplitr
              swap; · iexact HS1
              ipureintro; rfl
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 257 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.KernelIdeal.Gen

end
-- ==== Proof.Frame.Kernel.lean ====
module

public import proofs.«01_k».proof.Defs
public import proofs.«01_k».proof.Proof.Gen.Kernel
public import proofs.«01_k».proof.Proof.Gen.KernelIdeal
public import proofs.«01_k».proof.Proof.Frame.Run
/-!
# The frame of the kernel, taken from the frame of its ideal form

The two programs have the same text, so they have the same definitions and the
same body; the frame proved for the ideal form over any values holds of the
kernel over the machine's values.
-/
@[expose] public section
set_option maxHeartbeats 0
noncomputable section
namespace Cert.Proof
open Idealize.ShloMosaic Idealize.SL.Sem

/-- The two programs give every label the same launched body. -/
theorem defs₀_eq : Cert.Kernel.defs₀ (F := Bits) = Cert.KernelIdeal.defs₀ (F := Bits) := by
  funext p l a
  cases p with
  | tc =>
    match l, a with
    | 0, (t, s) => exact rfl
  | scScalar _ => exact rfl
  | scVector _ _ => exact rfl

/-- The two programs have the same definitions. -/
theorem defs_eq : Cert.Kernel.defs (F := Bits) = Cert.KernelIdeal.defs (F := Bits) :=
  congrArg (Pipeline.defs (Cert.Kernel.pcfgs (F := Bits))) defs₀_eq

/-- The two programs run the same text. -/
theorem main_eq : Cert.Kernel.main (F := Bits) = Cert.KernelIdeal.main (F := Bits) := rfl

/-- The kernel runs to its end, ends with no counter raised, and leaves its arguments as they
were. -/
theorem frame_kernel : Cert.quiescent_Kernel (hKernel := Cert.Kernel.Gen.facts) := by
  intro m ρ _
  have h := Cert.KernelIdeal.Gen.frame (F := Bits) m ρ
  rw [← defs_eq, ← main_eq] at h
  exact h

end Cert.Proof
-- ==== Proof.Model.lean ====
/- The layer's mathematics, one element at a time, over extended reals: every quantity as a plain function of natural
   numbers (batch, position, column). Both the reference and the kernel are shown to compute `Params.out`. -/
module

public import Idealize.ShloMosaic.Lib.Pointwise

@[expose] public section

noncomputable section

namespace Cert.Layer

open Idealize.ShloMosaic

/-- The binary32 constant with the bits `w`. -/
abbrev lit (w : BitVec 32) : EReal := Ideal.ofBits .f32 w

/-- The inverse root of the mean square over `n` entries (the mean taken by dividing by `c`), shifted by 1e-6. -/
def rinv (n : ℕ) (c : EReal) (v : ℕ → EReal) : EReal :=
  Ideal.rsqrt (Ideal.div (∑ k : Fin n, v k * v k) c + lit 0x358637BD#32)

/-- Root-mean-square normalization of a row of 1024 entries, scaled by `g`. -/
def rms (g v : ℕ → EReal) (d : ℕ) : EReal := v d * rinv 1024 (lit 0x44800000#32) v * g d

/-- The logistic function. -/
def sgm (v : EReal) : EReal := Ideal.div 1 (1 + Ideal.exp (-v))

/-- `v` times its logistic. -/
def slu (v : EReal) : EReal := v * sgm v

/-- The Gaussian error unit by the hyperbolic tangent. -/
def gel (v : EReal) : EReal :=
  v * (lit 0x3F000000#32 * (1 + Ideal.tanh (lit 0x3F4C422A#32 * (v + lit 0x3D372713#32 * (v * v * v)))))

/-- `log (1 + exp v)`, in the form that does not overflow. -/
def spl (v : EReal) : EReal := max v 0 + Ideal.log1p (Ideal.exp (-max v (-v)))

/-- The arguments of the layer, read at natural numbers. -/
structure Params where
  x : ℕ → ℕ → ℕ → EReal
  p : ℕ → ℕ → ℕ → EReal
  normG : ℕ → EReal
  w : ℕ → ℕ → EReal
  lnG : ℕ → EReal
  lnB : ℕ → EReal
  ws : ℕ → ℕ → ℕ → EReal
  bs : ℕ → ℕ → EReal
  convW : ℕ → ℕ → EReal
  convB : ℕ → EReal
  dtBias : ℕ → EReal
  aLog : ℕ → EReal
  dSkip : ℕ → EReal
  ssmG : ℕ → EReal
  wOa : ℕ → ℕ → EReal
  wOb : ℕ → ℕ → EReal
  wOut : ℕ → ℕ → EReal
  pleG : ℕ → EReal
  wPg : ℕ → ℕ → EReal
  wPle : ℕ → ℕ → EReal
  finalG : ℕ → EReal

namespace Params

variable (P : Params) (b s : ℕ)

/-- The normalized input. -/
def hid (d : ℕ) : EReal := rms P.normG (P.x b s) d
/-- Its projection: column `n` of 10272. -/
def proj (n : ℕ) : EReal := ∑ k : Fin 1024, P.hid b s k * P.w k n

/-- The gated branch's second part after its unit. -/
def gv (e : ℕ) : EReal := gel (P.proj b s (1024 + e))
/-- It, less its mean. -/
def gvc (e : ℕ) : EReal := P.gv b s e - Ideal.div (∑ k : Fin 1024, P.gv b s k) (lit 0x44800000#32)
/-- It, normalized. -/
def gvn (e : ℕ) : EReal := P.gvc b s e * rinv 1024 (lit 0x44800000#32) (P.gvc b s) * P.lnG e + P.lnB e
/-- The causal mixing matrix of a group. -/
def wsm (g t k : ℕ) : EReal := if k ≤ t then P.ws g t k else 0
/-- The positions of a chunk mixed. -/
def sv (e : ℕ) : EReal :=
  (∑ k : Fin 128, P.wsm (e / 256) (s % 128) k * P.gvn b (s / 128 * 128 + k) e) + P.bs (e / 256) (s % 128)
/-- The gated branch before its output product. -/
def ya (e : ℕ) : EReal := gel (P.proj b s e) * P.sv b s e * slu (P.proj b s (2048 + e))
/-- The gated branch. -/
def oa (d : ℕ) : EReal := ∑ e : Fin 1024, P.ya b s e * P.wOa e d

/-- The convolution's input with three zero rows in front. -/
def xpad (j c : ℕ) : EReal := if j < 3 then 0 else P.proj b (j - 3) (5120 + c)
/-- The convolution of width four, and its unit. -/
def cv (c : ℕ) : EReal :=
  slu (P.convB c + P.convW 3 c * P.xpad b (s + 3) c + P.convW 0 c * P.xpad b s c + P.convW 1 c * P.xpad b (s + 1) c
    + P.convW 2 c * P.xpad b (s + 2) c)
/-- The step size of head `h`. -/
def dt (h : ℕ) : EReal := spl (P.proj b s (8192 + h) + P.dtBias h)
/-- The logarithm of the decay over one position. -/
def av (h : ℕ) : EReal := P.dt b s h * -(Ideal.exp (P.aLog h))
/-- Its running sum inside the chunk. -/
def acs (h : ℕ) : EReal := ∑ k : Fin 128, if (k : ℕ) ≤ s % 128 then P.av b (s / 128 * 128 + k) h else 0
/-- The products of output and input projections of two positions of a chunk. -/
def cbm (k g : ℕ) : EReal :=
  ∑ n : Fin 128, P.cv b s (2560 + g * 128 + n) * P.cv b (s / 128 * 128 + k) (2048 + g * 128 + n)
/-- The part of the output that comes from the position's own chunk. -/
def yd (q : ℕ) : EReal :=
  ∑ k : Fin 128, P.cbm b s k (q / 512)
    * Ideal.exp (if (k : ℕ) ≤ s % 128 then P.acs b s (q / 64) - P.acs b (s / 128 * 128 + k) (q / 64) else ⊥)
    * (P.cv b (s / 128 * 128 + k) q * P.dt b (s / 128 * 128 + k) (q / 64))
/-- What chunk `c` adds to the state. -/
def st (c n q : ℕ) : EReal :=
  ∑ k : Fin 128, P.cv b (c * 128 + k) (2048 + q / 512 * 128 + n)
    * (Ideal.exp (P.acs b (c * 128 + 127) (q / 64) - P.acs b (c * 128 + k) (q / 64))
      * (P.cv b (c * 128 + k) q * P.dt b (c * 128 + k) (q / 64)))
/-- The state that enters chunk `c`. -/
def pv : ℕ → ℕ → ℕ → EReal
  | 0, _, _ => 0
  | c + 1, n, q => Ideal.exp (P.acs b (c * 128 + 127) (q / 64)) * pv c n q + P.st b c n q
/-- The part of the output that comes from the chunks before. -/
def yo (q : ℕ) : EReal :=
  (∑ n : Fin 128, P.cv b s (2560 + q / 512 * 128 + n) * P.pv b (s / 128) n q) * Ideal.exp (P.acs b s (q / 64))
/-- The state-space output, gated. -/
def yz (q : ℕ) : EReal :=
  (P.yd b s q + P.yo b s q + P.cv b s q * P.dSkip (q / 64)) * slu (P.proj b s (3072 + q))
/-- It, normalized by groups of 512 columns. -/
def yn (q : ℕ) : EReal :=
  P.yz b s q * rinv 512 (lit 0x44000000#32) (fun k => P.yz b s (q / 512 * 512 + k)) * P.ssmG q
/-- The state-space branch. -/
def ob (d : ℕ) : EReal := ∑ q : Fin 2048, P.yn b s q * P.wOb q d
/-- The branches merged. -/
def mg (d : ℕ) : EReal :=
  sgm (P.proj b s (8224 + d)) * P.oa b s d + sgm (P.proj b s (9248 + d)) * P.ob b s d

end Params

/-- The last part of the layer, on one position: from its input row `x`, its merged row `m` and its embedding row `e`. -/
def fin1 (P : Params) (x m : ℕ → EReal) (d : ℕ) : EReal := x d + ∑ k : Fin 1024, m k * P.wOut k d
/-- The second residual. -/
def fin2 (P : Params) (x m e : ℕ → EReal) (d : ℕ) : EReal :=
  fin1 P x m d + sgm (∑ k : Fin 1024, rms P.pleG (fin1 P x m) k * P.wPg k d) * ∑ k : Fin 256, e k * P.wPle k d
/-- The layer's output at one position. -/
def Params.out (P : Params) (b s d : ℕ) : EReal := rms P.finalG (fin2 P (P.x b s) (P.mg b s) (P.p b s)) d

end Cert.Layer

end
-- ==== Proof.Args.lean ====
/- The layer's parameters read off the argument arrays. -/
module

public import proofs.«01_k».proof.Proof.Model
public import Idealize.ShloMosaic.Lib.Pointwise

@[expose] public section

noncomputable section

namespace Cert.Layer

open Idealize.ShloMosaic

/-- A vector as a function of a natural number, `0` outside. -/
def nat1 {a : ℕ} (f : Fin a → EReal) (i : ℕ) : EReal := if h : i < a then f ⟨i, h⟩ else 0
/-- A matrix as a function of two natural numbers, `0` outside. -/
def nat2 {a b : ℕ} (f : Fin a → Fin b → EReal) (i j : ℕ) : EReal := if h : i < a then nat1 (f ⟨i, h⟩) j else 0
/-- A three-axis array as a function of three natural numbers, `0` outside. -/
def nat3 {a b c : ℕ} (f : Fin a → Fin b → Fin c → EReal) (i j k : ℕ) : EReal :=
  if h : i < a then nat2 (f ⟨i, h⟩) j k else 0

/-- A vector read inside its extent. -/
theorem nat1_lt {a : ℕ} (f : Fin a → EReal) {i : ℕ} (h : i < a) : nat1 f i = f ⟨i, h⟩ := dif_pos h
/-- A matrix read inside its extents. -/
theorem nat2_lt {a b : ℕ} (f : Fin a → Fin b → EReal) {i j : ℕ} (h : i < a) (h' : j < b) :
    nat2 f i j = f ⟨i, h⟩ ⟨j, h'⟩ := (dif_pos h).trans (nat1_lt _ h')
/-- An array of three axes read inside its extents. -/
theorem nat3_lt {a b c : ℕ} (f : Fin a → Fin b → Fin c → EReal) {i j k : ℕ} (h : i < a) (h' : j < b) (h'' : k < c) :
    nat3 f i j k = f ⟨i, h⟩ ⟨j, h'⟩ ⟨k, h''⟩ := (dif_pos h).trans (nat2_lt _ h' h'')

/-- The layer's parameters, from the argument arrays in the order in which the programs take them. -/
def par (x : Vec Ideal ⟨3, ![8, 8192, 1024]⟩ .f32) (p : Vec Ideal ⟨4, ![1, 8, 8192, 256]⟩ .f32)
    (normG : Vec Ideal ⟨2, ![1, 1024]⟩ .f32) (w : Vec Ideal ⟨3, ![1, 1024, 10272]⟩ .f32)
    (lnG lnB : Vec Ideal ⟨2, ![1, 1024]⟩ .f32) (ws : Vec Ideal ⟨4, ![1, 4, 128, 128]⟩ .f32)
    (bs : Vec Ideal ⟨3, ![1, 4, 128]⟩ .f32) (convW : Vec Ideal ⟨3, ![1, 4, 3072]⟩ .f32)
    (convB : Vec Ideal ⟨2, ![1, 3072]⟩ .f32) (dtBias aLog dSkip : Vec Ideal ⟨2, ![1, 32]⟩ .f32)
    (ssmG : Vec Ideal ⟨2, ![1, 2048]⟩ .f32) (wOa : Vec Ideal ⟨3, ![1, 1024, 1024]⟩ .f32)
    (wOb : Vec Ideal ⟨3, ![1, 2048, 1024]⟩ .f32) (wOut : Vec Ideal ⟨3, ![1, 1024, 1024]⟩ .f32)
    (pleG : Vec Ideal ⟨2, ![1, 1024]⟩ .f32) (wPg : Vec Ideal ⟨3, ![1, 1024, 1024]⟩ .f32)
    (wPle : Vec Ideal ⟨3, ![1, 256, 1024]⟩ .f32) (finalG : Vec Ideal ⟨1, ![1024]⟩ .f32) : Params where
  x := nat3 fun b s d => x (ix3 b s d)
  p := nat3 fun b s d => p (ix4 0 b s d)
  normG := nat1 fun d => normG (ix2 0 d)
  w := nat2 fun k n => w (ix3 0 k n)
  lnG := nat1 fun d => lnG (ix2 0 d)
  lnB := nat1 fun d => lnB (ix2 0 d)
  ws := nat3 fun g r k => ws (ix4 0 g r k)
  bs := nat2 fun g r => bs (ix3 0 g r)
  convW := nat2 fun i l => convW (ix3 0 i l)
  convB := nat1 fun l => convB (ix2 0 l)
  dtBias := nat1 fun h => dtBias (ix2 0 h)
  aLog := nat1 fun h => aLog (ix2 0 h)
  dSkip := nat1 fun h => dSkip (ix2 0 h)
  ssmG := nat1 fun q => ssmG (ix2 0 q)
  wOa := nat2 fun k d => wOa (ix3 0 k d)
  wOb := nat2 fun k d => wOb (ix3 0 k d)
  wOut := nat2 fun k d => wOut (ix3 0 k d)
  pleG := nat1 fun d => pleG (ix2 0 d)
  wPg := nat2 fun k d => wPg (ix3 0 k d)
  wPle := nat2 fun k d => wPle (ix3 0 k d)
  finalG := nat1 fun d => finalG (ix1 d)

/-! The fields within the arrays. -/

section

variable {x : Vec Ideal ⟨3, ![8, 8192, 1024]⟩ .f32} {p : Vec Ideal ⟨4, ![1, 8, 8192, 256]⟩ .f32}
    {normG : Vec Ideal ⟨2, ![1, 1024]⟩ .f32} {w : Vec Ideal ⟨3, ![1, 1024, 10272]⟩ .f32}
    {lnG lnB : Vec Ideal ⟨2, ![1, 1024]⟩ .f32} {ws : Vec Ideal ⟨4, ![1, 4, 128, 128]⟩ .f32}
    {bs : Vec Ideal ⟨3, ![1, 4, 128]⟩ .f32} {convW : Vec Ideal ⟨3, ![1, 4, 3072]⟩ .f32}
    {convB : Vec Ideal ⟨2, ![1, 3072]⟩ .f32} {dtBias aLog dSkip : Vec Ideal ⟨2, ![1, 32]⟩ .f32}
    {ssmG : Vec Ideal ⟨2, ![1, 2048]⟩ .f32} {wOa : Vec Ideal ⟨3, ![1, 1024, 1024]⟩ .f32}
    {wOb : Vec Ideal ⟨3, ![1, 2048, 1024]⟩ .f32} {wOut : Vec Ideal ⟨3, ![1, 1024, 1024]⟩ .f32}
    {pleG : Vec Ideal ⟨2, ![1, 1024]⟩ .f32} {wPg : Vec Ideal ⟨3, ![1, 1024, 1024]⟩ .f32}
    {wPle : Vec Ideal ⟨3, ![1, 256, 1024]⟩ .f32} {finalG : Vec Ideal ⟨1, ![1024]⟩ .f32}

/-- The input, as entries of the argument. -/
theorem par_x {i j k : ℕ} (hi : i < 8) (hj : j < 8192) (hk : k < 1024) :
    (par x p normG w lnG lnB ws bs convW convB dtBias aLog dSkip ssmG wOa wOb wOut pleG wPg wPle finalG).x i j k = x (ix3 ⟨i, hi⟩ ⟨j, hj⟩ ⟨k, hk⟩) := nat3_lt (fun i j k => x (ix3 i j k)) hi hj hk
/-- The per-layer inputs, as entries of the argument. -/
theorem par_p {i j k : ℕ} (hi : i < 8) (hj : j < 8192) (hk : k < 256) :
    (par x p normG w lnG lnB ws bs convW convB dtBias aLog dSkip ssmG wOa wOb wOut pleG wPg wPle finalG).p i j k = p (ix4 0 ⟨i, hi⟩ ⟨j, hj⟩ ⟨k, hk⟩) := nat3_lt (fun i j k => p (ix4 0 i j k)) hi hj hk
/-- The gain of the first norm, as entries of the argument. -/
theorem par_normG {i : ℕ} (hi : i < 1024) :
    (par x p normG w lnG lnB ws bs convW convB dtBias aLog dSkip ssmG wOa wOb wOut pleG wPg wPle finalG).normG i = normG (ix2 0 ⟨i, hi⟩) := nat1_lt (fun i => normG (ix2 0 i)) hi
/-- The projection weights, as entries of the argument. -/
theorem par_w {i j : ℕ} (hi : i < 1024) (hj : j < 10272) :
    (par x p normG w lnG lnB ws bs convW convB dtBias aLog dSkip ssmG wOa wOb wOut pleG wPg wPle finalG).w i j = w (ix3 0 ⟨i, hi⟩ ⟨j, hj⟩) := nat2_lt (fun i j => w (ix3 0 i j)) hi hj
/-- The gain of the layer norm, as entries of the argument. -/
theorem par_lnG {i : ℕ} (hi : i < 1024) :
    (par x p normG w lnG lnB ws bs convW convB dtBias aLog dSkip ssmG wOa wOb wOut pleG wPg wPle finalG).lnG i = lnG (ix2 0 ⟨i, hi⟩) := nat1_lt (fun i => lnG (ix2 0 i)) hi
/-- The bias of the layer norm, as entries of the argument. -/
theorem par_lnB {i : ℕ} (hi : i < 1024) :
    (par x p normG w lnG lnB ws bs convW convB dtBias aLog dSkip ssmG wOa wOb wOut pleG wPg wPle finalG).lnB i = lnB (ix2 0 ⟨i, hi⟩) := nat1_lt (fun i => lnB (ix2 0 i)) hi
/-- The position weights, as entries of the argument. -/
theorem par_ws {i j k : ℕ} (hi : i < 4) (hj : j < 128) (hk : k < 128) :
    (par x p normG w lnG lnB ws bs convW convB dtBias aLog dSkip ssmG wOa wOb wOut pleG wPg wPle finalG).ws i j k = ws (ix4 0 ⟨i, hi⟩ ⟨j, hj⟩ ⟨k, hk⟩) := nat3_lt (fun i j k => ws (ix4 0 i j k)) hi hj hk
/-- The position biases, as entries of the argument. -/
theorem par_bs {i j : ℕ} (hi : i < 4) (hj : j < 128) :
    (par x p normG w lnG lnB ws bs convW convB dtBias aLog dSkip ssmG wOa wOb wOut pleG wPg wPle finalG).bs i j = bs (ix3 0 ⟨i, hi⟩ ⟨j, hj⟩) := nat2_lt (fun i j => bs (ix3 0 i j)) hi hj
/-- The convolution weights, as entries of the argument. -/
theorem par_convW {i j : ℕ} (hi : i < 4) (hj : j < 3072) :
    (par x p normG w lnG lnB ws bs convW convB dtBias aLog dSkip ssmG wOa wOb wOut pleG wPg wPle finalG).convW i j = convW (ix3 0 ⟨i, hi⟩ ⟨j, hj⟩) := nat2_lt (fun i j => convW (ix3 0 i j)) hi hj
/-- The convolution bias, as entries of the argument. -/
theorem par_convB {i : ℕ} (hi : i < 3072) :
    (par x p normG w lnG lnB ws bs convW convB dtBias aLog dSkip ssmG wOa wOb wOut pleG wPg wPle finalG).convB i = convB (ix2 0 ⟨i, hi⟩) := nat1_lt (fun i => convB (ix2 0 i)) hi
/-- The step biases, as entries of the argument. -/
theorem par_dtBias {i : ℕ} (hi : i < 32) :
    (par x p normG w lnG lnB ws bs convW convB dtBias aLog dSkip ssmG wOa wOb wOut pleG wPg wPle finalG).dtBias i = dtBias (ix2 0 ⟨i, hi⟩) := nat1_lt (fun i => dtBias (ix2 0 i)) hi
/-- The logarithms of the decay rates, as entries of the argument. -/
theorem par_aLog {i : ℕ} (hi : i < 32) :
    (par x p normG w lnG lnB ws bs convW convB dtBias aLog dSkip ssmG wOa wOb wOut pleG wPg wPle finalG).aLog i = aLog (ix2 0 ⟨i, hi⟩) := nat1_lt (fun i => aLog (ix2 0 i)) hi
/-- The skip weights, as entries of the argument. -/
theorem par_dSkip {i : ℕ} (hi : i < 32) :
    (par x p normG w lnG lnB ws bs convW convB dtBias aLog dSkip ssmG wOa wOb wOut pleG wPg wPle finalG).dSkip i = dSkip (ix2 0 ⟨i, hi⟩) := nat1_lt (fun i => dSkip (ix2 0 i)) hi
/-- The gain of the grouped norm, as entries of the argument. -/
theorem par_ssmG {i : ℕ} (hi : i < 2048) :
    (par x p normG w lnG lnB ws bs convW convB dtBias aLog dSkip ssmG wOa wOb wOut pleG wPg wPle finalG).ssmG i = ssmG (ix2 0 ⟨i, hi⟩) := nat1_lt (fun i => ssmG (ix2 0 i)) hi
/-- The output weights of the gated branch, as entries of the argument. -/
theorem par_wOa {i j : ℕ} (hi : i < 1024) (hj : j < 1024) :
    (par x p normG w lnG lnB ws bs convW convB dtBias aLog dSkip ssmG wOa wOb wOut pleG wPg wPle finalG).wOa i j = wOa (ix3 0 ⟨i, hi⟩ ⟨j, hj⟩) := nat2_lt (fun i j => wOa (ix3 0 i j)) hi hj
/-- The output weights of the state-space branch, as entries of the argument. -/
theorem par_wOb {i j : ℕ} (hi : i < 2048) (hj : j < 1024) :
    (par x p normG w lnG lnB ws bs convW convB dtBias aLog dSkip ssmG wOa wOb wOut pleG wPg wPle finalG).wOb i j = wOb (ix3 0 ⟨i, hi⟩ ⟨j, hj⟩) := nat2_lt (fun i j => wOb (ix3 0 i j)) hi hj
/-- The output weights of the merge, as entries of the argument. -/
theorem par_wOut {i j : ℕ} (hi : i < 1024) (hj : j < 1024) :
    (par x p normG w lnG lnB ws bs convW convB dtBias aLog dSkip ssmG wOa wOb wOut pleG wPg wPle finalG).wOut i j = wOut (ix3 0 ⟨i, hi⟩ ⟨j, hj⟩) := nat2_lt (fun i j => wOut (ix3 0 i j)) hi hj
/-- The gain of the norm before the per-layer gate, as entries of the argument. -/
theorem par_pleG {i : ℕ} (hi : i < 1024) :
    (par x p normG w lnG lnB ws bs convW convB dtBias aLog dSkip ssmG wOa wOb wOut pleG wPg wPle finalG).pleG i = pleG (ix2 0 ⟨i, hi⟩) := nat1_lt (fun i => pleG (ix2 0 i)) hi
/-- The weights of the per-layer gate, as entries of the argument. -/
theorem par_wPg {i j : ℕ} (hi : i < 1024) (hj : j < 1024) :
    (par x p normG w lnG lnB ws bs convW convB dtBias aLog dSkip ssmG wOa wOb wOut pleG wPg wPle finalG).wPg i j = wPg (ix3 0 ⟨i, hi⟩ ⟨j, hj⟩) := nat2_lt (fun i j => wPg (ix3 0 i j)) hi hj
/-- The weights of the per-layer inputs, as entries of the argument. -/
theorem par_wPle {i j : ℕ} (hi : i < 256) (hj : j < 1024) :
    (par x p normG w lnG lnB ws bs convW convB dtBias aLog dSkip ssmG wOa wOb wOut pleG wPg wPle finalG).wPle i j = wPle (ix3 0 ⟨i, hi⟩ ⟨j, hj⟩) := nat2_lt (fun i j => wPle (ix3 0 i j)) hi hj
/-- The gain of the last norm, as entries of the argument. -/
theorem par_finalG {i : ℕ} (hi : i < 1024) :
    (par x p normG w lnG lnB ws bs convW convB dtBias aLog dSkip ssmG wOa wOb wOut pleG wPg wPle finalG).finalG i = finalG (ix1 ⟨i, hi⟩) := nat1_lt (fun i => finalG (ix1 i)) hi

end

end Cert.Layer

end
-- ==== Proof.Kernel.Reads.lean ====
/- Reading buffers back. What a buffer holds after a list of stores over given contents (`ov`), a load of it at an index,
   and the stores and loads of one block row of the convolution's buffer. -/
module

public import proofs.«01_k».proof.KernelIdeal
public import proofs.«01_k».proof.Proof.Model
public import Idealize.ShloMosaic.Lib.Pointwise
public import Idealize.ShloMosaic.Lib.Pipeline.ReadBack
public import Idealize.ShloMosaic.Lib.WholeRead

@[expose] public section

set_option maxRecDepth 16384

noncomputable section

namespace Cert.Layer

open Idealize.ShloMosaic

section General

variable {sig : RefSig} {κ : Kind} {sp : Space} {s : Shape} {e : EltTy} {Val : EltTy → Type}

/-- The contents after the stores `L` (the last one first) over the contents `x`. -/
def ov (x : s.Idx → Val e) : List (View.Piece Val s e) → s.Idx → Val e
  | [] => x
  | p :: L => p.1.overlay (ov x L) p.2

/-- Inside the last store, the contents are what it stored. -/
theorem ov_cons_emb (x : s.Idx → Val e) (r : Rect s) (w : r.shape.Idx → Val e) (L : List (View.Piece Val s e))
    (j : r.shape.Idx) : ov x (⟨r, w⟩ :: L) (r.emb j) = w j := r.overlay_emb _ _ j

/-- Outside the last store, the contents are those before it. -/
theorem ov_cons_of_not_mem (x : s.Idx → Val e) (p : View.Piece Val s e) (L : List (View.Piece Val s e)) {y : s.Idx}
    (h : y ∉ p.1.set) : ov x (p :: L) y = ov x L y := p.1.overlay_of_not_mem _ _ h

/-- Where nothing is known of the contents before the stores, they are the arbitrary contents. -/
theorem canon_eq_ov [∀ e, Nonempty (Val e)] (L : List (View.Piece Val s e)) :
    View.canon L = ov (fun _ => Classical.arbitrary _) L := by
  induction L with
  | nil => rfl
  | cons p L ih => rw [View.canon_cons, ih]; rfl

/-- A load from a buffer written over unknown contents. -/
theorem readCov_eq_ov [∀ e, Nonempty (Val e)] (v : View sig κ sp s e) (L : List (View.Piece Val s e)) (B : LoadRect s) :
    v.readCov L B = fun j => ov (fun _ => Classical.arbitrary _) L (B.idx j) := by
  rw [View.readCov_eq_canon', canon_eq_ov]

/-- The stores over contents `x` read as the overlay over `x`. -/
theorem read_writes_eq_ov {m : Memref sig κ sp s e} (h : m.IsWhole) (x : s.Idx → Val e) (y : s.Idx) :
    ∀ L : List (View.Piece Val s e), m.view.read Val (m.view.writes Val (h.unread x) L) y = ov x L y
  | [] => by rw [View.writes_nil, h.read_unread]; rfl
  | p :: L => by
    by_cases hy : y ∈ p.1.set
    · obtain ⟨r, w⟩ := p
      obtain ⟨j, rfl⟩ : ∃ j, r.emb j = y := r.exists_idx_of_mem hy
      rw [View.read_writes_cons_emb, ov_cons_emb]
    · have hy' : y ∉ Finset.univ.map p.1.emb := by rwa [Rect.map_emb_univ]
      rw [View.writes_cons, View.read_slice_write_of_not_mem p.1 _ _ _ hy', ov_cons_of_not_mem x p L hy]
      exact read_writes_eq_ov h x y L

/-- A load from a buffer written over contents `x`. -/
theorem readAt_writes_eq_ov {m : Memref sig κ sp s e} (h : m.IsWhole) (x : s.Idx → Val e) (L : List (View.Piece Val s e))
    (B : LoadRect s) : m.view.readAt Val B (m.view.writes Val (h.unread x) L) = fun j => ov x L (B.idx j) := by
  funext j
  rw [View.readAt_apply, read_writes_eq_ov h x]

/-- A load from a buffer that holds `x`. -/
theorem readAt_unread_eq {m : Memref sig κ sp s e} (h : m.IsWhole) (x : s.Idx → Val e) (B : LoadRect s) :
    m.view.readAt Val B (h.unread x) = fun j => x (B.idx j) := by
  funext j
  exact h.readAt_unread x B j

end General

end Cert.Layer

end
-- ==== Proof.Kernel.Conv.lean ====
/- The convolution, one block of 128 channels at a time: the kernel stores a block's projection below the eight rows kept
   from the tile before, overwrites the second half and then the first half of it with the convolution's outputs, each
   from shifted loads, and keeps the projection's last eight rows. Here is what the buffer holds after a block, and after
   all blocks. -/
module

public import proofs.«01_k».proof.Proof.Kernel.Reads

@[expose] public section

set_option maxRecDepth 16384

noncomputable section

namespace Cert.Layer

open Idealize.ShloMosaic Cert.KernelIdeal

/-- A box of one block of the buffer: `n` rows from row `o`, all lanes. -/
abbrev box3 (k o n : ℕ) (inb : ∀ a, (![k, o, 0] : Fin 3 → ℕ) a + (![1, n, 128] : Fin 3 → ℕ) a ≤ S24x264x128.size a) :
    Rect S24x264x128 := Rect.unit ![k, o, 0] ![1, n, 128] inb

/-- The index of the buffer that a box's index names. -/
theorem box3_idx (k o n : ℕ) (inb) (z : Fin 1) (r : Fin n) (l : Fin 128) (hk : k < 24) (hr : o + r < 264) :
    (box3 k o n inb).toLoadRect.idx (ix3 z r l) = ix3 ⟨k, hk⟩ ⟨o + r, hr⟩ l := by
  funext a
  fin_cases a
  · exact Fin.ext (by show k + 1 * z.val = k; omega)
  · exact Fin.ext (by show o + 1 * r.val = o + r; omega)
  · exact Fin.ext (by show 0 + 1 * l.val = l; omega)

/-- Contents after a store to a box: its payload inside the box, the earlier contents outside. -/
theorem ov_box (x : S24x264x128.Idx → EReal) (k o n : ℕ) (inb) (w : (box3 k o n inb).shape.Idx → EReal)
    (L : List (View.Piece (Elt Ideal) S24x264x128 .f32)) (a : Fin 24) (r : Fin 264) (l : Fin 128) :
    ov (Val := Elt Ideal) (e := .f32) x (⟨box3 k o n inb, w⟩ :: L) (ix3 a r l)
      = if h : (a : ℕ) = k ∧ o ≤ (r : ℕ) ∧ (r : ℕ) < o + n then w (ix3 (0 : Fin 1) ⟨r - o, by omega⟩ l)
        else ov (Val := Elt Ideal) (e := .f32) x L (ix3 a r l) := by
  split
  · next h =>
    have e : (box3 k o n inb).emb (ix3 (0 : Fin 1) (⟨r - o, by omega⟩ : Fin n) l) = ix3 a r l := by
      funext c
      fin_cases c
      · exact Fin.ext (by show k + 1 * 0 = a.val; omega)
      · exact Fin.ext (by show o + 1 * (r.val - o) = r.val; omega)
      · exact Fin.ext (by show 0 + 1 * l.val = l.val; omega)
    rw [← e]
    exact ov_cons_emb (Val := Elt Ideal) (e := .f32) x _ w L _
  · next h =>
    refine ov_cons_of_not_mem (Val := Elt Ideal) (e := .f32) x _ L fun hm => h ?_
    have hm := (Rect.mem_set_unit (inb := inb)).mp hm
    have h0 := hm 0
    have h1 := hm 1
    have e0 : k ≤ a.val ∧ a.val < k + 1 := h0
    have e1 : o ≤ r.val ∧ r.val < o + n := h1
    omega

/-- Zero less a number is its negative. -/
theorem zero_sub' (v : EReal) : 0 - v = -v := by rw [sub_eq_add_neg, zero_add]

/-- A half of a block's convolution: 128 rows, from row `o` of the projection and three shifted loads. -/
def convV (raw : FVec Ideal S256x128 .f32) (o : ℕ) (hs : S256x128.Slices ![o, 0] S128x128)
    (bb w3 w0 w1 w2 : Vec Ideal S1x128 .f32) (t0 t1 t2 : Vec Ideal S1x128x128 .f32)
    (c1 : S1x128.ShapeCasts S1x128) (c2 : S1x128x128.ShapeCasts S128x128) (c3 : S128x128.ShapeCasts S1x128x128)
    (b1 : S1x128.Broadcasts S128x128) : FVec Ideal S1x128x128 .f32 :=
  let v := addf (addf (addf (addf (broadcastTo S128x128 (shapeCast S1x128 bb c1) b1)
      (mulf (broadcastTo S128x128 (shapeCast S1x128 w3 c1) b1) (extractStridedSlice S128x128 ![o, 0] raw hs)))
      (mulf (broadcastTo S128x128 (shapeCast S1x128 w0 c1) b1) (shapeCast S128x128 t0 c2)))
      (mulf (broadcastTo S128x128 (shapeCast S1x128 w1 c1) b1) (shapeCast S128x128 t1 c2)))
      (mulf (broadcastTo S128x128 (shapeCast S1x128 w2 c1) b1) (shapeCast S128x128 t2 c2))
  shapeCast S1x128x128 (mulf v (divf (broadcast S128x128 (Scalar.ofBits .f32 0x3F800000#32))
    (addf (broadcast S128x128 (Scalar.ofBits .f32 0x3F800000#32))
      (exp (subf (broadcast S128x128 (Scalar.ofBits .f32 0x00000000#32)) v))))) c3

/-- An entry of the convolved rows: the bias and the four shifted products, through `silu`. -/
theorem convV_apply (raw : FVec Ideal S256x128 .f32) (o : ℕ) (hs) (bb w3 w0 w1 w2 : Vec Ideal S1x128 .f32)
    (t0 t1 t2 : Vec Ideal S1x128x128 .f32) (c1 c2 c3 b1) (z : Fin 1) (r l : Fin 128) (ho : o + r < 256) :
    convV raw o hs bb w3 w0 w1 w2 t0 t1 t2 c1 c2 c3 b1 (ix3 z r l)
      = slu (bb (ix2 0 l) + w3 (ix2 0 l) * raw (ix2 ⟨o + r, ho⟩ l) + w0 (ix2 0 l) * t0 (ix3 0 r l)
        + w1 (ix2 0 l) * t1 (ix3 0 r l) + w2 (ix2 0 l) * t2 (ix3 0 r l)) := by
  unfold slu sgm
  pointwise [convV]
  rw [zero_sub']

/-- The rows of a block's projection with the eight kept rows `T` in front. -/
def xrow (T RW : ℕ → ℕ → EReal) (j l : ℕ) : EReal := if j < 8 then T j l else RW (j - 8) l

/-- One output of the convolution from the block's rows, the bias and the weights. -/
def cvOut (T RW : ℕ → ℕ → EReal) (cb : ℕ → EReal) (cw : ℕ → ℕ → EReal) (r l : ℕ) : EReal :=
  slu (cb l + cw 3 l * RW r l + cw 0 l * xrow T RW (r + 5) l + cw 1 l * xrow T RW (r + 6) l
    + cw 2 l * xrow T RW (r + 7) l)

/-- What a block of the buffer holds when it is done: the projection's last rows, then the convolution's outputs. -/
def blkOut (T RW : ℕ → ℕ → EReal) (cb : ℕ → EReal) (cw : ℕ → ℕ → EReal) (r l : ℕ) : EReal :=
  if r < 8 then RW (248 + r) l else cvOut T RW cb cw (r - 8) l

/-- A block of the buffer, from the four stores that the body makes to it. The loads of the second half see the
    projection alone, those of the first half also the eight kept rows. -/
theorem conv_block {sg : RefSig} {κ : Kind} {sp : Space} (v : View sg κ sp S24x264x128 .f32)
    (x : S24x264x128.Idx → EReal)
    (rd : List (View.Piece (Elt Ideal) S24x264x128 .f32) → (B : LoadRect S24x264x128) → B.shape.Idx → EReal)
    (hrd : ∀ L B, rd L B = fun j => ov (Val := Elt Ideal) (e := .f32) x L (B.idx j))
    (L : List (View.Piece (Elt Ideal) S24x264x128 .f32)) (k : ℕ) (hk : k < 24)
    (T RW : ℕ → ℕ → EReal) (cb : ℕ → EReal) (cw : ℕ → ℕ → EReal)
    (hT : ∀ (r : Fin 264) (l : Fin 128), (r : ℕ) < 8 → ov (Val := Elt Ideal) (e := .f32) x L (ix3 ⟨k, hk⟩ r l) = T r l)
    (raw : FVec Ideal S256x128 .f32) (hraw : ∀ (r : Fin 256) (l : Fin 128), raw (ix2 r l) = RW r l)
    (bb w3 w0 w1 w2 bb' w3' w0' w1' w2' : Vec Ideal S1x128 .f32)
    (hbb : ∀ l : Fin 128, bb (ix2 0 l) = cb l) (hw3 : ∀ l : Fin 128, w3 (ix2 0 l) = cw 3 l)
    (hw0 : ∀ l : Fin 128, w0 (ix2 0 l) = cw 0 l) (hw1 : ∀ l : Fin 128, w1 (ix2 0 l) = cw 1 l)
    (hw2 : ∀ l : Fin 128, w2 (ix2 0 l) = cw 2 l)
    (hbb' : ∀ l : Fin 128, bb' (ix2 0 l) = cb l) (hw3' : ∀ l : Fin 128, w3' (ix2 0 l) = cw 3 l)
    (hw0' : ∀ l : Fin 128, w0' (ix2 0 l) = cw 0 l) (hw1' : ∀ l : Fin 128, w1' (ix2 0 l) = cw 1 l)
    (hw2' : ∀ l : Fin 128, w2' (ix2 0 l) = cw 2 l)
    (hs8 : S256x128.Slices ![248, 0] S8x128) (hs128 : S256x128.Slices ![128, 0] S128x128)
    (hs0 : S256x128.Slices ![0, 0] S128x128) (c0 : S256x128.ShapeCasts S1x256x128) (c8 : S8x128.ShapeCasts S1x8x128)
    (c1 c2 c3 b1) (i0 i1 i2 i3 i5 i6 i7 j5 j6 j7)
    (L1 L2 L4 : List (View.Piece (Elt Ideal) S24x264x128 .f32))
    (e1 : L1 = ⟨box3 k 8 256 i1, shapeCast S1x256x128 raw c0⟩ :: L)
    (e2 : L2 = ⟨box3 k 136 128 i2, convV raw 128 hs128 bb w3 w0 w1 w2 (v.readCov L1 (box3 k 133 128 i5).toLoadRect)
      (v.readCov L1 (box3 k 134 128 i6).toLoadRect) (v.readCov L1 (box3 k 135 128 i7).toLoadRect) c1 c2 c3 b1⟩ :: L1)
    (e4 : L4 = ⟨box3 k 0 8 i0, shapeCast S1x8x128 (extractStridedSlice S8x128 ![248, 0] raw hs8) c8⟩
      :: ⟨box3 k 8 128 i3, convV raw 0 hs0 bb' w3' w0' w1' w2' (rd L2 (box3 k 5 128 j5).toLoadRect)
        (rd L2 (box3 k 6 128 j6).toLoadRect) (rd L2 (box3 k 7 128 j7).toLoadRect) c1 c2 c3 b1⟩ :: L2) :
    (∀ y (r : Fin 264) (l : Fin 128), ov (Val := Elt Ideal) (e := .f32) y L4 (ix3 ⟨k, hk⟩ r l) = blkOut T RW cb cw r l)
    ∧ ∀ y (a : Fin 24) (r : Fin 264) (l : Fin 128), (a : ℕ) ≠ k →
      ov (Val := Elt Ideal) (e := .f32) y L4 (ix3 a r l) = ov (Val := Elt Ideal) (e := .f32) y L (ix3 a r l) := by
  have h1 : ∀ y (r : Fin 264) (l : Fin 128), 8 ≤ (r : ℕ) →
      ov (Val := Elt Ideal) (e := .f32) y L1 (ix3 ⟨k, hk⟩ r l) = RW (r - 8) l := by
    intro y r l hr
    subst e1
    rw [ov_box, dif_pos ⟨rfl, hr, by omega⟩, ← hraw ⟨r - 8, by omega⟩ l]
    pointwise []
  have hx : ∀ (r : Fin 264) (l : Fin 128),
      ov (Val := Elt Ideal) (e := .f32) x L1 (ix3 ⟨k, hk⟩ r l) = xrow T RW r l := by
    intro r l
    unfold xrow
    split
    · next h => subst e1; rw [ov_box, dif_neg (by omega), hT r l h]
    · next h => exact h1 x r l (by omega)
  have hi : ∀ (o : ℕ) (i) (r : Fin 128) (l : Fin 128) (_ : 8 ≤ o) (_ : o + r < 264),
      v.readCov L1 (box3 k o 128 i).toLoadRect (ix3 0 r l) = xrow T RW (o + r) l := by
    intro o i r l ho hr
    rw [readCov_eq_ov]
    show ov _ L1 ((box3 k o 128 i).toLoadRect.idx (ix3 0 r l)) = _
    rw [box3_idx k o 128 i 0 r l hk hr, h1 _ _ _ (by show 8 ≤ o + r.val; omega)]
    unfold xrow
    rw [if_neg (by omega)]
  have hlo : ∀ (o : ℕ) (i) (r : Fin 128) (l : Fin 128) (_ : o + r < 136),
      rd L2 (box3 k o 128 i).toLoadRect (ix3 0 r l) = xrow T RW (o + r) l := by
    intro o i r l hr
    rw [hrd]
    show ov (Val := Elt Ideal) (e := .f32) x L2 ((box3 k o 128 i).toLoadRect.idx (ix3 0 r l)) = _
    rw [box3_idx k o 128 i 0 r l hk (by omega)]
    refine Eq.trans ?_ (hx ⟨o + r, by omega⟩ l)
    subst e2
    rw [ov_box, dif_neg (by show ¬ (k = k ∧ 136 ≤ o + r.val ∧ _); omega)]
  have x8 : ∀ r : ℕ, ∀ l : ℕ, xrow T RW (r + 8) l = RW r l := fun r l => by
    unfold xrow; rw [if_neg (by omega), Nat.add_sub_cancel]
  constructor
  · intro y r l
    unfold blkOut
    subst e4
    by_cases h8 : (r : ℕ) < 8
    · rw [if_pos h8, ov_box, dif_pos ⟨rfl, by omega, by omega⟩, ← hraw ⟨248 + r, by omega⟩ l]
      pointwise []
    rw [if_neg h8, ov_box, dif_neg (by omega), ov_box]
    by_cases h136 : (r : ℕ) < 136
    · rw [dif_pos ⟨rfl, by omega, by omega⟩, convV_apply _ _ _ _ _ _ _ _ _ _ _ _ _ _ _ _ _ _ (by show 0 + (r.val - 8) < 256; omega),
        hbb', hw3', hw0', hw1', hw2', hraw, hlo _ _ _ _ (by show 5 + (r.val - 8) < 136; omega),
        hlo _ _ _ _ (by show 6 + (r.val - 8) < 136; omega), hlo _ _ _ _ (by show 7 + (r.val - 8) < 136; omega)]
      unfold cvOut
      simp only [Nat.zero_add, Nat.add_comm (r.val - 8)]
    · rw [dif_neg (by omega)]
      subst e2
      rw [ov_box, dif_pos ⟨rfl, by omega, by omega⟩, convV_apply _ _ _ _ _ _ _ _ _ _ _ _ _ _ _ _ _ _ (by show 128 + (r.val - 136) < 256; omega),
        hbb, hw3, hw0, hw1, hw2, hraw, hi _ _ _ _ (by omega) (by show 133 + (r.val - 136) < 264; omega),
        hi _ _ _ _ (by omega) (by show 134 + (r.val - 136) < 264; omega), hi _ _ _ _ (by omega) (by show 135 + (r.val - 136) < 264; omega)]
      unfold cvOut
      have a0 : 128 + ((r : ℕ) - 136) = r - 8 := by omega
      have a5 : 133 + ((r : ℕ) - 136) = r - 8 + 5 := by omega
      have a6 : 134 + ((r : ℕ) - 136) = r - 8 + 6 := by omega
      have a7 : 135 + ((r : ℕ) - 136) = r - 8 + 7 := by omega
      simp only [a0, a5, a6, a7]
  · intro y a r l ha
    subst e4; rw [ov_box, dif_neg (by omega), ov_box, dif_neg (by omega)]
    subst e2; rw [ov_box, dif_neg (by omega)]
    subst e1; rw [ov_box, dif_neg (by omega)]

/-- The first `k` blocks of the buffer are done, the others still hold the rows `T` that the buffer, with contents `x`,
    had before. -/
def Done (x : S24x264x128.Idx → EReal) (T : ℕ → ℕ → ℕ → EReal) (RW : ℕ → ℕ → EReal) (cb : ℕ → EReal) (cw : ℕ → ℕ → EReal)
    (k : ℕ) (L : List (View.Piece (Elt Ideal) S24x264x128 .f32)) : Prop :=
  (∀ y (a : Fin 24) (r : Fin 264) (l : Fin 128), (a : ℕ) < k → ov (Val := Elt Ideal) (e := .f32) y L (ix3 a r l)
    = blkOut (T a) (fun r l => RW r (128 * a + l)) (fun l => cb (128 * a + l)) (fun i l => cw i (128 * a + l)) r l)
  ∧ ∀ (a : Fin 24) (r : Fin 264) (l : Fin 128), k ≤ (a : ℕ) → (r : ℕ) < 8 →
    ov (Val := Elt Ideal) (e := .f32) x L (ix3 a r l) = T a r l

/-- A load of 128 lanes of one row. -/
theorem row_read {sg : RefSig} {κ : Kind} {sp : Space} {e : EltTy} {n c : ℕ} (m : Memref sg κ sp ⟨2, ![n, c]⟩ e) (h : m.IsWhole)
    (x : Vec Ideal ⟨2, ![n, c]⟩ e) (i o : ℕ) (ib) (l : Fin 128) (hi : i < n) (ho : o + l < c) :
    m.view.readAt (Elt Ideal) (Rect.unit (s := ⟨2, ![n, c]⟩) ![i, o] ![1, 128] ib).toLoadRect (h.unread x) (ix2 (0 : Fin 1) l)
      = x (ix2 ⟨i, hi⟩ ⟨o + l, ho⟩) := by
  rw [readAt_unread_eq]
  show x ((Rect.unit (s := ⟨2, ![n, c]⟩) ![i, o] ![1, 128] ib).toLoadRect.idx (ix2 (0 : Fin 1) l)) = _
  congr 1
  funext a
  fin_cases a
  · exact Fin.ext (by show i + 1 * 0 = i; omega)
  · exact Fin.ext (by show o + 1 * l.val = o + l.val; omega)

/-- One more block: its projection is a part of `pr`, its bias and weights are loaded from their arrays. -/
theorem conv_step {sg : RefSig} {κ : Kind} {sp : Space} {v : View sg κ sp S24x264x128 .f32}
    {x : S24x264x128.Idx → EReal}
    (rd : List (View.Piece (Elt Ideal) S24x264x128 .f32) → (B : LoadRect S24x264x128) → B.shape.Idx → EReal)
    (hrd : ∀ L B, rd L B = fun j => ov (Val := Elt Ideal) (e := .f32) x L (B.idx j))
    {T : ℕ → ℕ → ℕ → EReal} {RW : ℕ → ℕ → EReal} {cb : ℕ → EReal} {cw : ℕ → ℕ → EReal}
    {sp1 sp2 : Space} {mb : Memref sg κ sp1 S1x3072 .f32} {hb : mb.IsWhole} {xb : Vec Ideal S1x3072 .f32}
    {mw : Memref sg κ sp2 S4x3072 .f32} {hw : mw.IsWhole} {xw : Vec Ideal S4x3072 .f32}
    (hxb : ∀ l : Fin 3072, xb (ix2 0 l) = cb l) (hxw : ∀ (i : Fin 4) (l : Fin 3072), xw (ix2 i l) = cw i l)
    {L L1 L2 L4 : List (View.Piece (Elt Ideal) S24x264x128 .f32)} {k : ℕ} {pr : FVec Ideal S256x512 .f32} {o : ℕ}
    {hs8 : S256x128.Slices ![248, 0] S8x128} {hs128 : S256x128.Slices ![128, 0] S128x128}
    {hs0 : S256x128.Slices ![0, 0] S128x128} {c0 : S256x128.ShapeCasts S1x256x128} {c8 : S8x128.ShapeCasts S1x8x128}
    {c1 c2 c3 b1 i0 i1 i2 i3 i5 i6 i7 j5 j6 j7 q0 q1 q2 q3 qb} {hso : S256x512.Slices ![0, o] S256x128}
    (e4 : L4 = ⟨box3 k 0 8 i0, shapeCast S1x8x128 (extractStridedSlice S8x128 ![248, 0]
        (extractStridedSlice S256x128 ![0, o] pr hso) hs8) c8⟩
      :: ⟨box3 k 8 128 i3, convV (extractStridedSlice S256x128 ![0, o] pr hso) 0 hs0
        (mb.view.readAt (Elt Ideal) (Rect.unit (s := S1x3072) ![0, 128 * k] ![1, 128] qb).toLoadRect (hb.unread xb))
        (mw.view.readAt (Elt Ideal) (Rect.unit (s := S4x3072) ![3, 128 * k] ![1, 128] q3).toLoadRect (hw.unread xw))
        (mw.view.readAt (Elt Ideal) (Rect.unit (s := S4x3072) ![0, 128 * k] ![1, 128] q0).toLoadRect (hw.unread xw))
        (mw.view.readAt (Elt Ideal) (Rect.unit (s := S4x3072) ![1, 128 * k] ![1, 128] q1).toLoadRect (hw.unread xw))
        (mw.view.readAt (Elt Ideal) (Rect.unit (s := S4x3072) ![2, 128 * k] ![1, 128] q2).toLoadRect (hw.unread xw))
        (rd L2 (box3 k 5 128 j5).toLoadRect)
        (rd L2 (box3 k 6 128 j6).toLoadRect) (rd L2 (box3 k 7 128 j7).toLoadRect) c1 c2 c3 b1⟩ :: L2)
    (e2 : L2 = ⟨box3 k 136 128 i2, convV (extractStridedSlice S256x128 ![0, o] pr hso) 128 hs128
        (mb.view.readAt (Elt Ideal) (Rect.unit (s := S1x3072) ![0, 128 * k] ![1, 128] qb).toLoadRect (hb.unread xb))
        (mw.view.readAt (Elt Ideal) (Rect.unit (s := S4x3072) ![3, 128 * k] ![1, 128] q3).toLoadRect (hw.unread xw))
        (mw.view.readAt (Elt Ideal) (Rect.unit (s := S4x3072) ![0, 128 * k] ![1, 128] q0).toLoadRect (hw.unread xw))
        (mw.view.readAt (Elt Ideal) (Rect.unit (s := S4x3072) ![1, 128 * k] ![1, 128] q1).toLoadRect (hw.unread xw))
        (mw.view.readAt (Elt Ideal) (Rect.unit (s := S4x3072) ![2, 128 * k] ![1, 128] q2).toLoadRect (hw.unread xw))
        (v.readCov L1 (box3 k 133 128 i5).toLoadRect)
        (v.readCov L1 (box3 k 134 128 i6).toLoadRect) (v.readCov L1 (box3 k 135 128 i7).toLoadRect) c1 c2 c3 b1⟩ :: L1)
    (e1 : L1 = ⟨box3 k 8 256 i1, shapeCast S1x256x128 (extractStridedSlice S256x128 ![0, o] pr hso) c0⟩ :: L)
    (hk : k < 24) (ho : o + 128 ≤ 512)
    (hpr : ∀ (r : Fin 256) (l : Fin 512), pr (ix2 r l) = RW r (128 * k - o + l)) (hko : o ≤ 128 * k)
    (hL : Done x T RW cb cw k L) : Done x T RW cb cw (k + 1) L4 := by
  have hw' : ∀ (i : ℕ) (q) (l : Fin 128), i < 4 →
      mw.view.readAt (Elt Ideal) (Rect.unit (s := S4x3072) ![i, 128 * k] ![1, 128] q).toLoadRect (hw.unread xw) (ix2 (0 : Fin 1) l)
        = cw i (128 * k + l) := fun i q l hi => by
    rw [row_read mw hw xw i _ q l hi (by omega), hxw]
  have hb' : ∀ l : Fin 128,
      mb.view.readAt (Elt Ideal) (Rect.unit (s := S1x3072) ![0, 128 * k] ![1, 128] qb).toLoadRect (hb.unread xb) (ix2 (0 : Fin 1) l)
        = cb (128 * k + l) := fun l => by
    rw [row_read mb hb xb 0 _ qb l (by omega) (by omega)]
    exact hxb ⟨128 * k + l, by omega⟩
  have hraw : ∀ (r : Fin 256) (l : Fin 128), extractStridedSlice S256x128 ![0, o] pr hso (ix2 r l) = RW r (128 * k + l) := by
    intro r l
    pointwise []
    rw [hpr]
    congr 1
    show 128 * k - o + (o + l.val) = _
    omega
  have := conv_block v x rd hrd L k hk (T k) (fun r l => RW r (128 * k + l)) (fun l => cb (128 * k + l))
    (fun i l => cw i (128 * k + l)) (fun r l hr => hL.2 ⟨k, hk⟩ r l le_rfl hr) _ hraw _ _ _ _ _ _ _ _ _ _
    hb' (fun l => hw' 3 q3 l (by omega)) (fun l => hw' 0 q0 l (by omega)) (fun l => hw' 1 q1 l (by omega))
    (fun l => hw' 2 q2 l (by omega)) hb' (fun l => hw' 3 q3 l (by omega)) (fun l => hw' 0 q0 l (by omega))
    (fun l => hw' 1 q1 l (by omega)) (fun l => hw' 2 q2 l (by omega)) hs8 hs128 hs0 c0 c8 c1 c2 c3 b1 i0 i1 i2 i3 i5 i6 i7
    j5 j6 j7 L1 L2 L4 e1 e2 e4
  constructor
  · intro y a r l ha
    by_cases h : (a : ℕ) = k
    · obtain ⟨a, ha'⟩ := a
      subst h
      exact this.1 y r l
    · rw [this.2 y a r l h]
      exact hL.1 y a r l (by omega)
  · intro a r l ha hr
    rw [this.2 x a r l (by omega)]
    exact hL.2 a r l (by omega) hr

end Cert.Layer

end
-- ==== Proof.Numbers.lean ====
/- Facts of extended real numbers that the layer's two forms need: sums with `⊥` among their terms, the exponential's
   bounds and products, and the signs of the step sizes and of the logarithms of the decays. -/
module

public import proofs.«01_k».proof.Proof.Model

@[expose] public section

noncomputable section

namespace Cert.Layer

open Idealize.ShloMosaic

/-- A sum with a term `⊥` is `⊥`. -/
theorem sum_bot {n : ℕ} (f : Fin n → EReal) (k : Fin n) (h : f k = ⊥) : ∑ k, f k = ⊥ := by
  rw [← Finset.add_sum_erase _ _ (Finset.mem_univ k), h, EReal.bot_add]

/-- Numbers that are not positive, in three parts: the parts after the first add nothing. -/
theorem three_parts {n : ℕ} (f : Fin n → EReal) (h : ∀ k, f k ≤ 0) :
    ∑ k, f k + ∑ k, (f k - f k) + ∑ k, (f k - f k - (f k - f k)) = ∑ k, f k := by
  by_cases hb : ∃ k, f k = ⊥
  · obtain ⟨k, hk⟩ := hb
    rw [sum_bot f k hk, EReal.bot_add, EReal.bot_add]
  · have hz : ∀ k, f k - f k = 0 := fun k =>
      EReal.sub_self (fun ht => absurd (h k) (by rw [ht]; simp)) (fun hk => hb ⟨k, hk⟩)
    simp only [hz, sub_zero, Finset.sum_const_zero, add_zero]

/-- An exponential is nonnegative. -/
theorem exp_nonneg (v : EReal) : 0 ≤ Ideal.exp v := by
  induction v using EReal.rec with
  | bot => simp
  | top => simp
  | coe r => rw [Ideal.exp_coe]; exact_mod_cast (Real.exp_pos r).le

/-- The exponential of a nonpositive number is not infinite. -/
theorem exp_ne_top {v : EReal} (h : v ≤ 0) : Ideal.exp v ≠ ⊤ := by
  induction v using EReal.rec with
  | bot => simp
  | top => simp at h
  | coe r => rw [Ideal.exp_coe]; exact EReal.coe_ne_top _

/-- The exponential of a sum of numbers that are not positive. -/
theorem exp_add {u v : EReal} (hu : u ≤ 0) (hv : v ≤ 0) : Ideal.exp (u + v) = Ideal.exp u * Ideal.exp v := by
  induction u using EReal.rec with
  | bot => rw [EReal.bot_add, Ideal.exp_bot, zero_mul]
  | top => simp at hu
  | coe r =>
    induction v using EReal.rec with
    | bot => rw [EReal.add_bot, Ideal.exp_bot, mul_zero]
    | top => simp at hv
    | coe t =>
      rw [← EReal.coe_add, Ideal.exp_coe, Ideal.exp_coe, Ideal.exp_coe, Real.exp_add, EReal.coe_mul]

/-- `log (1 + v)` is nonnegative for nonnegative `v`. -/
theorem log1p_nonneg {v : EReal} (h : 0 ≤ v) : 0 ≤ Ideal.log1p v := by
  induction v using EReal.rec with
  | bot => simp at h
  | top => unfold Ideal.log1p; rw [EReal.add_top_of_ne_bot (by decide)]; exact le_top
  | coe r =>
    have hr : 0 ≤ r := by exact_mod_cast h
    unfold Ideal.log1p
    rw [show (1 : EReal) + (r : EReal) = ((1 + r : ℝ) : EReal) by push_cast; rfl]
    show 0 ≤ (if 1 + r ≤ 0 then ⊥ else ((Real.log (1 + r) : ℝ) : EReal))
    rw [if_neg (by linarith)]
    exact_mod_cast Real.log_nonneg (by linarith)

/-- The step size is not negative. -/
theorem spl_nonneg (v : EReal) : 0 ≤ spl v := by
  unfold spl
  exact add_nonneg (le_max_right _ _) (log1p_nonneg (exp_nonneg _))

/-- The logarithm of a decay is not positive. -/
theorem av_nonpos (P : Params) (b s h : ℕ) : P.av b s h ≤ 0 := by
  unfold Params.av
  rw [mul_neg, EReal.neg_le_zero]
  exact mul_nonneg (spl_nonneg _) (exp_nonneg _)

/-- The float word of minus infinity is the least extended real. -/
theorem ninf : Ideal.ofBits .f32 0xFF800000#32 = ⊥ := by
  simp [Ideal.ofBits, Ideal.ieee]

end Cert.Layer
-- ==== Proof.Kernel.Heads.lean ====
/- The heads of one chunk: the step sizes, their running sums, the gathers by head, and what the chunk gives to the output
   and to the state, each payload's element as the layer's mathematics says it. -/
module

public import proofs.«01_k».proof.Proof.Gen.KernelIdeal.Skeleton
public import proofs.«01_k».proof.Proof.Kernel.Conv
public import proofs.«01_k».proof.Proof.Numbers
public import Idealize.ShloMosaic.Lib.ValueIdx
public import Idealize.ShloMosaic.Lib.Affine

@[expose] public section

set_option maxRecDepth 16384

noncomputable section

namespace Cert.Layer

open Idealize.ShloMosaic Cert.KernelIdeal Cert.KernelIdeal.Gen

variable {P : Params} {b s0 c : ℕ}

/-! ## Gathers by head -/

/-- The lane numbers. -/
abbrev lane : IVec S128x128 32 := iota .tc S128x128 32 [1] iota_S128x128_d1_w32

/-- The lane number over 64. -/
theorem fl_apply (r l : Fin 128) : k0_pay267 lane (ix2 r l) = if (l : ℕ) < 64 then 0#32 else 1#32 := by
  pointwise [k0_pay267, lane]
  revert l
  decide

/-- Lane `l` takes lane `k + l / 64`. -/
def gat (k : BitVec 32) (v : FVec Ideal S128x128 .f32) : FVec Ideal S128x128 .f32 :=
  let i := addi (broadcast S128x128 k) (k0_pay267 lane)
  dynamicGather 1 v (shapeCast S128x128 (shapeCast S128x128x1
    (select (cmpi .slt i (broadcast S128x128 0#32)) (addi i (broadcast S128x128 128#32)) i)
    shapeCasts_S128x128_S128x128x1) shapeCasts_S128x128x1_S128x128)

/-- The lane that a gather of two heads reads, as a number. -/
theorem gat_lane : ∀ k : Fin 31, ∀ f : Fin 2,
    (Scalar.select (IntOp.cmpi CmpIPredicate.slt (IntOp.addi (BitVec.ofNat 32 k) (BitVec.ofNat 32 f)) 0#32)
      (IntOp.addi (IntOp.addi (BitVec.ofNat 32 k) (BitVec.ofNat 32 f)) 128#32)
      (IntOp.addi (BitVec.ofNat 32 k) (BitVec.ofNat 32 f))).toNat % 128 = k + f := by decide

/-- Equal lanes have equal entries. -/
theorem at_lane (v : FVec Ideal S128x128 .f32) (r : Fin 128) (n m : ℕ) (h : n < 128) (h' : m < 128) (e : n = m) :
    v (ix2 r ⟨n, h⟩) = v (ix2 r ⟨m, h'⟩) := by
  subst e
  rfl

/-- The gather of two heads takes lane `k` in the left half and lane `k + 1` in the right half. -/
theorem gat_apply (k : ℕ) (hk : k < 31) (v : FVec Ideal S128x128 .f32) (r l : Fin 128) :
    gat (BitVec.ofNat 32 k) v (ix2 r l) = v (ix2 r ⟨k + l / 64, by omega⟩) := by
  pointwise [gat]
  refine at_lane v r _ _ _ _ ?_
  rw [fl_apply]
  split
  · next h => exact (gat_lane ⟨k, hk⟩ 0).trans (show k + 0 = _ by omega)
  · next h => exact (gat_lane ⟨k, hk⟩ 1).trans (show k + 1 = _ by omega)

/-- Four blocks of 128 lanes side by side. -/
def cat4 (p0 p1 p2 p3 : FVec Ideal S128x128 .f32) : FVec Ideal S128x512 .f32 :=
  concatenate S128x512 1 [⟨S128x128, p0⟩, ⟨S128x128, p1⟩, ⟨S128x128, p2⟩, ⟨S128x128, p3⟩]
    concatenates_S128x128_S128x128_S128x128_S128x128_S128x512_d1

/-- Four blocks of 128 columns, each a function of its own columns, are side by side that function. -/
theorem cat4_value {p0 p1 p2 p3 : FVec Ideal S128x128 .f32} {f : ℕ → ℕ → EReal}
    (h0 : ∀ (r : Fin 128) (l : Fin 128), p0 (ix2 r l) = f r l)
    (h1 : ∀ (r : Fin 128) (l : Fin 128), p1 (ix2 r l) = f r (128 + l))
    (h2 : ∀ (r : Fin 128) (l : Fin 128), p2 (ix2 r l) = f r (256 + l))
    (h3 : ∀ (r : Fin 128) (l : Fin 128), p3 (ix2 r l) = f r (384 + l)) (r : Fin 128) (q : Fin 512) :
    cat4 p0 p1 p2 p3 (ix2 r q) = f r q := by
  pointwise [cat4]
  simp only [h0, h1, h2, h3]
  repeat' split
  all_goals congr 1
  all_goals omega

/-- Column `q` of a group of 512 takes the lane of its head. -/
def hexp (g : ℕ) (v : FVec Ideal S128x128 .f32) : FVec Ideal S128x512 .f32 :=
  cat4 (gat (BitVec.ofNat 32 (8 * g)) v) (gat (BitVec.ofNat 32 (8 * g + 2)) v) (gat (BitVec.ofNat 32 (8 * g + 4)) v)
    (gat (BitVec.ofNat 32 (8 * g + 6)) v)

/-- Column `q` of a group holds the value of that column's head. -/
theorem hexp_value (g : ℕ) (hg : g < 4) {v : FVec Ideal S128x128 .f32} {f : ℕ → ℕ → EReal}
    (hv : ∀ (r l : Fin 128), (l : ℕ) < 32 → v (ix2 r l) = f r l) (r : Fin 128) (q : Fin 512) :
    hexp g v (ix2 r q) = f r ((512 * g + q) / 64) := by
  refine cat4_value (f := fun r q => f r ((512 * g + q) / 64)) ?_ ?_ ?_ ?_ r q <;>
  · intro r l
    rw [gat_apply _ (by omega), hv r _ (by dsimp only; omega)]
    dsimp only
    congr 1
    omega

/-! ## The step sizes and their running sums -/

/-- The step sizes of the tile. -/
theorem dt_value {x : Vec Ideal S1x256x1024 .f32} {g : Vec Ideal S1x1024 .f32} {w : Vec Ideal S1024x128 .bf16}
    {bb : Vec Ideal S1x128 .f32}
    (hh : ∀ (r : Fin 256) (k : Fin 1024),
      k0_pay11 (F := Ideal) (k0_pay7 x) (k0_pay8 g) (k0_pay9 x) k0_pay10 (ix2 r k) = P.hid b (s0 + r) k)
    (hw : ∀ (k : Fin 1024) (l : Fin 128), (l : ℕ) < 32 → w (ix2 k l) = P.w k (8192 + l))
    (hb : ∀ l : Fin 128, (l : ℕ) < 32 → bb (ix2 0 l) = P.dtBias l) (r : Fin 256) (l : Fin 128) (hl : (l : ℕ) < 32) :
    k0_pay14 (F := Ideal) (k0_pay7 x) (k0_pay8 g) (k0_pay9 x) k0_pay10 w bb (ix2 r l) = P.dt b (s0 + r) l := by
  unfold Params.dt Params.proj spl
  pointwise [k0_pay14]
  simp only [hh, hw _ l hl, hb l hl, zero_sub']
  rfl

/-- The decay rates. -/
theorem a_value {al : Vec Ideal S1x128 .f32} (ha : ∀ l : Fin 128, (l : ℕ) < 32 → al (ix2 0 l) = P.aLog l)
    (l : Fin 128) (hl : (l : ℕ) < 32) : k0_pay15 (F := Ideal) al (ix2 0 l) = -Ideal.exp (P.aLog l) := by
  pointwise [k0_pay15]
  rw [ha l hl, zero_sub']

/-- The three parts, each in its own 32 lanes. -/
def parts (v0 v1 v2 : FVec Ideal S128x128 .f32) : FVec Ideal S128x128 .f32 :=
  select (andi (cmpi .sge lane (broadcast S128x128 64#32)) (cmpi .slt lane (broadcast S128x128 96#32)))
    (dynamicRotate 1 64#32 none v2 rotates_S128x128_d1)
    (select (andi (cmpi .sge lane (broadcast S128x128 32#32)) (cmpi .slt lane (broadcast S128x128 64#32)))
      (dynamicRotate 1 32#32 none v1 rotates_S128x128_d1)
      (select (cmpi .slt lane (broadcast S128x128 32#32)) v0 (broadcast S128x128 (Scalar.ofBits .f32 0x00000000#32))))

/-- The three tests on a lane: below 32, from 32 to 63, from 64 to 95. -/
theorem lane_sel : ∀ l : Fin 128,
    IntOp.cmpi CmpIPredicate.slt (BitVec.ofNat 32 l) 32#32 = (if (l : ℕ) < 32 then 1#1 else 0#1)
    ∧ IntOp.andi (IntOp.cmpi CmpIPredicate.sge (BitVec.ofNat 32 l) 32#32) (IntOp.cmpi CmpIPredicate.slt (BitVec.ofNat 32 l) 64#32)
      = (if 32 ≤ (l : ℕ) ∧ (l : ℕ) < 64 then 1#1 else 0#1)
    ∧ IntOp.andi (IntOp.cmpi CmpIPredicate.sge (BitVec.ofNat 32 l) 64#32) (IntOp.cmpi CmpIPredicate.slt (BitVec.ofNat 32 l) 96#32)
      = (if 64 ≤ (l : ℕ) ∧ (l : ℕ) < 96 then 1#1 else 0#1) := by decide

/-- The three parts lie on lanes 0 to 31, 32 to 63 and 64 to 95. -/
theorem parts_apply (v0 v1 v2 : FVec Ideal S128x128 .f32) (r l : Fin 128) (hl : (l : ℕ) < 32) :
    parts v0 v1 v2 (ix2 r l) = v0 (ix2 r l) ∧ parts v0 v1 v2 (ix2 r ⟨32 + l, by omega⟩) = v1 (ix2 r l)
    ∧ parts v0 v1 v2 (ix2 r ⟨64 + l, by omega⟩) = v2 (ix2 r l) := by
  have h1 := lane_sel l
  have h2 := lane_sel ⟨32 + l, by omega⟩
  have h3 := lane_sel ⟨64 + l, by omega⟩
  dsimp only at h2 h3
  refine ⟨?_, ?_, ?_⟩
  · pointwise [parts, lane]
    rw [h1.1, h1.2.1, h1.2.2, if_pos hl, if_neg (show ¬(32 ≤ (l : ℕ) ∧ (l : ℕ) < 64) by omega),
      if_neg (show ¬(64 ≤ (l : ℕ) ∧ (l : ℕ) < 96) by omega)]
    rfl
  · pointwise [parts, lane]
    rw [h2.1, h2.2.1, h2.2.2, if_neg (show ¬(32 + (l : ℕ) < 32) by omega),
      if_pos (show 32 ≤ 32 + (l : ℕ) ∧ 32 + (l : ℕ) < 64 by omega),
      if_neg (show ¬(64 ≤ 32 + (l : ℕ) ∧ 32 + (l : ℕ) < 96) by omega)]
    exact at_lane v1 r _ _ _ _ (by omega)
  · pointwise [parts, lane]
    rw [h3.1, h3.2.1, h3.2.2, if_neg (show ¬(64 + (l : ℕ) < 32) by omega),
      if_neg (show ¬(32 ≤ 64 + (l : ℕ) ∧ 64 + (l : ℕ) < 64) by omega),
      if_pos (show 64 ≤ 64 + (l : ℕ) ∧ 64 + (l : ℕ) < 96 by omega)]
    exact at_lane v2 r _ _ _ _ (by omega)

/-- The running sums of a chunk from the three parts of the logarithms of its decays. -/
theorem acs_parts {tr : Vec Ideal S128x128 .bf16} {v0 v1 v2 : FVec Ideal S128x128 .f32}
    (ht : ∀ r k : Fin 128, tr (ix2 r k) = if (k : ℕ) ≤ r then 1 else 0)
    (h0 : ∀ r l : Fin 128, (l : ℕ) < 32 → v0 (ix2 r l) = P.av b (c * 128 + r) l)
    (h1 : ∀ r l : Fin 128, (l : ℕ) < 32 → v1 (ix2 r l) = P.av b (c * 128 + r) l - P.av b (c * 128 + r) l)
    (h2 : ∀ r l : Fin 128, (l : ℕ) < 32 → v2 (ix2 r l) = P.av b (c * 128 + r) l - P.av b (c * 128 + r) l
      - (P.av b (c * 128 + r) l - P.av b (c * 128 + r) l)) (r l : Fin 128) (hl : (l : ℕ) < 32) :
    k0_pay24 lane tr v0 v1 v2 k0_pay23 (ix2 r l) = P.acs b (c * 128 + r) l := by
  have e1 : (c * 128 + (r : ℕ)) % 128 = r := by omega
  have e2 : (c * 128 + (r : ℕ)) / 128 * 128 = c * 128 := by omega
  have hp := fun k : Fin 128 => parts_apply v0 v1 v2 k l hl
  unfold Params.acs
  rw [e1, e2, ← three_parts _ (fun k => by split; exacts [av_nonpos _ _ _ _, le_rfl])]
  have e : k0_pay24 lane tr v0 v1 v2 k0_pay23 = addf (addf
    (matmul dot_S128x128_S128x128_S128x128_1_0_0_1_n_n none tr (truncf .bf16 (parts v0 v1 v2) bitsLt_bf16_f32) (constant S128x128 .f32 0x00000000#32))
    (dynamicRotate 1 96#32 none (matmul dot_S128x128_S128x128_S128x128_1_0_0_1_n_n none tr (truncf .bf16 (parts v0 v1 v2) bitsLt_bf16_f32) (constant S128x128 .f32 0x00000000#32)) rotates_S128x128_d1))
    (dynamicRotate 1 64#32 none (matmul dot_S128x128_S128x128_S128x128_1_0_0_1_n_n none tr (truncf .bf16 (parts v0 v1 v2) bitsLt_bf16_f32) (constant S128x128 .f32 0x00000000#32)) rotates_S128x128_d1) := rfl
  rw [e]
  generalize parts v0 v1 v2 = v at hp
  pointwise []
  simp only [show ((l : ℕ) + 128 - 96) % 128 = 32 + l by omega, show ((l : ℕ) + 128 - 64) % 128 = 64 + l by omega,
    (hp _).1, (hp _).2.1, (hp _).2.2, ht, h0 _ l hl, h1 _ l hl, h2 _ l hl]
  refine congrArg₂ (· + ·) (congrArg₂ (· + ·) ?_ ?_) ?_ <;>
  · refine Finset.sum_congr rfl fun k _ => ?_
    split <;> simp

/-- The running sums of the tile's first chunk. -/
theorem acs_value₀ {v23 : FVec Ideal S256x1024 .f32} {v25 v30 v31 v44 v47} {al : Vec Ideal S1x128 .f32} {tr : Vec Ideal S128x128 .bf16}
    (hs : s0 = c * 128)
    (ht : ∀ r k : Fin 128, tr (ix2 r k) = if (k : ℕ) ≤ r then 1 else 0)
    (hd : ∀ (r : Fin 256) (l : Fin 128), (l : ℕ) < 32 → k0_pay14 v23 v25 v30 v31 v44 v47 (ix2 r l) = P.dt b (s0 + r) l)
    (ha : ∀ l : Fin 128, (l : ℕ) < 32 → k0_pay15 (F := Ideal) al (ix2 0 l) = -Ideal.exp (P.aLog l))
    (r l : Fin 128) (hl : (l : ℕ) < 32) :
    k0_pay24 lane (k0_pay17 tr) (k0_pay19 v23 v25 v30 v31 v44 v47 al) (k0_pay21 v23 v25 v30 v31 v44 v47 al)
      (k0_pay22 v23 v25 v30 v31 v44 v47 al) k0_pay23 (ix2 r l) = P.acs b (c * 128 + r) l := by
  have h18 : ∀ r l : Fin 128, (l : ℕ) < 32 → k0_pay18 v23 v25 v30 v31 v44 v47 al (ix2 r l) = P.av b (c * 128 + r) l := by
    intro r l hl
    unfold Params.av
    rw [← hs, ← ha l hl]
    have := hd ⟨r, by omega⟩ l hl
    dsimp only at this
    rw [← this]
    pointwise [k0_pay18, k0_pay16]
  refine acs_parts (fun r k => ?_) (fun r l hl => ?_) (fun r l hl => ?_) (fun r l hl => ?_) r l hl
  · rw [← ht r k]
    pointwise [k0_pay17]
  all_goals
    rw [← h18 r l hl]
    pointwise [k0_pay19, k0_pay20, k0_pay21, k0_pay22]

/-- The running sums of the tile's second chunk. -/
theorem acs_value₁ {d : FVec Ideal S256x128 .f32} {a : FVec Ideal S1x128 .f32} {tr : Vec Ideal S128x128 .bf16}
    (hs : s0 = c * 128)
    (ht : ∀ r k : Fin 128, tr (ix2 r k) = if (k : ℕ) ≤ r then 1 else 0)
    (hd : ∀ (r : Fin 256) (l : Fin 128), (l : ℕ) < 32 → d (ix2 r l) = P.dt b (s0 + r) l)
    (ha : ∀ l : Fin 128, (l : ℕ) < 32 → a (ix2 0 l) = -Ideal.exp (P.aLog l))
    (r l : Fin 128) (hl : (l : ℕ) < 32) :
    k0_pay37 lane (k0_pay30 tr) (k0_pay32 d a) (k0_pay34 d a) (k0_pay35 d a) (k0_pay36 lane)
      (Scalar.ofBits .f32 0x00000000#32) (ix2 r l) = P.acs b ((c + 1) * 128 + r) l := by
  have h18 : ∀ r l : Fin 128, (l : ℕ) < 32 → k0_pay31 d a (ix2 r l) = P.av b ((c + 1) * 128 + r) l := by
    intro r l hl
    unfold Params.av
    rw [← ha l hl, show (c + 1) * 128 + (r : ℕ) = s0 + (128 + r) by omega]
    have := hd ⟨128 + r, by omega⟩ l hl
    dsimp only at this
    rw [← this]
    pointwise [k0_pay31, k0_pay29]
  refine acs_parts (fun r k => ?_) (fun r l hl => ?_) (fun r l hl => ?_) (fun r l hl => ?_) r l hl
  · rw [← ht r k]
    pointwise [k0_pay30]
  all_goals
    rw [← h18 r l hl]
    pointwise [k0_pay32, k0_pay33, k0_pay34, k0_pay35]

/-- Transposed. -/
theorem tr_value {v : FVec Ideal S128x128 .f32} {f : ℕ → ℕ → EReal}
    (hv : ∀ r l : Fin 128, (l : ℕ) < 32 → v (ix2 r l) = f r l) (l r : Fin 128) (hl : (l : ℕ) < 32) :
    k0_pay26 v (ix2 l r) = f r l := by
  rw [← hv r l hl]
  pointwise [k0_pay26]

/-- The exponentials of the running sums. -/
theorem exp_value {v : FVec Ideal S128x128 .f32} {f : ℕ → ℕ → EReal}
    (hv : ∀ r l : Fin 128, (l : ℕ) < 32 → v (ix2 r l) = f r l) (r l : Fin 128) (hl : (l : ℕ) < 32) :
    (exp v : FVec Ideal S128x128 .f32) (ix2 r l) = Ideal.exp (f r l) := by
  rw [← hv r l hl]
  rfl

/-- The step sizes times the decay to the chunk's end. -/
def decayV (d v : FVec Ideal S128x128 .f32) : FVec Ideal S128x128 .f32 :=
  mulf d (exp (subf (broadcastTo S128x128 (extractStridedSlice S1x128 ![127, 0] v slices_S128x128_o127_0_S1x128)
    broadcasts_S1x128_S128x128) v))

/-- The step size times the decay from the row to the chunk's end. -/
theorem decay_value {d v : FVec Ideal S128x128 .f32} {f g : ℕ → ℕ → EReal}
    (hd : ∀ r l : Fin 128, (l : ℕ) < 32 → d (ix2 r l) = g r l)
    (hv : ∀ r l : Fin 128, (l : ℕ) < 32 → v (ix2 r l) = f r l) (r l : Fin 128) (hl : (l : ℕ) < 32) :
    decayV d v (ix2 r l) = g r l * Ideal.exp (f 127 l - f r l) := by
  rw [← hv r l hl, ← hd r l hl, ← hv ⟨127, by omega⟩ l hl]
  pointwise [decayV]

/-- The rows of a chunk's half of the tile. -/
theorem half_value {d : FVec Ideal S256x128 .f32} (o : ℕ) (ho : o ≤ 128) (hsl : S256x128.Slices ![o, 0] S128x128)
    {f : ℕ → ℕ → EReal} (hd : ∀ (r : Fin 256) (l : Fin 128), (l : ℕ) < 32 → d (ix2 r l) = f r l)
    (r l : Fin 128) (hl : (l : ℕ) < 32) : extractStridedSlice S128x128 ![o, 0] d hsl (ix2 r l) = f (o + r) l := by
  have := hd ⟨o + r, by omega⟩ l hl
  dsimp only at this
  rw [← this]
  pointwise []

/-! ## The state -/

/-- What a chunk adds to a group of columns of the state. -/
def contrib (g : ℕ) (x : FVec Ideal S128x512 .f32) (d bm : FVec Ideal S128x128 .f32) : FVec Ideal S128x512 .f32 :=
  matmul dot_S128x128_S128x512_S128x512_1_0_0_1_n_n none
    (truncf .bf16 (transpose S128x128 [1, 0] bm transposes_S128x128_p1_0_S128x128) bitsLt_bf16_f32)
    (truncf .bf16 (mulf x (hexp g d)) bitsLt_bf16_f32) (constant S128x512 .f32 0x00000000#32)

/-- What a chunk adds to the state is `Params.st`. -/
theorem contrib_value {g : ℕ} (hg : g < 4) {x : FVec Ideal S128x512 .f32} {d bm : FVec Ideal S128x128 .f32}
    (hx : ∀ (r : Fin 128) (q : Fin 512), x (ix2 r q) = P.cv b (c * 128 + r) (512 * g + q))
    (hd : ∀ r l : Fin 128, (l : ℕ) < 32 → d (ix2 r l) = P.dt b (c * 128 + r) l
      * Ideal.exp (P.acs b (c * 128 + 127) l - P.acs b (c * 128 + r) l))
    (hb : ∀ r n : Fin 128, bm (ix2 r n) = P.cv b (c * 128 + r) (2048 + g * 128 + n)) (n : Fin 128) (q : Fin 512) :
    contrib g x d bm (ix2 n q) = P.st b c n (512 * g + q) := by
  have he := hexp_value g hg (f := fun r l => P.dt b (c * 128 + r) l
    * Ideal.exp (P.acs b (c * 128 + 127) l - P.acs b (c * 128 + r) l)) hd
  unfold Params.st
  rw [show (512 * g + (q : ℕ)) / 512 = g by omega]
  generalize hE : hexp g d = E at he
  have e : contrib g x d bm = matmul dot_S128x128_S128x512_S128x512_1_0_0_1_n_n none
    (truncf .bf16 (transpose S128x128 [1, 0] bm transposes_S128x128_p1_0_S128x128) bitsLt_bf16_f32)
    (truncf .bf16 (mulf x E) bitsLt_bf16_f32) (constant S128x512 .f32 0x00000000#32) := by rw [← hE]; rfl
  rw [e]
  pointwise []
  refine Finset.sum_congr rfl fun k _ => ?_
  rw [hx, he, hb]
  congr 1
  rw [mul_comm (Ideal.exp _), mul_assoc]

/-- A group of columns of the state after a chunk. -/
def stU (g : ℕ) (pv : FVec Ideal S128x512 .f32) (A : FVec Ideal S128x128 .f32) (ct : FVec Ideal S128x512 .f32) :
    FVec Ideal S128x512 .f32 :=
  shapeCast S128x512 (addf (mulf pv (broadcastTo S128x512 (extractStridedSlice S1x512 ![127, 0] (hexp g A)
    slices_S128x512_o127_0_S1x512) broadcasts_S1x512_S128x512)) ct) shapeCasts_S128x512_S128x512

/-- The state after a chunk is the state that enters the next, `Params.pv`. -/
theorem stU_value {g : ℕ} (hg : g < 4) {pv ct : FVec Ideal S128x512 .f32} {A : FVec Ideal S128x128 .f32}
    (hp : ∀ (n : Fin 128) (q : Fin 512), pv (ix2 n q) = P.pv b c n (512 * g + q))
    (hA : ∀ r l : Fin 128, (l : ℕ) < 32 → A (ix2 r l) = Ideal.exp (P.acs b (c * 128 + r) l))
    (hc : ∀ (n : Fin 128) (q : Fin 512), ct (ix2 n q) = P.st b c n (512 * g + q)) (n : Fin 128) (q : Fin 512) :
    stU g pv A ct (ix2 n q) = P.pv b (c + 1) n (512 * g + q) := by
  have he := hexp_value g hg (f := fun r l => Ideal.exp (P.acs b (c * 128 + r) l)) hA
  show _ = Ideal.exp _ * P.pv b c n (512 * g + q) + P.st b c n (512 * g + q)
  rw [← hc, ← hp, mul_comm]
  have := he ⟨127, by omega⟩ q
  dsimp only at this
  rw [← this]
  pointwise [stU]

/-! ## The output -/

/-- The products of two positions' projections. -/
theorem cb_value {g : ℕ} {bv cv : Vec Ideal S1x128x128 .f32}
    (hb : ∀ r n : Fin 128, bv (ix3 0 r n) = P.cv b (c * 128 + r) (2048 + g * 128 + n))
    (hc : ∀ r n : Fin 128, cv (ix3 0 r n) = P.cv b (c * 128 + r) (2560 + g * 128 + n)) (r k : Fin 128) :
    k0_pay253 bv cv (ix2 r k) = P.cbm b (c * 128 + r) k g := by
  unfold Params.cbm
  rw [show (c * 128 + (r : ℕ)) / 128 * 128 = c * 128 by omega]
  simp only [← hb, ← hc]
  pointwise [k0_pay253]

/-- The comparison of two small words is the comparison of their numbers. -/
theorem sge_small (r k : Fin 128) :
    IntOp.cmpi CmpIPredicate.sge (BitVec.ofNat 32 r) (BitVec.ofNat 32 k) = if (k : ℕ) ≤ r then 1#1 else 0#1 := by
  have e : ∀ n : Fin 128, (BitVec.ofNat 32 (n : ℕ)).toInt = (n : ℕ) := by decide
  split
  · next h => rw [IntOp.cmpi_sge, e, e]; exact_mod_cast h
  · next h =>
    refine ValueIdx.eq_zero_of_ne_one fun hc => h ?_
    rw [IntOp.cmpi_sge, e, e] at hc
    exact_mod_cast hc

/-- The weights of one head. -/
def wv (h : ℕ) (s1 : S128x128.Slices ![0, h] S128x1) (s2 : S128x128.Slices ![h, 0] S1x128)
    (cb A T D : FVec Ideal S128x128 .f32) : FVec Ideal S128x128 .bf16 :=
  truncf .bf16 (mulf (mulf cb (exp (select k0_pay12
    (subf (broadcastTo S128x128 (extractStridedSlice S128x1 ![0, h] A s1) broadcasts_S128x1_S128x128)
      (broadcastTo S128x128 (extractStridedSlice S1x128 ![h, 0] T s2) broadcasts_S1x128_S128x128))
    (broadcast S128x128 (Scalar.ofBits .f32 0xFF800000#32)))))
    (broadcastTo S128x128 (extractStridedSlice S1x128 ![h, 0] D s2) broadcasts_S1x128_S128x128)) bitsLt_bf16_f32

/-- An entry of a head's weights: the product of `C` and `B`, the decay from column to row where the column is not
    later, and the step size. -/
theorem wv_apply (h : ℕ) (hh : h < 128) (s1 s2) (cb A T D : FVec Ideal S128x128 .f32) (r k : Fin 128) :
    wv h s1 s2 cb A T D (ix2 r k) = cb (ix2 r k)
      * Ideal.exp (if (k : ℕ) ≤ r then A (ix2 r ⟨h, hh⟩) - T (ix2 ⟨h, hh⟩ k) else ⊥) * D (ix2 ⟨h, hh⟩ k) := by
  pointwise [wv, k0_pay12]
  rw [ninf, sge_small r k]
  split
  · rfl
  · rfl

/-- The test for the left half of the lanes, as a condition on the number. -/
theorem lane_half : ∀ l : Fin 128,
    IntOp.cmpi CmpIPredicate.slt (BitVec.ofNat 32 l) 64#32 = if (l : ℕ) < 64 then 1#1 else 0#1 := by decide

/-- Two heads' outputs side by side. -/
def pairM (o : ℕ) (s : S128x512.Slices ![0, o] S128x128) (w0 w1 : FVec Ideal S128x128 .bf16)
    (x : FVec Ideal S128x512 .bf16) : FVec Ideal S128x128 .f32 :=
  matmul dot_S128x256_S256x128_S128x128_1_0_0_1_n_n none
    (concatenate S128x256 1 [⟨S128x128, w0⟩, ⟨S128x128, w1⟩] concatenates_S128x128_S128x128_S128x256_d1)
    (concatenate S256x128 0
      [⟨S128x128, select k0_pay13 (extractStridedSlice S128x128 ![0, o] x s)
        (broadcast S128x128 (Scalar.ofBits .bf16 0x0000#16))⟩,
       ⟨S128x128, select k0_pay13 (broadcast S128x128 (Scalar.ofBits .bf16 0x0000#16))
        (extractStridedSlice S128x128 ![0, o] x s)⟩] concatenates_S128x128_S128x128_S256x128_d0)
    (constant S128x128 .f32 0x00000000#32)

/-- The product for a pair of heads: in the left half the first head's weights, in the right half the second's. -/
theorem pairM_apply (o : ℕ) (s) (w0 w1 : FVec Ideal S128x128 .bf16) (x : FVec Ideal S128x512 .bf16)
    (r l : Fin 128) (ho : o + l < 512) :
    pairM o s w0 w1 x (ix2 r l) = ∑ k : Fin 128, (if (l : ℕ) < 64 then w0 else w1) (ix2 r k) * x (ix2 k ⟨o + l, ho⟩) := by
  pointwise [pairM, k0_pay13]
  rw [(lane_half l)]
  split
  · simp only [ValueIdx.select_one, Finset.sum_const_zero, add_zero]
  · simp only [ValueIdx.select_zero, Finset.sum_const_zero, zero_add]

/-- A group of 512 columns of the output of a chunk. -/
def yG (g : ℕ) (s1 : ∀ i < 8, S128x128.Slices ![0, 8 * g + i] S128x1) (s2 : ∀ i < 8, S128x128.Slices ![8 * g + i, 0] S1x128)
    (cb A T D E : FVec Ideal S128x128 .f32) (C : Vec Ideal S1x128x128 .f32) (pv x : FVec Ideal S128x512 .f32)
    (d : Vec Ideal S1x512 .f32) : FVec Ideal S128x512 .f32 :=
  let w : ∀ i, i < 8 → FVec Ideal S128x128 .bf16 := fun i h => wv (8 * g + i) (s1 i h) (s2 i h) cb A T D
  let xb : FVec Ideal S128x512 .bf16 := truncf .bf16 x bitsLt_bf16_f32
  shapeCast S128x512 (addf (addf
    (mulf (matmul dot_S128x128_S128x512_S128x512_1_0_0_1_n_n none
      (truncf .bf16 (shapeCast S128x128 C shapeCasts_S1x128x128_S128x128) bitsLt_bf16_f32)
      (truncf .bf16 pv bitsLt_bf16_f32) (constant S128x512 .f32 0x00000000#32)) (hexp g E))
    (cat4 (pairM 0 slices_S128x512_o0_0_S128x128 (w 0 (by decide)) (w 1 (by decide)) xb)
      (pairM 128 slices_S128x512_o0_128_S128x128 (w 2 (by decide)) (w 3 (by decide)) xb)
      (pairM 256 slices_S128x512_o0_256_S128x128 (w 4 (by decide)) (w 5 (by decide)) xb)
      (pairM 384 slices_S128x512_o0_384_S128x128 (w 6 (by decide)) (w 7 (by decide)) xb)))
    (mulf x (broadcastTo S128x512 (shapeCast S1x512 d shapeCasts_S1x512_S1x512) broadcasts_S1x512_S128x512)))
    shapeCasts_S128x512_S128x512

/-- A group of 512 columns of the output of a chunk is the layer's: the chunk's own part, the part of the chunks before,
    and the skip. -/
theorem yG_value {g : ℕ} (hg : g < 4) (s1 s2) {cb A T D E : FVec Ideal S128x128 .f32} {C : Vec Ideal S1x128x128 .f32}
    {pv x : FVec Ideal S128x512 .f32} {d : Vec Ideal S1x512 .f32}
    (hcb : ∀ r k : Fin 128, cb (ix2 r k) = P.cbm b (c * 128 + r) k g)
    (hA : ∀ r l : Fin 128, (l : ℕ) < 32 → A (ix2 r l) = P.acs b (c * 128 + r) l)
    (hT : ∀ l r : Fin 128, (l : ℕ) < 32 → T (ix2 l r) = P.acs b (c * 128 + r) l)
    (hD : ∀ l r : Fin 128, (l : ℕ) < 32 → D (ix2 l r) = P.dt b (c * 128 + r) l)
    (hE : ∀ r l : Fin 128, (l : ℕ) < 32 → E (ix2 r l) = Ideal.exp (P.acs b (c * 128 + r) l))
    (hC : ∀ r n : Fin 128, C (ix3 0 r n) = P.cv b (c * 128 + r) (2560 + g * 128 + n))
    (hp : ∀ (n : Fin 128) (q : Fin 512), pv (ix2 n q) = P.pv b c n (512 * g + q))
    (hx : ∀ (r : Fin 128) (q : Fin 512), x (ix2 r q) = P.cv b (c * 128 + r) (512 * g + q))
    (hd : ∀ q : Fin 512, d (ix2 0 q) = P.dSkip ((512 * g + q) / 64)) (r : Fin 128) (q : Fin 512) :
    yG g s1 s2 cb A T D E C pv x d (ix2 r q)
      = P.yd b (c * 128 + r) (512 * g + q) + P.yo b (c * 128 + r) (512 * g + q)
        + P.cv b (c * 128 + r) (512 * g + q) * P.dSkip ((512 * g + q) / 64) := by
  have e1 : ∀ r : Fin 128, (c * 128 + (r : ℕ)) % 128 = r := fun r => by omega
  have e2 : ∀ r : Fin 128, (c * 128 + (r : ℕ)) / 128 * 128 = c * 128 := fun r => by omega
  have e3 : ∀ r : Fin 128, (c * 128 + (r : ℕ)) / 128 = c := fun r => by omega
  have hw : ∀ (i : ℕ) (h : i < 8) (r k : Fin 128), wv (8 * g + i) (s1 i h) (s2 i h) cb A T D (ix2 r k)
      = P.cbm b (c * 128 + r) k g * Ideal.exp (if (k : ℕ) ≤ r then P.acs b (c * 128 + r) (8 * g + i)
        - P.acs b (c * 128 + k) (8 * g + i) else ⊥) * P.dt b (c * 128 + k) (8 * g + i) := fun i h r k => by
    rw [wv_apply _ (by omega), hcb, hA _ _ (show 8 * g + i < 32 by omega), hT _ _ (show 8 * g + i < 32 by omega),
      hD _ _ (show 8 * g + i < 32 by omega)]
  have hpair : ∀ (i : ℕ) (h : 2 * i + 1 < 8) (s : S128x512.Slices ![0, 128 * i] S128x128) (r l : Fin 128),
      pairM (128 * i) s (wv (8 * g + 2 * i) (s1 _ (by omega)) (s2 _ (by omega)) cb A T D)
        (wv (8 * g + (2 * i + 1)) (s1 _ h) (s2 _ h) cb A T D) (truncf .bf16 x bitsLt_bf16_f32) (ix2 r l)
        = P.yd b (c * 128 + r) (512 * g + (128 * i + l)) := fun i h s r l => by
    rw [pairM_apply _ _ _ _ _ _ _ (by omega)]
    unfold Params.yd
    rw [e1, e2, show (512 * g + (128 * i + (l : ℕ))) / 512 = g by omega]
    refine Finset.sum_congr rfl fun k _ => ?_
    have hxk := hx k ⟨128 * i + l, by omega⟩
    dsimp only at hxk
    have ht : (truncf .bf16 x bitsLt_bf16_f32 : FVec Ideal S128x512 .bf16) (ix2 k ⟨128 * i + l, by omega⟩)
      = P.cv b (c * 128 + k) (512 * g + (128 * i + l)) := hxk
    rw [ht]
    split
    · next hl =>
      rw [hw (2 * i) (by omega), show (512 * g + (128 * i + (l : ℕ))) / 64 = 8 * g + 2 * i by omega, mul_assoc, mul_comm (P.dt _ _ _)]
    · next hl =>
      rw [hw (2 * i + 1) h, show (512 * g + (128 * i + (l : ℕ))) / 64 = 8 * g + (2 * i + 1) by omega, mul_assoc, mul_comm (P.dt _ _ _)]
  have hcat := cat4_value (f := fun r q => P.yd b (c * 128 + r) (512 * g + q))
    (fun r l => by simpa using hpair 0 (by omega) slices_S128x512_o0_0_S128x128 r l)
    (hpair 1 (by omega) slices_S128x512_o0_128_S128x128) (hpair 2 (by omega) slices_S128x512_o0_256_S128x128)
    (hpair 3 (by omega) slices_S128x512_o0_384_S128x128) r q
  have he := hexp_value g hg (f := fun r l => Ideal.exp (P.acs b (c * 128 + r) l)) hE r q
  have hyo : (∑ n : Fin 128, C (ix3 0 r n) * pv (ix2 n q)) * hexp g E (ix2 r q) = P.yo b (c * 128 + r) (512 * g + q) := by
    unfold Params.yo
    rw [e3, he, show (512 * g + (q : ℕ)) / 512 = g by omega]
    simp only [hC, hp]
  rw [← hcat, ← hyo, ← hd, ← hx r q, add_comm (cat4 _ _ _ _ _)]
  unfold yG
  dsimp only
  generalize hexp g E = E'
  generalize hcc : cat4 _ _ _ _ = cc
  pointwise []

/-- Four blocks of the convolution's buffer side by side. -/
theorem xcat_value {g : ℕ} {p0 p1 p2 p3 : Vec Ideal S1x128x128 .f32}
    (h0 : ∀ r l : Fin 128, p0 (ix3 0 r l) = P.cv b (c * 128 + r) (512 * g + l))
    (h1 : ∀ r l : Fin 128, p1 (ix3 0 r l) = P.cv b (c * 128 + r) (512 * g + (128 + l)))
    (h2 : ∀ r l : Fin 128, p2 (ix3 0 r l) = P.cv b (c * 128 + r) (512 * g + (256 + l)))
    (h3 : ∀ r l : Fin 128, p3 (ix3 0 r l) = P.cv b (c * 128 + r) (512 * g + (384 + l))) (r : Fin 128) (q : Fin 512) :
    k0_pay354 p0 p1 p2 p3 (ix2 r q) = P.cv b (c * 128 + r) (512 * g + q) := by
  have h : ∀ (p : Vec Ideal S1x128x128 .f32) (r l : Fin 128),
      (shapeCast S128x128 p shapeCasts_S1x128x128_S128x128 : FVec Ideal S128x128 .f32) (ix2 r l) = p (ix3 0 r l) := by
    intro p r l
    pointwise []
  exact cat4_value (f := fun r q => P.cv b (c * 128 + r) (512 * g + q)) (fun r l => (h _ r l).trans (h0 r l))
    (fun r l => (h _ r l).trans (h1 r l)) (fun r l => (h _ r l).trans (h2 r l)) (fun r l => (h _ r l).trans (h3 r l)) r q

end Cert.Layer
-- ==== Proof.Kernel.Operands.lean ====
/- What the host operations before the kernel leave in each operand it reads, entry by entry, in terms of the arguments. -/
module

public import proofs.«01_k».proof.Proof.Args
public import proofs.«01_k».proof.Proof.Gen.KernelIdeal.Frame.Runs
public import proofs.«01_k».proof.Proof.Kernel.Heads
public import Idealize.ShloMosaic.Lib.Pointwise
public import Idealize.ShloMosaic.Lib.StableHlo.RunRead

@[expose] public section

set_option maxRecDepth 16384
set_option maxHeartbeats 800000

noncomputable section

namespace Cert.Layer

open Idealize.ShloMosaic Idealize.ShloMosaic.TcCoe Cert.KernelIdeal Cert.KernelIdeal.Gen

variable (m : (ℓ : Loc nD τ sig) → Buf (Elt Ideal) ℓ) (c : Dev nD)

/-- The layer's parameters, from the argument arrays the program is launched with. -/
def parOf : Params := par
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12)) (m ((c : Thread nD τ).loc main_arg13)) (m ((c : Thread nD τ).loc main_arg14))
  (m ((c : Thread nD τ).loc main_arg15)) (m ((c : Thread nD τ).loc main_arg16)) (m ((c : Thread nD τ).loc main_arg17))
  (m ((c : Thread nD τ).loc main_arg18)) (m ((c : Thread nD τ).loc main_arg19)) (m ((c : Thread nD τ).loc main_arg20))

/-! The matrices. -/

/-- An operand of the call: `w_oa`. -/
theorem V_v35 (k : Fin 1024) (l : Fin 1024) :
    V m c main_v35 (ix2 k l) = (parOf m c).wOa k l := by
  unfold V
  after_reads_simp
  pointwise []
  exact (par_wOa k.isLt l.isLt).symm

/-- An operand of the call: `w_ob`. -/
theorem V_v36 (k : Fin 2048) (l : Fin 1024) :
    V m c main_v36 (ix2 k l) = (parOf m c).wOb k l := by
  unfold V
  after_reads_simp
  pointwise []
  exact (par_wOb k.isLt l.isLt).symm

/-- An operand of the call: `w_out`. -/
theorem V_v37 (k : Fin 1024) (l : Fin 1024) :
    V m c main_v37 (ix2 k l) = (parOf m c).wOut k l := by
  unfold V
  after_reads_simp
  pointwise []
  exact (par_wOut k.isLt l.isLt).symm

/-- An operand of the call: `w_pg`. -/
theorem V_v38 (k : Fin 1024) (l : Fin 1024) :
    V m c main_v38 (ix2 k l) = (parOf m c).wPg k l := by
  unfold V
  after_reads_simp
  pointwise []
  exact (par_wPg k.isLt l.isLt).symm

/-- An operand of the call: `w_ple`. -/
theorem V_v39 (k : Fin 256) (l : Fin 1024) :
    V m c main_v39 (ix2 k l) = (parOf m c).wPle k l := by
  unfold V
  after_reads_simp
  pointwise []
  exact (par_wPle k.isLt l.isLt).symm

/-- An operand of the call: the convolution weights. -/
theorem V_v7 (k : Fin 4) (l : Fin 3072) :
    V m c main_v7 (ix2 k l) = (parOf m c).convW k l := by
  unfold V
  after_reads_simp
  pointwise []
  exact (par_convW k.isLt l.isLt).symm

/-! The vectors, as one row. -/

/-- An operand of the call: the convolution bias. -/
theorem V_v40 (l : Fin 3072) :
    V m c main_v40 (ix2 0 l) = (parOf m c).convB l := by
  unfold V
  after_reads_simp
  pointwise []
  exact (par_convB l.isLt).symm

/-- An operand of the call: `norm_g`. -/
theorem V_v48 (l : Fin 1024) :
    V m c main_v48 (ix2 0 l) = (parOf m c).normG l := by
  unfold V
  after_reads_simp
  pointwise []
  exact (par_normG l.isLt).symm

/-- An operand of the call: the gain of the layer norm. -/
theorem V_v49 (l : Fin 1024) :
    V m c main_v49 (ix2 0 l) = (parOf m c).lnG l := by
  unfold V
  after_reads_simp
  pointwise []
  exact (par_lnG l.isLt).symm

/-- An operand of the call: the bias of the layer norm. -/
theorem V_v50 (l : Fin 1024) :
    V m c main_v50 (ix2 0 l) = (parOf m c).lnB l := by
  unfold V
  after_reads_simp
  pointwise []
  exact (par_lnB l.isLt).symm

/-- An operand of the call: `ssm_norm_g`. -/
theorem V_v51 (l : Fin 2048) :
    V m c main_v51 (ix2 0 l) = (parOf m c).ssmG l := by
  unfold V
  after_reads_simp
  pointwise []
  exact (par_ssmG l.isLt).symm

/-- An operand of the call: `ple_norm_g`. -/
theorem V_v52 (l : Fin 1024) :
    V m c main_v52 (ix2 0 l) = (parOf m c).pleG l := by
  unfold V
  after_reads_simp
  pointwise []
  exact (par_pleG l.isLt).symm

/-- An operand of the call: `final_g`. -/
theorem V_v53 (l : Fin 1024) :
    V m c main_v53 (ix2 0 l) = (parOf m c).finalG l := by
  unfold V
  after_reads_simp
  pointwise []
  exact (par_finalG l.isLt).symm

/-- The lower triangular choice between one and zero. -/
theorem tri_word (r l : Fin 128) :
    Scalar.select (IntOp.cmpi CmpIPredicate.sge (IntOp.addi (BitVec.ofNat 32 r) 0#32) (BitVec.ofNat 32 l)) (1 : EReal) 0
      = if (l : ℕ) ≤ r then 1 else 0 := by
  rw [show IntOp.addi (BitVec.ofNat 32 r) 0#32 = BitVec.ofNat 32 r from BitVec.add_zero _, sge_small]
  split
  · exact ValueIdx.select_one _ _
  · exact ValueIdx.select_zero _ _

/-! The packed, padded, masked and repeated operands. -/

/-- An operand of the call: the per-layer inputs. -/
theorem V_v0 (b : Fin 8) (s : Fin 8192) (d : Fin 256) :
    V m c main_v0 (ix3 b s d) = (parOf m c).p b s d := by
  unfold V
  after_reads_simp
  pointwise []
  exact (par_p b.isLt s.isLt d.isLt).symm

/-- An operand of the call: the position biases, each repeated over its group of columns. -/
theorem V_v34 (r : Fin 128) (l : Fin 1024) :
    V m c main_v34 (ix2 r l) = (parOf m c).bs (l / 256) r := by
  unfold V
  after_reads_simp
  pointwise []
  exact (par_bs (show (l : ℕ) / 256 < 4 by omega) r.isLt).symm

/-- An operand of the call: the skip weights, each repeated over its head. -/
theorem V_v47 (l : Fin 2048) :
    V m c main_v47 (ix2 0 l) = (parOf m c).dSkip (l / 64) := by
  unfold V
  after_reads_simp
  pointwise []
  exact (par_dSkip (show (l : ℕ) / 64 < 32 by omega)).symm

/-- An operand of the call: the step biases, padded to 128 lanes. -/
theorem V_v42 (l : Fin 128) (hl : (l : ℕ) < 32) :
    V m c main_v42 (ix2 0 l) = (parOf m c).dtBias l := by
  unfold V
  after_reads_simp
  simp only [StableHlo.TRef.ofBuf_toBuf, StableHlo.TRef.ofBuf, StableHlo.TRef.toBuf, cast_eq, id_eq]
  pointwise []
  rw [dif_pos hl]
  exact (par_dtBias hl).symm

/-- An operand of the call: `a_log`, padded to 128 lanes. -/
theorem V_v44 (l : Fin 128) (hl : (l : ℕ) < 32) :
    V m c main_v44 (ix2 0 l) = (parOf m c).aLog l := by
  unfold V
  after_reads_simp
  simp only [StableHlo.TRef.ofBuf_toBuf, StableHlo.TRef.ofBuf, StableHlo.TRef.toBuf, cast_eq, id_eq]
  pointwise []
  rw [dif_pos hl]
  exact (par_aLog hl).symm

/-- An operand of the call: the first 8192 columns of `w_in`. -/
theorem V_v20 (k : Fin 1024) (l : Fin 8192) :
    V m c main_v20 (ix2 k l) = (parOf m c).w k l := by
  unfold V
  after_reads_simp
  pointwise []
  exact (par_w k.isLt (show (l : ℕ) < 10272 by omega)).symm

/-- An operand of the call: the gate columns of `w_in`. -/
theorem V_v21 (k : Fin 1024) (l : Fin 2048) :
    V m c main_v21 (ix2 k l) = (parOf m c).w k (8224 + l) := by
  unfold V
  after_reads_simp
  pointwise []
  exact (par_w k.isLt (show 8224 + (l : ℕ) < 10272 by omega)).symm

/-- An operand of the call: the step-size columns of `w_in`, padded to 128. -/
theorem V_v23 (k : Fin 1024) (l : Fin 128) (hl : (l : ℕ) < 32):
    V m c main_v23 (ix2 k l) = (parOf m c).w k (8192 + l) := by
  unfold V
  after_reads_simp
  simp only [StableHlo.TRef.ofBuf_toBuf, StableHlo.TRef.ofBuf, StableHlo.TRef.toBuf, cast_eq, id_eq]
  pointwise []
  rw [dif_pos hl]
  exact (par_w k.isLt (show 8192 + (l : ℕ) < 10272 by omega)).symm

/-- An operand of the call: the packed projection weights, as three blocks of columns. -/
theorem V_v24 : V m c main_v24 = concatenate S1024x10368 1 [⟨S1024x8192, V m c main_v20⟩, ⟨S1024x2048, V m c main_v21⟩,
    ⟨S1024x128, V m c main_v23⟩] concatenates_S1024x8192_S1024x2048_S1024x128_S1024x10368_d1 := by
  unfold V
  simp only [StableHlo.readAfter, StableHlo.nary_result']
  rfl

/-- An operand of the call: the packed weights before column 8192: the same columns of `w_in`. -/
theorem V_v24_0 (k : Fin 1024) (l : Fin 10368) (hl : (l : ℕ) < 8192) :
    V m c main_v24 (ix2 k l) = (parOf m c).w k l := by
  rw [V_v24]
  generalize h20 : V m c main_v20 = a
  generalize h21 : V m c main_v21 = b
  generalize h23 : V m c main_v23 = d
  pointwise []
  rw [dif_pos hl, ← h20]
  exact V_v20 m c k ⟨l, hl⟩

/-- An operand of the call: the packed weights from column 8192: the gate columns of `w_in`. -/
theorem V_v24_1 (k : Fin 1024) (l : Fin 10368) (h₀ : 8192 ≤ (l : ℕ)) (hl : (l : ℕ) < 10240) :
    V m c main_v24 (ix2 k l) = (parOf m c).w k (32 + l) := by
  rw [V_v24]
  generalize h20 : V m c main_v20 = a
  generalize h21 : V m c main_v21 = b
  generalize h23 : V m c main_v23 = d
  pointwise []
  rw [dif_neg (show ¬(l : ℕ) < 8192 by omega), dif_pos (show (l : ℕ) - 8192 < 2048 by omega), ← h21]
  refine (V_v21 m c k ⟨l - 8192, by omega⟩).trans (congrArg _ ?_)
  show 8224 + ((l : ℕ) - 8192) = 32 + l
  omega

/-- An operand of the call: the packed weights from column 10240: the step-size columns of `w_in`. -/
theorem V_v24_2 (k : Fin 1024) (l : Fin 10368) (h₀ : 10240 ≤ (l : ℕ)) (hl : (l : ℕ) < 10272) :
    V m c main_v24 (ix2 k l) = (parOf m c).w k (l - 2048) := by
  rw [V_v24]
  generalize h20 : V m c main_v20 = a
  generalize h21 : V m c main_v21 = b
  generalize h23 : V m c main_v23 = d
  pointwise []
  rw [dif_neg (show ¬(l : ℕ) < 8192 by omega), dif_neg (show ¬(l : ℕ) - 8192 < 2048 by omega), ← h23]
  refine (V_v23 m c k ⟨l - 8192 - 2048, by omega⟩ (show (l : ℕ) - 8192 - 2048 < 32 by omega)).trans (congrArg _ ?_)
  show 8192 + ((l : ℕ) - 8192 - 2048) = l - 2048
  omega

/-- An operand of the call: the position weights with zeros above the diagonal. -/
theorem V_v31 (g : Fin 4) (r l : Fin 128) :
    V m c main_v31 (ix3 g r l) = (parOf m c).wsm g r l := by
  unfold V
  after_reads_simp
  simp only [StableHlo.TRef.ofBuf_toBuf, StableHlo.TRef.ofBuf, StableHlo.TRef.toBuf, cast_eq, id_eq]
  pointwise []
  rw [tri_word]
  unfold Params.wsm
  by_cases h : (l : ℕ) ≤ r
  · rw [if_pos h, if_pos h, if_pos one_pos]
    exact (par_ws g.isLt r.isLt l.isLt).symm
  · rw [if_neg h, if_neg h, if_neg (lt_irrefl _)]

/-- An operand of the call: the lower triangular matrix of ones. -/
theorem V_v54 (r l : Fin 128) :
    V m c main_v54 (ix2 r l) = if (l : ℕ) ≤ r then (1 : EReal) else 0 := by
  unfold V
  after_reads_simp
  simp only [StableHlo.TRef.ofBuf_toBuf, StableHlo.TRef.ofBuf, StableHlo.TRef.toBuf, cast_eq, id_eq]
  pointwise []
  rw [tri_word]

end Cert.Layer

end
-- ==== Proof.Frame.Blocks.lean ====
/- What each grid point writes back to the result array, and the result array block by block. -/
module

public import proofs.«01_k».proof.Proof.Frame.Run
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 22's array: the run's contents for that window after the body (`Gen.outsAt0`: its component 0), read through the window's block. -/
theorem flushed22 (c : Dev nD) (t : Fin cfg0.N) :
    (dats m 0 c).flushed 22 t = (cfg0.win 22).cut (grid0.coords t) ((outsAt0 m c t.val t.isLt).1) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — by the frame's rewriting lemma for the case. -/
theorem flushed22_A (c : Dev nD) (t : Fin cfg0.N) (h0 : t.val % 257 = 0) (h1 : t.val % 32 = 0) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  simp only [flushed22, outsAt0_A m c t h0 h1]

/-- … so at a point where case B runs, what its write-back would write is that case's NAMED TERM for the window (`Gen.out0_B_22`: the pieces
    its run found, read back) at the point's memrefs and input blocks, and for an output the case reads back what the point before left (`Gen.outsAt0` at `t - 1`) — by the frame's rewriting lemma for the case. -/
theorem flushed22_B (c : Dev nD) (t : Fin cfg0.N) (h0 : ¬t.val % 257 = 0) (h1 : ¬t.val % 32 = 0) :
    (dats m 0 c).flushed 22 t = (cfg0.win 22).cut (grid0.coords t) (out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed22, outsAt0_B m c t h0 h1]

/-- … so at a point where case C runs, what its write-back would write is that case's NAMED TERM for the window (`Gen.out0_C_22`: the pieces
    its run found, read back) at the point's memrefs and input blocks, and for an output the case reads back what the point before left (`Gen.outsAt0` at `t - 1`) — by the frame's rewriting lemma for the case. -/
theorem flushed22_C (c : Dev nD) (t : Fin cfg0.N) (h0 : ¬t.val % 257 = 0) (h1 : t.val % 32 = 0) :
    (dats m 0 c).flushed 22 t = (cfg0.win 22).cut (grid0.coords t) (out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed22, outsAt0_C m c t h0 h1]

-- no `blocks22`: window 22's index map revisits a block index, or its points could not be enumerated here;
-- the final array is still the frame's `arrAt`, to read with Lib/Pipeline/Value.lean's lemmas by hand

/-- An index that no flushing point's block covers keeps output window 22's array contents at region entry. -/
theorem entry22 (c : Dev nD) (i : S8x8192x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v55) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v55) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

/-! ## Carried scratch 3: what each point leaves in it, and its fold -/

/-- What point `n` leaves in carried scratch 3, over what the point before left in it (`acc`): the case the conditions'
    closed forms select at `n`, the frame's own term for it (`Gen.sout0_κ_3`; anything else the case takes of the point
    before, another carried scratch or an output it reads back, stays `Gen.outsAt0`'s at `n - 1`); a case at the first point
    stores the scratch whole without reading what it held, and `acc` does not enter there (nor where no point meets the
    conditions: `acc`, never read). -/
def scAt0_3 (c : Dev nD) (n : ℕ) (hb : n < cfg0.N) (acc : Vec F S256x1024 .bf16) : Vec F S256x1024 .bf16 :=
  if h0 : n % 257 = 0 then
    if h1 : n % 32 = 0 then
      sout0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N))
    else
      acc
  else
    if h1 : n % 32 = 0 then
      sout0_C_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2
    else
      sout0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2

/-- WHAT CARRIED SCRATCH 3 HOLDS after point `t`: the fold of its run up to `t`, from the reset at the run's first point
    `257·(t / 257)` (Lib/Pipeline/Value.lean `Pipeline.eq_accAt_of_mod`, by the frame's `outsAt0_κ`; without enumerating the points). -/
theorem soutsAt0_3_eq (c : Dev nD) (t : Fin cfg0.N) :
    (outsAt0 m c t.val t.isLt).2.2.2.1 = Pipeline.accAt (fun n h => scAt0_3 m c n h (VS0_3.read (Elt F) VS0_3.junk)) (scAt0_3 m c) (257 * (t.val / 257)) (t.val % 257)
      (by have h1 := t.isLt; have h2 := Nat.div_add_mod t.val 257; omega) :=
  Pipeline.eq_accAt_of_mod (fun n h => (outsAt0 m c n h).2.2.2.1) 257 (fun n h => scAt0_3 m c n h (VS0_3.read (Elt F) VS0_3.junk)) (scAt0_3 m c)
    (fun n h hn => by
      have hN := lt_of_lt_of_eq h (show cfg0.N = 257 from N_0)
      by_cases h0 : n % 257 = 0 <;> by_cases h1 : n % 32 = 0
      all_goals first | (exfalso; omega) | (rw [outsAt0_A m c ⟨n, h⟩ h0 h1]; dsimp only; unfold scAt0_3; rw [dif_pos h0, dif_pos h1] <;> try rfl) | (rw [outsAt0_B m c ⟨n, h⟩ h0 h1]; dsimp only; unfold scAt0_3; rw [dif_neg h0, dif_neg h1] <;> try rfl) | (rw [outsAt0_C m c ⟨n, h⟩ h0 h1]; dsimp only; unfold scAt0_3; rw [dif_neg h0, dif_pos h1] <;> try rfl))
    (fun n h hn => by
      have hN := lt_of_lt_of_eq h (show cfg0.N = 257 from N_0)
      by_cases h0 : (n + 1) % 257 = 0 <;> by_cases h1 : (n + 1) % 32 = 0
      all_goals first | (exfalso; omega) | (rw [outsAt0_A m c ⟨n + 1, h⟩ h0 h1]; dsimp only; unfold scAt0_3; rw [dif_pos h0, dif_pos h1] <;> try rfl) | (rw [outsAt0_B m c ⟨n + 1, h⟩ h0 h1]; dsimp only; unfold scAt0_3; rw [dif_neg h0, dif_neg h1] <;> try rfl) | (rw [outsAt0_C m c ⟨n + 1, h⟩ h0 h1]; dsimp only; unfold scAt0_3; rw [dif_neg h0, dif_pos h1] <;> try rfl))
    (by decide) t.val t.isLt _

/-- One run spans the grid (the only reset is at point 0): after point `n` the scratch is the fold from 0 to `n`. -/
theorem soutsAt0_3_sweep (c : Dev nD) (n : ℕ) (hn : n < cfg0.N) :
    (outsAt0 m c n hn).2.2.2.1 = Pipeline.accAt (fun n h => scAt0_3 m c n h (VS0_3.read (Elt F) VS0_3.junk)) (scAt0_3 m c) 0 n (by omega) := by
  have e := soutsAt0_3_eq m c ⟨n, hn⟩
  have hN := lt_of_lt_of_eq hn (show cfg0.N = 257 from N_0)
  have hd : n / 257 = 0 := Nat.div_eq_of_lt hN
  have hm : n % 257 = n := Nat.mod_eq_of_lt hN
  simpa only [hd, hm, Nat.mul_zero] using e

/-! ## Carried scratch 4: what each point leaves in it, and its fold -/

/-- What point `n` leaves in carried scratch 4, over what the point before left in it (`acc`): the case the conditions'
    closed forms select at `n`, the frame's own term for it (`Gen.sout0_κ_4`; anything else the case takes of the point
    before, another carried scratch or an output it reads back, stays `Gen.outsAt0`'s at `n - 1`); a case at the first point
    stores the scratch whole without reading what it held, and `acc` does not enter there (nor where no point meets the
    conditions: `acc`, never read). -/
def scAt0_4 (c : Dev nD) (n : ℕ) (hb : n < cfg0.N) (acc : Vec F S256x1024 .f32) : Vec F S256x1024 .f32 :=
  if h0 : n % 257 = 0 then
    if h1 : n % 32 = 0 then
      sout0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N))
    else
      acc
  else
    if h1 : n % 32 = 0 then
      sout0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc
    else
      sout0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) (ms0_20 (⟨n, hb⟩ : Fin cfg0.N)) (hs0_20 (⟨n, hb⟩ : Fin cfg0.N)) (ms0_21 (⟨n, hb⟩ : Fin cfg0.N)) (hs0_21 (⟨n, hb⟩ : Fin cfg0.N)) (ms0_22 (⟨n, hb⟩ : Fin cfg0.N)) (hs0_22 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) (iblk m c 19 (⟨n, hb⟩ : Fin cfg0.N)) (iblk m c 20 (⟨n, hb⟩ : Fin cfg0.N)) (iblk m c 21 (⟨n, hb⟩ : Fin cfg0.N)) (outsAt0 m c ((⟨n, hb⟩ : Fin cfg0.N).val - 1) (Nat.lt_of_le_of_lt (Nat.sub_le _ _) (⟨n, hb⟩ : Fin cfg0.N).isLt)).2.1 (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc

/-- WHAT CARRIED SCRATCH 4 HOLDS after point `t`: the fold of its run up to `t`, from the reset at the run's first point
    `257·(t / 257)` (Lib/Pipeline/Value.lean `Pipeline.eq_accAt_of_mod`, by the frame's `outsAt0_κ`; without enumerating the points). -/
theorem soutsAt0_4_eq (c : Dev nD) (t : Fin cfg0.N) :
    (outsAt0 m c t.val t.isLt).2.2.2.2 = Pipeline.accAt (fun n h => scAt0_4 m c n h (VS0_4.read (Elt F) VS0_4.junk)) (scAt0_4 m c) (257 * (t.val / 257)) (t.val % 257)
      (by have h1 := t.isLt; have h2 := Nat.div_add_mod t.val 257; omega) :=
  Pipeline.eq_accAt_of_mod (fun n h => (outsAt0 m c n h).2.2.2.2) 257 (fun n h => scAt0_4 m c n h (VS0_4.read (Elt F) VS0_4.junk)) (scAt0_4 m c)
    (fun n h hn => by
      have hN := lt_of_lt_of_eq h (show cfg0.N = 257 from N_0)
      by_cases h0 : n % 257 = 0 <;> by_cases h1 : n % 32 = 0
      all_goals first | (exfalso; omega) | (rw [outsAt0_A m c ⟨n, h⟩ h0 h1]; dsimp only; unfold scAt0_4; rw [dif_pos h0, dif_pos h1] <;> try rfl) | (rw [outsAt0_B m c ⟨n, h⟩ h0 h1]; dsimp only; unfold scAt0_4; rw [dif_neg h0, dif_neg h1] <;> try rfl) | (rw [outsAt0_C m c ⟨n, h⟩ h0 h1]; dsimp only; unfold scAt0_4; rw [dif_neg h0, dif_pos h1] <;> try rfl))
    (fun n h hn => by
      have hN := lt_of_lt_of_eq h (show cfg0.N = 257 from N_0)
      by_cases h0 : (n + 1) % 257 = 0 <;> by_cases h1 : (n + 1) % 32 = 0
      all_goals first | (exfalso; omega) | (rw [outsAt0_A m c ⟨n + 1, h⟩ h0 h1]; dsimp only; unfold scAt0_4; rw [dif_pos h0, dif_pos h1] <;> try rfl) | (rw [outsAt0_B m c ⟨n + 1, h⟩ h0 h1]; dsimp only; unfold scAt0_4; rw [dif_neg h0, dif_neg h1] <;> try rfl) | (rw [outsAt0_C m c ⟨n + 1, h⟩ h0 h1]; dsimp only; unfold scAt0_4; rw [dif_neg h0, dif_pos h1] <;> try rfl))
    (by decide) t.val t.isLt _

/-- One run spans the grid (the only reset is at point 0): after point `n` the scratch is the fold from 0 to `n`. -/
theorem soutsAt0_4_sweep (c : Dev nD) (n : ℕ) (hn : n < cfg0.N) :
    (outsAt0 m c n hn).2.2.2.2 = Pipeline.accAt (fun n h => scAt0_4 m c n h (VS0_4.read (Elt F) VS0_4.junk)) (scAt0_4 m c) 0 n (by omega) := by
  have e := soutsAt0_4_eq m c ⟨n, hn⟩
  have hN := lt_of_lt_of_eq hn (show cfg0.N = 257 from N_0)
  have hd : n / 257 = 0 := Nat.div_eq_of_lt hN
  have hm : n % 257 = n := Nat.mod_eq_of_lt hN
  simpa only [hd, hm, Nat.mul_zero] using e

end Cert.KernelIdeal.Value

end
-- ==== Proof.Kernel.ConvAB.lean ====
/- The convolution's buffer after each of the two kinds of grid step: all 24 blocks are done. -/
module

public import proofs.«01_k».proof.Proof.Frame.Blocks
public import proofs.«01_k».proof.Proof.Kernel.Conv

@[expose] public section

set_option maxRecDepth 16384

noncomputable section

namespace Cert.Layer

open Idealize.ShloMosaic Cert.KernelIdeal Cert.KernelIdeal.Gen

variable (c : Dev nD) (arg1 : Memref sig .tc .vmem S1x256x1024 .f32) (harg1 : arg1.IsWhole)
  (arg3 : Memref sig .tc .vmem S1024x10368 .bf16) (harg3 : arg3.IsWhole)
  (arg11 : Memref sig .tc .vmem S4x3072 .f32) (harg11 : arg11.IsWhole)
  (arg12 : Memref sig .tc .vmem S1x3072 .f32) (harg12 : arg12.IsWhole)
  (arg16 : Memref sig .tc .vmem S1x1024 .f32) (harg16 : arg16.IsWhole)
  (arg24 : Memref sig .tc .vmem S24x264x128 .f32) (harg24 : arg24.IsWhole)
  (x0 : Vec Ideal S1x256x1024 .f32) (x2 : Vec Ideal S1024x10368 .bf16) (x10 : Vec Ideal S4x3072 .f32)
  (x11 : Vec Ideal S1x3072 .f32) (x15 : Vec Ideal S1x1024 .f32) (xs0 : Vec Ideal S24x264x128 .f32)

/-- The buffer after the first step of a batch: no rows are kept from before. -/
theorem convA (RW : ℕ → ℕ → EReal) (cb : ℕ → EReal) (cw : ℕ → ℕ → EReal)
    (hxb : ∀ l : Fin 3072, x11 (ix2 0 l) = cb l) (hxw : ∀ (i : Fin 4) (l : Fin 3072), x10 (ix2 i l) = cw i l)
    (h0 : ∀ (r : Fin 256) (l : Fin 512), kernelRun0_A.sl.r_29 (F := Ideal) c arg1 harg1 arg3 harg3 arg16 harg16 x0 x2 x15 (ix2 r l) = RW r (0 + l))
    (h1 : ∀ (r : Fin 256) (l : Fin 512), kernelRun0_A.sl.r_30 (F := Ideal) c arg1 harg1 arg3 harg3 arg16 harg16 x0 x2 x15 (ix2 r l) = RW r (512 + l))
    (h2 : ∀ (r : Fin 256) (l : Fin 512), kernelRun0_A.sl.r_49 (F := Ideal) c arg1 harg1 arg3 harg3 arg16 harg16 x0 x2 x15 (ix2 r l) = RW r (1024 + l))
    (h3 : ∀ (r : Fin 256) (l : Fin 512), kernelRun0_A.sl.r_68 (F := Ideal) c arg1 harg1 arg3 harg3 arg16 harg16 x0 x2 x15 (ix2 r l) = RW r (1536 + l))
    (h4 : ∀ (r : Fin 256) (l : Fin 512), kernelRun0_A.sl.r_87 (F := Ideal) c arg1 harg1 arg3 harg3 arg16 harg16 x0 x2 x15 (ix2 r l) = RW r (2048 + l))
    (h5 : ∀ (r : Fin 256) (l : Fin 512), kernelRun0_A.sl.r_104 (F := Ideal) c arg1 harg1 arg3 harg3 arg16 harg16 x0 x2 x15 (ix2 r l) = RW r (2560 + l)) :
    Done (fun _ => Classical.arbitrary _) (fun _ _ _ => 0) RW cb cw 24
      (kernelRun0_A.sl.HS0_97 (F := Ideal) c arg1 harg1 arg3 harg3 arg11 harg11 arg12 harg12 arg16 harg16 arg24 x0 x2 x10 x11 x15) := by
  let rd := arg24.view.readCov (Val := Elt Ideal)
  have hrd : ∀ L B, rd L B = _ := readCov_eq_ov (Val := Elt Ideal) (e := .f32) arg24.view
  refine' conv_step (o := 384) (k := 23) (hso := of_decide_eq_true rfl) rd hrd hxb hxw ?e4 ?e2 ?e1 (by decide) (by decide) h5 (by decide) ?hL23
  case e4 => rfl
  case e2 => rfl
  case e1 => rfl
  case' hL23 => refine' conv_step (o := 256) (k := 22) (hso := of_decide_eq_true rfl) rd hrd hxb hxw ?e4 ?e2 ?e1 (by decide) (by decide) h5 (by decide) ?hL22
  case e4 => rfl
  case e2 => rfl
  case e1 => rfl
  case' hL22 => refine' conv_step (o := 128) (k := 21) (hso := of_decide_eq_true rfl) rd hrd hxb hxw ?e4 ?e2 ?e1 (by decide) (by decide) h5 (by decide) ?hL21
  case e4 => rfl
  case e2 => rfl
  case e1 => rfl
  case' hL21 => refine' conv_step (o := 0) (k := 20) (hso := of_decide_eq_true rfl) rd hrd hxb hxw ?e4 ?e2 ?e1 (by decide) (by decide) h5 (by decide) ?hL20
  case e4 => rfl
  case e2 => rfl
  case e1 => rfl
  case' hL20 => refine' conv_step (o := 384) (k := 19) (hso := of_decide_eq_true rfl) rd hrd hxb hxw ?e4 ?e2 ?e1 (by decide) (by decide) h4 (by decide) ?hL19
  case e4 => rfl
  case e2 => rfl
  case e1 => rfl
  case' hL19 => refine' conv_step (o := 256) (k := 18) (hso := of_decide_eq_true rfl) rd hrd hxb hxw ?e4 ?e2 ?e1 (by decide) (by decide) h4 (by decide) ?hL18
  case e4 => rfl
  case e2 => rfl
  case e1 => rfl
  case' hL18 => refine' conv_step (o := 128) (k := 17) (hso := of_decide_eq_true rfl) rd hrd hxb hxw ?e4 ?e2 ?e1 (by decide) (by decide) h4 (by decide) ?hL17
  case e4 => rfl
  case e2 => rfl
  case e1 => rfl
  case' hL17 => refine' conv_step (o := 0) (k := 16) (hso := of_decide_eq_true rfl) rd hrd hxb hxw ?e4 ?e2 ?e1 (by decide) (by decide) h4 (by decide) ?hL16
  case e4 => rfl
  case e2 => rfl
  case e1 => rfl
  case' hL16 => refine' conv_step (o := 384) (k := 15) (hso := of_decide_eq_true rfl) rd hrd hxb hxw ?e4 ?e2 ?e1 (by decide) (by decide) h3 (by decide) ?hL15
  case e4 => rfl
  case e2 => rfl
  case e1 => rfl
  case' hL15 => refine' conv_step (o := 256) (k := 14) (hso := of_decide_eq_true rfl) rd hrd hxb hxw ?e4 ?e2 ?e1 (by decide) (by decide) h3 (by decide) ?hL14
  case e4 => rfl
  case e2 => rfl
  case e1 => rfl
  case' hL14 => refine' conv_step (o := 128) (k := 13) (hso := of_decide_eq_true rfl) rd hrd hxb hxw ?e4 ?e2 ?e1 (by decide) (by decide) h3 (by decide) ?hL13
  case e4 => rfl
  case e2 => rfl
  case e1 => rfl
  case' hL13 => refine' conv_step (o := 0) (k := 12) (hso := of_decide_eq_true rfl) rd hrd hxb hxw ?e4 ?e2 ?e1 (by decide) (by decide) h3 (by decide) ?hL12
  case e4 => rfl
  case e2 => rfl
  case e1 => rfl
  case' hL12 => refine' conv_step (o := 384) (k := 11) (hso := of_decide_eq_true rfl) rd hrd hxb hxw ?e4 ?e2 ?e1 (by decide) (by decide) h2 (by decide) ?hL11
  case e4 => rfl
  case e2 => rfl
  case e1 => rfl
  case' hL11 => refine' conv_step (o := 256) (k := 10) (hso := of_decide_eq_true rfl) rd hrd hxb hxw ?e4 ?e2 ?e1 (by decide) (by decide) h2 (by decide) ?hL10
  case e4 => rfl
  case e2 => rfl
  case e1 => rfl
  case' hL10 => refine' conv_step (o := 128) (k := 9) (hso := of_decide_eq_true rfl) rd hrd hxb hxw ?e4 ?e2 ?e1 (by decide) (by decide) h2 (by decide) ?hL9
  case e4 => rfl
  case e2 => rfl
  case e1 => rfl
  case' hL9 => refine' conv_step (o := 0) (k := 8) (hso := of_decide_eq_true rfl) rd hrd hxb hxw ?e4 ?e2 ?e1 (by decide) (by decide) h2 (by decide) ?hL8
  case e4 => rfl
  case e2 => rfl
  case e1 => rfl
  case' hL8 => refine' conv_step (o := 384) (k := 7) (hso := of_decide_eq_true rfl) rd hrd hxb hxw ?e4 ?e2 ?e1 (by decide) (by decide) h1 (by decide) ?hL7
  case e4 => rfl
  case e2 => rfl
  case e1 => rfl
  case' hL7 => refine' conv_step (o := 256) (k := 6) (hso := of_decide_eq_true rfl) rd hrd hxb hxw ?e4 ?e2 ?e1 (by decide) (by decide) h1 (by decide) ?hL6
  case e4 => rfl
  case e2 => rfl
  case e1 => rfl
  case' hL6 => refine' conv_step (o := 128) (k := 5) (hso := of_decide_eq_true rfl) rd hrd hxb hxw ?e4 ?e2 ?e1 (by decide) (by decide) h1 (by decide) ?hL5
  case e4 => rfl
  case e2 => rfl
  case e1 => rfl
  case' hL5 => refine' conv_step (o := 0) (k := 4) (hso := of_decide_eq_true rfl) rd hrd hxb hxw ?e4 ?e2 ?e1 (by decide) (by decide) h1 (by decide) ?hL4
  case e4 => rfl
  case e2 => rfl
  case e1 => rfl
  case' hL4 => refine' conv_step (o := 384) (k := 3) (hso := of_decide_eq_true rfl) rd hrd hxb hxw ?e4 ?e2 ?e1 (by decide) (by decide) h0 (by decide) ?hL3
  case e4 => rfl
  case e2 => rfl
  case e1 => rfl
  case' hL3 => refine' conv_step (o := 256) (k := 2) (hso := of_decide_eq_true rfl) rd hrd hxb hxw ?e4 ?e2 ?e1 (by decide) (by decide) h0 (by decide) ?hL2
  case e4 => rfl
  case e2 => rfl
  case e1 => rfl
  case' hL2 => refine' conv_step (o := 128) (k := 1) (hso := of_decide_eq_true rfl) rd hrd hxb hxw ?e4 ?e2 ?e1 (by decide) (by decide) h0 (by decide) ?hL1
  case e4 => rfl
  case e2 => rfl
  case e1 => rfl
  case' hL1 => refine' conv_step (o := 0) (k := 0) (hso := of_decide_eq_true rfl) rd hrd hxb hxw ?e4 ?e2 ?e1 (by decide) (by decide) h0 (by decide) ?hL0
  case e4 => rfl
  case e2 => rfl
  case e1 => rfl
  case' hL0 => refine ⟨?l, ?r⟩
  all_goals try decide
  case l =>
    intro y a r l h; omega
  case r =>
    intro a r l _ hr
    have e : (Rect.unit (s := S24x264x128) ![0, 0, 0] S24x8x128.size inb_S24x264x128_S24x8x128_0_0_0).emb (ix3 a ⟨r, hr⟩ l) = ix3 a r l := by
      funext i
      fin_cases i
      · exact Fin.ext (by show 0 + 1 * a.val = a.val; omega)
      · exact Fin.ext (by show 0 + 1 * r.val = r.val; omega)
      · exact Fin.ext (by show 0 + 1 * l.val = l.val; omega)
    rw [← e]
    refine (ov_cons_emb (Val := Elt Ideal) (e := .f32) _ _ _ _ _).trans ?_
    show k0_pay5 (F := Ideal) (ix3 a ⟨r, hr⟩ l) = 0
    pointwise [k0_pay5]

/-- The buffer after a later step of a batch: eight rows of each block are kept from the step before. -/
theorem convB (RW : ℕ → ℕ → EReal) (cb : ℕ → EReal) (cw : ℕ → ℕ → EReal)
    (hxb : ∀ l : Fin 3072, x11 (ix2 0 l) = cb l) (hxw : ∀ (i : Fin 4) (l : Fin 3072), x10 (ix2 i l) = cw i l)
    (T : ℕ → ℕ → ℕ → EReal)
    (hT : ∀ (a : Fin 24) (r : Fin 264) (l : Fin 128), (r : ℕ) < 8 → xs0 (ix3 a r l) = T a r l)
    (h0 : ∀ (r : Fin 256) (l : Fin 512), kernelRun0_B.sl.r_29 (F := Ideal) c arg1 harg1 arg3 harg3 arg16 harg16 x0 x2 x15 (ix2 r l) = RW r (0 + l))
    (h1 : ∀ (r : Fin 256) (l : Fin 512), kernelRun0_B.sl.r_30 (F := Ideal) c arg1 harg1 arg3 harg3 arg16 harg16 x0 x2 x15 (ix2 r l) = RW r (512 + l))
    (h2 : ∀ (r : Fin 256) (l : Fin 512), kernelRun0_B.sl.r_49 (F := Ideal) c arg1 harg1 arg3 harg3 arg16 harg16 x0 x2 x15 (ix2 r l) = RW r (1024 + l))
    (h3 : ∀ (r : Fin 256) (l : Fin 512), kernelRun0_B.sl.r_68 (F := Ideal) c arg1 harg1 arg3 harg3 arg16 harg16 x0 x2 x15 (ix2 r l) = RW r (1536 + l))
    (h4 : ∀ (r : Fin 256) (l : Fin 512), kernelRun0_B.sl.r_87 (F := Ideal) c arg1 harg1 arg3 harg3 arg16 harg16 x0 x2 x15 (ix2 r l) = RW r (2048 + l))
    (h5 : ∀ (r : Fin 256) (l : Fin 512), kernelRun0_B.sl.r_104 (F := Ideal) c arg1 harg1 arg3 harg3 arg16 harg16 x0 x2 x15 (ix2 r l) = RW r (2560 + l)) :
    Done xs0 T RW cb cw 24
      (kernelRun0_B.sl.HS0_96 (F := Ideal) c arg1 harg1 arg3 harg3 arg11 harg11 arg12 harg12 arg16 harg16 arg24 harg24 x0 x2 x10 x11 x15 xs0) := by
  let rd := fun (L : List (View.Piece (Elt Ideal) S24x264x128 .f32)) (B : LoadRect S24x264x128) => arg24.view.readAt (Elt Ideal) B (arg24.view.writes (Elt Ideal) (harg24.unread xs0) L)
  have hrd : ∀ L B, rd L B = _ := readAt_writes_eq_ov (Val := Elt Ideal) (e := .f32) harg24 xs0
  refine' conv_step (o := 384) (k := 23) (hso := of_decide_eq_true rfl) rd hrd hxb hxw ?e4 ?e2 ?e1 (by decide) (by decide) h5 (by decide) ?hL23
  case e4 => rfl
  case e2 => rfl
  case e1 => rfl
  case' hL23 => refine' conv_step (o := 256) (k := 22) (hso := of_decide_eq_true rfl) rd hrd hxb hxw ?e4 ?e2 ?e1 (by decide) (by decide) h5 (by decide) ?hL22
  case e4 => rfl
  case e2 => rfl
  case e1 => rfl
  case' hL22 => refine' conv_step (o := 128) (k := 21) (hso := of_decide_eq_true rfl) rd hrd hxb hxw ?e4 ?e2 ?e1 (by decide) (by decide) h5 (by decide) ?hL21
  case e4 => rfl
  case e2 => rfl
  case e1 => rfl
  case' hL21 => refine' conv_step (o := 0) (k := 20) (hso := of_decide_eq_true rfl) rd hrd hxb hxw ?e4 ?e2 ?e1 (by decide) (by decide) h5 (by decide) ?hL20
  case e4 => rfl
  case e2 => rfl
  case e1 => rfl
  case' hL20 => refine' conv_step (o := 384) (k := 19) (hso := of_decide_eq_true rfl) rd hrd hxb hxw ?e4 ?e2 ?e1 (by decide) (by decide) h4 (by decide) ?hL19
  case e4 => rfl
  case e2 => rfl
  case e1 => rfl
  case' hL19 => refine' conv_step (o := 256) (k := 18) (hso := of_decide_eq_true rfl) rd hrd hxb hxw ?e4 ?e2 ?e1 (by decide) (by decide) h4 (by decide) ?hL18
  case e4 => rfl
  case e2 => rfl
  case e1 => rfl
  case' hL18 => refine' conv_step (o := 128) (k := 17) (hso := of_decide_eq_true rfl) rd hrd hxb hxw ?e4 ?e2 ?e1 (by decide) (by decide) h4 (by decide) ?hL17
  case e4 => rfl
  case e2 => rfl
  case e1 => rfl
  case' hL17 => refine' conv_step (o := 0) (k := 16) (hso := of_decide_eq_true rfl) rd hrd hxb hxw ?e4 ?e2 ?e1 (by decide) (by decide) h4 (by decide) ?hL16
  case e4 => rfl
  case e2 => rfl
  case e1 => rfl
  case' hL16 => refine' conv_step (o := 384) (k := 15) (hso := of_decide_eq_true rfl) rd hrd hxb hxw ?e4 ?e2 ?e1 (by decide) (by decide) h3 (by decide) ?hL15
  case e4 => rfl
  case e2 => rfl
  case e1 => rfl
  case' hL15 => refine' conv_step (o := 256) (k := 14) (hso := of_decide_eq_true rfl) rd hrd hxb hxw ?e4 ?e2 ?e1 (by decide) (by decide) h3 (by decide) ?hL14
  case e4 => rfl
  case e2 => rfl
  case e1 => rfl
  case' hL14 => refine' conv_step (o := 128) (k := 13) (hso := of_decide_eq_true rfl) rd hrd hxb hxw ?e4 ?e2 ?e1 (by decide) (by decide) h3 (by decide) ?hL13
  case e4 => rfl
  case e2 => rfl
  case e1 => rfl
  case' hL13 => refine' conv_step (o := 0) (k := 12) (hso := of_decide_eq_true rfl) rd hrd hxb hxw ?e4 ?e2 ?e1 (by decide) (by decide) h3 (by decide) ?hL12
  case e4 => rfl
  case e2 => rfl
  case e1 => rfl
  case' hL12 => refine' conv_step (o := 384) (k := 11) (hso := of_decide_eq_true rfl) rd hrd hxb hxw ?e4 ?e2 ?e1 (by decide) (by decide) h2 (by decide) ?hL11
  case e4 => rfl
  case e2 => rfl
  case e1 => rfl
  case' hL11 => refine' conv_step (o := 256) (k := 10) (hso := of_decide_eq_true rfl) rd hrd hxb hxw ?e4 ?e2 ?e1 (by decide) (by decide) h2 (by decide) ?hL10
  case e4 => rfl
  case e2 => rfl
  case e1 => rfl
  case' hL10 => refine' conv_step (o := 128) (k := 9) (hso := of_decide_eq_true rfl) rd hrd hxb hxw ?e4 ?e2 ?e1 (by decide) (by decide) h2 (by decide) ?hL9
  case e4 => rfl
  case e2 => rfl
  case e1 => rfl
  case' hL9 => refine' conv_step (o := 0) (k := 8) (hso := of_decide_eq_true rfl) rd hrd hxb hxw ?e4 ?e2 ?e1 (by decide) (by decide) h2 (by decide) ?hL8
  case e4 => rfl
  case e2 => rfl
  case e1 => rfl
  case' hL8 => refine' conv_step (o := 384) (k := 7) (hso := of_decide_eq_true rfl) rd hrd hxb hxw ?e4 ?e2 ?e1 (by decide) (by decide) h1 (by decide) ?hL7
  case e4 => rfl
  case e2 => rfl
  case e1 => rfl
  case' hL7 => refine' conv_step (o := 256) (k := 6) (hso := of_decide_eq_true rfl) rd hrd hxb hxw ?e4 ?e2 ?e1 (by decide) (by decide) h1 (by decide) ?hL6
  case e4 => rfl
  case e2 => rfl
  case e1 => rfl
  case' hL6 => refine' conv_step (o := 128) (k := 5) (hso := of_decide_eq_true rfl) rd hrd hxb hxw ?e4 ?e2 ?e1 (by decide) (by decide) h1 (by decide) ?hL5
  case e4 => rfl
  case e2 => rfl
  case e1 => rfl
  case' hL5 => refine' conv_step (o := 0) (k := 4) (hso := of_decide_eq_true rfl) rd hrd hxb hxw ?e4 ?e2 ?e1 (by decide) (by decide) h1 (by decide) ?hL4
  case e4 => rfl
  case e2 => rfl
  case e1 => rfl
  case' hL4 => refine' conv_step (o := 384) (k := 3) (hso := of_decide_eq_true rfl) rd hrd hxb hxw ?e4 ?e2 ?e1 (by decide) (by decide) h0 (by decide) ?hL3
  case e4 => rfl
  case e2 => rfl
  case e1 => rfl
  case' hL3 => refine' conv_step (o := 256) (k := 2) (hso := of_decide_eq_true rfl) rd hrd hxb hxw ?e4 ?e2 ?e1 (by decide) (by decide) h0 (by decide) ?hL2
  case e4 => rfl
  case e2 => rfl
  case e1 => rfl
  case' hL2 => refine' conv_step (o := 128) (k := 1) (hso := of_decide_eq_true rfl) rd hrd hxb hxw ?e4 ?e2 ?e1 (by decide) (by decide) h0 (by decide) ?hL1
  case e4 => rfl
  case e2 => rfl
  case e1 => rfl
  case' hL1 => refine' conv_step (o := 0) (k := 0) (hso := of_decide_eq_true rfl) rd hrd hxb hxw ?e4 ?e2 ?e1 (by decide) (by decide) h0 (by decide) ?hL0
  case e4 => rfl
  case e2 => rfl
  case e1 => rfl
  case' hL0 => refine ⟨?l, ?r⟩
  all_goals try decide
  case l =>
    intro y a r l h; omega
  case r =>
    intro a r l _ hr
    exact hT a r l hr

end Cert.Layer

end
-- ==== Proof.Kernel.Dense.lean ====
/- The dense parts of one tile's step: the normalized rows, their projections, the gated branch, the merge, and the last
   part of the layer, each payload's element as the layer's mathematics says it. -/
module

public import proofs.«01_k».proof.Proof.Gen.KernelIdeal.Skeleton
public import proofs.«01_k».proof.Proof.Kernel.Conv

@[expose] public section

set_option maxRecDepth 16384

noncomputable section

namespace Cert.Layer

open Idealize.ShloMosaic Cert.KernelIdeal Cert.KernelIdeal.Gen

variable {P : Params} {b s0 : ℕ}

/-- The normalized rows. -/
theorem hid_value {x : Vec Ideal S1x256x1024 .f32} {g : Vec Ideal S1x1024 .f32}
    (hx : ∀ (r : Fin 256) (d : Fin 1024), x (ix3 0 r d) = P.x b (s0 + r) d)
    (hg : ∀ d : Fin 1024, g (ix2 0 d) = P.normG d) (r : Fin 256) (d : Fin 1024) :
    k0_pay11 (F := Ideal) (k0_pay7 x) (k0_pay8 g) (k0_pay9 x) k0_pay10 (ix2 r d) = P.hid b (s0 + r) d := by
  unfold Params.hid rms rinv
  simp only [← hx, ← hg]
  pointwise [k0_pay11, k0_pay7, k0_pay8, k0_pay9, k0_pay10]

/-- The unit, with the cube associated as the kernel multiplies it. -/
theorem gel_cube (v : EReal) : v * (lit 0x3F000000#32 * (1 + Ideal.tanh
    (lit 0x3F4C422A#32 * (v + lit 0x3D372713#32 * (v * (v * v)))))) = gel v := by
  unfold gel; rw [mul_assoc v v v]

/-- 512 columns of the projection. -/
theorem mm_value {h : FVec Ideal S256x1024 .bf16} {w : Vec Ideal S1024x512 .bf16} {o : ℕ}
    (hh : ∀ (r : Fin 256) (k : Fin 1024), h (ix2 r k) = P.hid b (s0 + r) k)
    (hw : ∀ (k : Fin 1024) (l : Fin 512), w (ix2 k l) = P.w k (o + l)) (r : Fin 256) (l : Fin 512) :
    k0_pay217 h w (ix2 r l) = P.proj b (s0 + r) (o + l) := by
  unfold Params.proj
  simp only [← hh, ← hw]
  pointwise [k0_pay217]

/-- 512 columns of a gate. -/
theorem sig_value {h : FVec Ideal S256x1024 .bf16} {w : Vec Ideal S1024x512 .bf16} {o : ℕ}
    (hh : ∀ (r : Fin 256) (k : Fin 1024), h (ix2 r k) = P.hid b (s0 + r) k)
    (hw : ∀ (k : Fin 1024) (l : Fin 512), w (ix2 k l) = P.w k (o + l)) (r : Fin 256) (l : Fin 512) :
    k0_pay353 h w (ix2 r l) = sgm (P.proj b (s0 + r) (o + l)) := by
  unfold Params.proj sgm
  simp only [← hh, ← hw]
  pointwise [k0_pay353]
  split
  · rw [zero_sub']
  · next hr =>
    have e : 128 + ((r : ℕ) - 128) = r := by omega
    simp only [e, zero_sub', Fin.eta]

/-- 512 columns with their unit. -/
theorem slu_value {h : FVec Ideal S256x1024 .bf16} {w : Vec Ideal S1024x512 .bf16} {o : ℕ}
    (hh : ∀ (r : Fin 256) (k : Fin 1024), h (ix2 r k) = P.hid b (s0 + r) k)
    (hw : ∀ (k : Fin 1024) (l : Fin 512), w (ix2 k l) = P.w k (o + l)) (r : Fin 256) (l : Fin 512) :
    k0_pay340 h w (ix2 r l) = slu (P.proj b (s0 + r) (o + l)) := by
  unfold Params.proj slu sgm
  simp only [← hh, ← hw]
  pointwise [k0_pay340]
  split
  · rw [zero_sub']
  · next hr =>
    have e : 128 + ((r : ℕ) - 128) = r := by omega
    simp only [e, zero_sub', Fin.eta]

/-- Four pieces of 512 columns side by side. -/
def four (p0 p1 p2 p3 : FVec Ideal S256x512 .f32) : FVec Ideal S256x2048 .f32 :=
  concatenate S256x2048 1 [⟨S256x512, p0⟩, ⟨S256x512, p1⟩, ⟨S256x512, p2⟩, ⟨S256x512, p3⟩]
    concatenates_S256x512_S256x512_S256x512_S256x512_S256x2048_d1

/-- Four blocks of columns, each a function of its own columns, are side by side that function. -/
theorem four_value {p0 p1 p2 p3 : FVec Ideal S256x512 .f32} {f : ℕ → ℕ → EReal}
    (h0 : ∀ (r : Fin 256) (l : Fin 512), p0 (ix2 r l) = f r l)
    (h1 : ∀ (r : Fin 256) (l : Fin 512), p1 (ix2 r l) = f r (512 + l))
    (h2 : ∀ (r : Fin 256) (l : Fin 512), p2 (ix2 r l) = f r (1024 + l))
    (h3 : ∀ (r : Fin 256) (l : Fin 512), p3 (ix2 r l) = f r (1536 + l)) (r : Fin 256) (q : Fin 2048) :
    four p0 p1 p2 p3 (ix2 r q) = f r q := by
  pointwise [four]
  simp only [h0, h1, h2, h3]
  repeat' split
  all_goals congr 1
  all_goals omega

/-- The projection's columns of the gated branch. -/
theorem uvz_value {h : FVec Ideal S256x1024 .bf16} {p0 p1 p2 p3 : FVec Ideal S256x512 .f32}
    {w4 w5 : Vec Ideal S1024x512 .bf16}
    (hh : ∀ (r : Fin 256) (k : Fin 1024), h (ix2 r k) = P.hid b (s0 + r) k)
    (h0 : ∀ (r : Fin 256) (l : Fin 512), p0 (ix2 r l) = P.proj b (s0 + r) (0 + l))
    (h1 : ∀ (r : Fin 256) (l : Fin 512), p1 (ix2 r l) = P.proj b (s0 + r) (512 + l))
    (h2 : ∀ (r : Fin 256) (l : Fin 512), p2 (ix2 r l) = P.proj b (s0 + r) (1024 + l))
    (h3 : ∀ (r : Fin 256) (l : Fin 512), p3 (ix2 r l) = P.proj b (s0 + r) (1536 + l))
    (h4 : ∀ (k : Fin 1024) (l : Fin 512), w4 (ix2 k l) = P.w k (2048 + l))
    (h5 : ∀ (k : Fin 1024) (l : Fin 512), w5 (ix2 k l) = P.w k (2560 + l)) (r : Fin 256) (q : Fin 3072) :
    k0_pay339 h p0 p1 p2 p3 w4 w5 (ix2 r q) = P.proj b (s0 + r) q := by
  have e4 := mm_value (s0 := s0) hh h4
  have e5 := mm_value (s0 := s0) hh h5
  have e : k0_pay339 h p0 p1 p2 p3 w4 w5 = concatenate S256x3072 1 [⟨S256x512, p0⟩, ⟨S256x512, p1⟩, ⟨S256x512, p2⟩,
    ⟨S256x512, p3⟩, ⟨S256x512, k0_pay217 h w4⟩, ⟨S256x512, k0_pay217 h w5⟩]
      concatenates_S256x512_S256x512_S256x512_S256x512_S256x512_S256x512_S256x3072_d1 := rfl
  rw [e]
  generalize k0_pay217 h w4 = p4 at e4
  generalize k0_pay217 h w5 = p5 at e5
  pointwise []
  simp only [h0, h1, h2, h3, e4, e5]
  repeat' split
  all_goals congr 1
  all_goals omega

/-- The first part's unit. -/
theorem u_value {u : FVec Ideal S256x3072 .f32} {g : FVec Ideal S256x1024 .f32}
    (hu : ∀ (r : Fin 256) (q : Fin 3072), u (ix2 r q) = P.proj b (s0 + r) q)
    (hg : ∀ (r : Fin 256) (q : Fin 1024), g (ix2 r q) = u (ix2 r ⟨q, by omega⟩))
    (r : Fin 256) (d : Fin 1024) :
    k0_pay342 g (ix2 r d) = gel (P.proj b (s0 + r) d) := by
  pointwise [k0_pay342]
  simp only [hg, hu, ← gel_cube]
  split
  · rfl
  · next hr =>
    have e : 128 + ((r : ℕ) - 128) = r := by omega
    simp only [e]

/-- The second part after its unit and its normalization. -/
theorem ln_value {u : FVec Ideal S256x3072 .f32} {g l g' l' : Vec Ideal S1x1024 .f32}
    (hu : ∀ (r : Fin 256) (q : Fin 3072), u (ix2 r q) = P.proj b (s0 + r) q)
    (hg : ∀ d : Fin 1024, g (ix2 0 d) = P.lnG d) (hl : ∀ d : Fin 1024, l (ix2 0 d) = P.lnB d)
    (hg' : ∀ d : Fin 1024, g' (ix2 0 d) = P.lnG d) (hl' : ∀ d : Fin 1024, l' (ix2 0 d) = P.lnB d)
    (r : Fin 256) (d : Fin 1024) :
    k0_pay350 (k0_pay348 u) (k0_pay349 u g l) g' l' (ix2 r d) = P.gvn b (s0 + r) d := by
  unfold Params.gvn rinv Params.gvc Params.gv
  pointwise [k0_pay348, k0_pay349, k0_pay350]
  simp only [hu, hg, hl, hg', hl', gel_cube]
  split
  · rfl
  · next hr =>
    have e : 128 + ((r : ℕ) - 128) = r := by omega
    simp only [e]

/-- The first chunk of the tile, mixed. -/
theorem sv_value₀ {c : ℕ} {v : FVec Ideal S256x1024 .bf16} {w0 w1 w2 w3 : Vec Ideal S1x128x128 .bf16}
    {bs : Vec Ideal S128x1024 .f32} (hs : s0 = c * 128)
    (hv : ∀ (r : Fin 256) (d : Fin 1024), v (ix2 r d) = P.gvn b (s0 + r) d)
    (h0 : ∀ r k : Fin 128, w0 (ix3 0 r k) = P.wsm 0 r k) (h1 : ∀ r k : Fin 128, w1 (ix3 0 r k) = P.wsm 1 r k)
    (h2 : ∀ r k : Fin 128, w2 (ix3 0 r k) = P.wsm 2 r k) (h3 : ∀ r k : Fin 128, w3 (ix3 0 r k) = P.wsm 3 r k)
    (hb : ∀ (r : Fin 128) (d : Fin 1024), bs (ix2 r d) = P.bs (d / 256) r) (r : Fin 128) (d : Fin 1024) :
    k0_pay443 v w0 w1 w2 w3 bs (ix2 r d) = P.sv b (s0 + r) d := by
  have e1 : (s0 + r) % 128 = r := by omega
  have e2 : (s0 + r) / 128 * 128 = s0 := by omega
  unfold Params.sv
  rw [e1, e2]
  pointwise [k0_pay443]
  simp only [hb, hv, h0, h1, h2, h3]
  repeat' split
  · rw [show (d : ℕ) / 256 = 0 by omega]
  · rw [show (d : ℕ) / 256 = 1 by omega, show 256 + ((d : ℕ) - 256) = d by omega]
  · rw [show (d : ℕ) / 256 = 2 by omega, show 512 + ((d : ℕ) - 256 - 256) = d by omega]
  · rw [show (d : ℕ) / 256 = 3 by omega, show 768 + ((d : ℕ) - 256 - 256 - 256) = d by omega]

/-- The second chunk of the tile, mixed. -/
theorem sv_value₁ {c : ℕ} {v : FVec Ideal S256x1024 .bf16} {w0 w1 w2 w3 : Vec Ideal S1x128x128 .bf16}
    {bs : Vec Ideal S128x1024 .f32} (hs : s0 = c * 128)
    (hv : ∀ (r : Fin 256) (d : Fin 1024), v (ix2 r d) = P.gvn b (s0 + r) d)
    (h0 : ∀ r k : Fin 128, w0 (ix3 0 r k) = P.wsm 0 r k) (h1 : ∀ r k : Fin 128, w1 (ix3 0 r k) = P.wsm 1 r k)
    (h2 : ∀ r k : Fin 128, w2 (ix3 0 r k) = P.wsm 2 r k) (h3 : ∀ r k : Fin 128, w3 (ix3 0 r k) = P.wsm 3 r k)
    (hb : ∀ (r : Fin 128) (d : Fin 1024), bs (ix2 r d) = P.bs (d / 256) r) (r : Fin 128) (d : Fin 1024) :
    k0_pay465 v (k0_pay464 v w0) w1 w2 w3 bs (ix2 r d) = P.sv b (s0 + (128 + r)) d := by
  have e1 : (s0 + (128 + r)) % 128 = r := by omega
  have e2 : (s0 + (128 + r)) / 128 * 128 = s0 + 128 := by omega
  unfold Params.sv
  rw [e1, e2]
  pointwise [k0_pay464, k0_pay465]
  simp only [hb, hv, h0, h1, h2, h3, add_assoc]
  repeat' split
  · rw [show (d : ℕ) / 256 = 0 by omega]
  · rw [show (d : ℕ) / 256 = 1 by omega, show 256 + ((d : ℕ) - 256) = d by omega]
  · rw [show (d : ℕ) / 256 = 2 by omega, show 512 + ((d : ℕ) - 256 - 256) = d by omega]
  · rw [show (d : ℕ) / 256 = 3 by omega, show 768 + ((d : ℕ) - 256 - 256 - 256) = d by omega]

/-- The gated branch before its output product. -/
theorem ya_value {u : FVec Ideal S256x3072 .f32} {g : FVec Ideal S256x1024 .f32} {v0 v1 : FVec Ideal S128x1024 .f32}
    (hu : ∀ (r : Fin 256) (q : Fin 3072), u (ix2 r q) = P.proj b (s0 + r) q)
    (hg : ∀ (r : Fin 256) (q : Fin 1024), g (ix2 r q) = gel (P.proj b (s0 + r) q))
    (h0 : ∀ (r : Fin 128) (d : Fin 1024), v0 (ix2 r d) = P.sv b (s0 + r) d)
    (h1 : ∀ (r : Fin 128) (d : Fin 1024), v1 (ix2 r d) = P.sv b (s0 + (128 + r)) d) (r : Fin 256) (d : Fin 1024) :
    k0_pay488 u g v0 v1 (ix2 r d) = P.ya b (s0 + r) d := by
  unfold Params.ya slu sgm
  pointwise [k0_pay488]
  simp only [hu, hg, h0, h1, zero_sub']
  split
  · rfl
  · next hr =>
    have e : 128 + ((r : ℕ) - 128) = r := by omega
    simp only [e]

/-- 512 columns of the gated branch. -/
theorem oa_value {y : FVec Ideal S256x1024 .bf16} {w : Vec Ideal S1024x512 .bf16} {o : ℕ}
    (hy : ∀ (r : Fin 256) (d : Fin 1024), y (ix2 r d) = P.ya b (s0 + r) d)
    (hw : ∀ (k : Fin 1024) (l : Fin 512), w (ix2 k l) = P.wOa k (o + l)) (r : Fin 256) (l : Fin 512) :
    k0_pay513 y w (ix2 r l) = P.oa b (s0 + r) (o + l) := by
  unfold Params.oa
  simp only [← hy, ← hw]
  pointwise [k0_pay513]

/-- The tile's merged rows. -/
theorem mg_value {g0 g1 g2 g3 o0 o1 : FVec Ideal S256x512 .f32} {z y : FVec Ideal S256x2048 .f32}
    {sg : Vec Ideal S1x2048 .f32} {w : Vec Ideal S2048x1024 .bf16}
    (h0 : ∀ (r : Fin 256) (l : Fin 512), g0 (ix2 r l) = sgm (P.proj b (s0 + r) (8224 + l)))
    (h1 : ∀ (r : Fin 256) (l : Fin 512), g1 (ix2 r l) = sgm (P.proj b (s0 + r) (8736 + l)))
    (h2 : ∀ (r : Fin 256) (l : Fin 512), g2 (ix2 r l) = sgm (P.proj b (s0 + r) (9248 + l)))
    (h3 : ∀ (r : Fin 256) (l : Fin 512), g3 (ix2 r l) = sgm (P.proj b (s0 + r) (9760 + l)))
    (h4 : ∀ (r : Fin 256) (l : Fin 512), o0 (ix2 r l) = P.oa b (s0 + r) (0 + l))
    (h5 : ∀ (r : Fin 256) (l : Fin 512), o1 (ix2 r l) = P.oa b (s0 + r) (512 + l))
    (hz : ∀ (r : Fin 256) (q : Fin 2048), z (ix2 r q) = slu (P.proj b (s0 + r) (3072 + q)))
    (hy : ∀ (r : Fin 256) (q : Fin 2048), y (ix2 r q)
      = P.yd b (s0 + r) q + P.yo b (s0 + r) q + P.cv b (s0 + r) q * P.dSkip (q / 64))
    (hg : ∀ q : Fin 2048, sg (ix2 0 q) = P.ssmG q)
    (hw : ∀ (q : Fin 2048) (d : Fin 1024), w (ix2 q d) = P.wOb q d) (r : Fin 256) (d : Fin 1024) :
    k0_pay540 g0 g1 g2 g3 o0 o1 (k0_pay536 z y) (k0_pay537 z y) (k0_pay538 z y) (k0_pay539 z y)
      (Scalar.ofBits .f32 0x358637BD#32) sg w (ix2 r d) = P.mg b (s0 + r) d := by
  have hyz : ∀ (r : Fin 256) (q : Fin 2048), y (ix2 r q) * z (ix2 r q) = P.yz b (s0 + r) q := fun r q => by
    rw [hy, hz]; rfl
  unfold Params.mg Params.ob Params.yn rinv
  pointwise [k0_pay536, k0_pay537, k0_pay538, k0_pay539, k0_pay540]
  simp only [hyz, hg, hw, h0, h1, h2, h3, h4, h5]
  refine congrArg₂ (· + ·) (congrArg₂ (· * ·) ?_ ?_) (congrArg₂ (· * ·) ?_ (Finset.sum_congr rfl fun q _ => ?_))
  · repeat' split
    all_goals first | omega | (congr 2 <;> omega)
  · split
    all_goals (congr 1 <;> omega)
  · repeat' split
    all_goals first | omega | (congr 2 <;> omega)
  · refine congrArg₂ (· * ·) (congrArg₂ (· * ·) ?_ rfl) rfl
    have hq := q.isLt
    repeat' split
    · rw [show (q : ℕ) / 512 * 512 = 0 by omega]
      simp only [zero_add]
    · rw [show (q : ℕ) / 512 * 512 = 512 by omega, show 512 + ((q : ℕ) - 512) = q by omega]
    · rw [show (q : ℕ) / 512 * 512 = 1024 by omega, show 1024 + ((q : ℕ) - 512 - 512) = q by omega]
    · rw [show (q : ℕ) / 512 * 512 = 1536 by omega, show 1536 + ((q : ℕ) - 512 - 512 - 512) = q by omega]

/-- The tile before, finished: its rows, its merged rows and its embedding rows give its output. -/
theorem out_value {x m : ℕ → ℕ → EReal} {e : ℕ → ℕ → EReal} {xv : FVec Ideal S256x1024 .f32}
    {mv : FVec Ideal S256x1024 .bf16} {ev : Vec Ideal S1x256x256 .f32} {wo wg : Vec Ideal S1024x1024 .bf16}
    {wp : Vec Ideal S256x1024 .bf16} {pg fg : Vec Ideal S1x1024 .f32}
    (hx : ∀ (r : Fin 256) (d : Fin 1024), xv (ix2 r d) = x r d)
    (hm : ∀ (r : Fin 256) (d : Fin 1024), mv (ix2 r d) = m r d)
    (he : ∀ (r : Fin 256) (d : Fin 256), ev (ix3 0 r d) = e r d)
    (ho : ∀ k d : Fin 1024, wo (ix2 k d) = P.wOut k d) (hg : ∀ k d : Fin 1024, wg (ix2 k d) = P.wPg k d)
    (hp : ∀ (k : Fin 256) (d : Fin 1024), wp (ix2 k d) = P.wPle k d)
    (h1 : ∀ d : Fin 1024, pg (ix2 0 d) = P.pleG d) (h2 : ∀ d : Fin 1024, fg (ix2 0 d) = P.finalG d)
    (z : Fin 1) (r : Fin 256) (d : Fin 1024) :
    k0_pay43 (k0_pay6 xv mv wo) (k0_pay42 (k0_pay6 xv mv wo) pg) ev wp wg fg (ix3 z r d)
      = rms P.finalG (fin2 P (x r) (m r) (e r)) d := by
  have h6 : ∀ (r : Fin 256) (d : Fin 1024), k0_pay6 xv mv wo (ix2 r d) = fin1 P (x r) (m r) d := fun r d => by
    unfold fin1
    simp only [← hx, ← hm, ← ho]
    pointwise [k0_pay6]
  generalize k0_pay6 xv mv wo = f1 at h6
  have h7 : ∀ (r : Fin 256) (d : Fin 1024), k0_pay42 f1 pg (ix2 r d) = rms P.pleG (fin1 P (x r) (m r)) d := fun r d => by
    unfold rms rinv
    simp only [← h6, ← h1]
    pointwise [k0_pay42]
  generalize k0_pay42 f1 pg = f2 at h7
  unfold rms rinv fin2 sgm
  simp only [← h6, ← h7, ← h2, ← hg, ← hp, ← he, ← zero_sub']
  pointwise [k0_pay43]

end Cert.Layer
-- ==== Proof.Kernel.Tile.lean ====
/- The parts of one tile's step put together: loads of whole arrays and of column groups, the decay tables of a chunk, a
   chunk's update of the state and its output, the convolution's buffer read back, and lists of stores by column groups. -/
module

public import proofs.«01_k».proof.Proof.Kernel.Dense
public import proofs.«01_k».proof.Proof.Kernel.Heads

@[expose] public section

set_option maxRecDepth 16384

noncomputable section

namespace Cert.Layer

open Idealize.ShloMosaic Cert.KernelIdeal Cert.KernelIdeal.Gen

/-! ## Loads -/

section Loads

variable {sg : RefSig} {κ : Kind} {sp : Space} {e : EltTy}

/-- A load of a box of a two-axis array. -/
theorem rd2 {n c : ℕ} {m : Memref sg κ sp ⟨2, ![n, c]⟩ e} {h : m.IsWhole} {x : Vec Ideal ⟨2, ![n, c]⟩ e}
    {o0 o1 a b : ℕ} {ib} {v : Elt Ideal e} (r : Fin a) (l : Fin b) (hr : o0 + r < n) (hl : o1 + l < c)
    (hv : x (ix2 ⟨o0 + r, hr⟩ ⟨o1 + l, hl⟩) = v) :
    m.view.readAt (Elt Ideal) (Rect.unit (s := ⟨2, ![n, c]⟩) ![o0, o1] ![a, b] ib).toLoadRect (h.unread x) (ix2 r l) = v := by
  rw [readAt_unread_eq, ← hv]
  show x ((Rect.unit (s := ⟨2, ![n, c]⟩) ![o0, o1] ![a, b] ib).toLoadRect.idx (ix2 r l)) = _
  congr 1
  funext i
  fin_cases i
  · exact Fin.ext (by show o0 + 1 * r.val = o0 + r.val; omega)
  · exact Fin.ext (by show o1 + 1 * l.val = o1 + l.val; omega)

/-- A load of a whole two-axis array. -/
theorem rdw2 {n c : ℕ} {m : Memref sg κ sp ⟨2, ![n, c]⟩ e} {h : m.IsWhole} {x : Vec Ideal ⟨2, ![n, c]⟩ e}
    {ib} {v : Elt Ideal e} {r : Fin n} {l : Fin c} (hv : x (ix2 r l) = v) :
    m.view.readAt (Elt Ideal) (Rect.unit (s := ⟨2, ![n, c]⟩) ![0, 0] ![n, c] ib).toLoadRect (h.unread x) (ix2 r l) = v :=
  rd2 r l (by omega) (by omega) (by rw [← hv]; congr 1; funext i; fin_cases i <;> exact Fin.ext (Nat.zero_add _))

/-- A load of one row's box of a three-axis array. -/
theorem rd3 {n c d : ℕ} {m : Memref sg κ sp ⟨3, ![n, c, d]⟩ e} {h : m.IsWhole} {x : Vec Ideal ⟨3, ![n, c, d]⟩ e}
    {o : ℕ} {ib} {v : Elt Ideal e} (r : Fin c) (l : Fin d) (ho : o < n) (hv : x (ix3 ⟨o, ho⟩ r l) = v) :
    m.view.readAt (Elt Ideal) (Rect.unit (s := ⟨3, ![n, c, d]⟩) ![o, 0, 0] ![1, c, d] ib).toLoadRect (h.unread x)
      (ix3 (0 : Fin 1) r l) = v := by
  rw [readAt_unread_eq, ← hv]
  show x ((Rect.unit (s := ⟨3, ![n, c, d]⟩) ![o, 0, 0] ![1, c, d] ib).toLoadRect.idx (ix3 (0 : Fin 1) r l)) = _
  congr 1
  funext i
  fin_cases i
  · exact Fin.ext (by show o + 1 * 0 = o; omega)
  · exact Fin.ext (by show 0 + 1 * r.val = r.val; omega)
  · exact Fin.ext (by show 0 + 1 * l.val = l.val; omega)

/-- Contents after a store to a box of a two-axis buffer. -/
theorem ov2 {n c : ℕ} (x : Shape.Idx ⟨2, ![n, c]⟩ → Elt Ideal e) (o0 o1 a b : ℕ) (ib)
    (w : (Rect.unit (s := ⟨2, ![n, c]⟩) ![o0, o1] ![a, b] ib).shape.Idx → Elt Ideal e)
    (L : List (View.Piece (Elt Ideal) ⟨2, ![n, c]⟩ e)) (r : Fin n) (q : Fin c) :
    ov (Val := Elt Ideal) x (⟨Rect.unit (s := ⟨2, ![n, c]⟩) ![o0, o1] ![a, b] ib, w⟩ :: L) (ix2 r q)
      = if h : (o0 ≤ (r : ℕ) ∧ (r : ℕ) < o0 + a) ∧ o1 ≤ (q : ℕ) ∧ (q : ℕ) < o1 + b
        then w (ix2 (⟨r - o0, by omega⟩ : Fin a) (⟨q - o1, by omega⟩ : Fin b)) else ov (Val := Elt Ideal) x L (ix2 r q) := by
  split
  · next h =>
    have e : (Rect.unit (s := ⟨2, ![n, c]⟩) ![o0, o1] ![a, b] ib).emb
        (ix2 (⟨r - o0, by omega⟩ : Fin a) (⟨q - o1, by omega⟩ : Fin b)) = ix2 r q := by
      funext i
      fin_cases i
      · exact Fin.ext (by show o0 + 1 * (r.val - o0) = r.val; omega)
      · exact Fin.ext (by show o1 + 1 * (q.val - o1) = q.val; omega)
    rw [← e]
    exact ov_cons_emb (Val := Elt Ideal) x _ w L _
  · next h =>
    refine ov_cons_of_not_mem (Val := Elt Ideal) x _ L fun hm => h ?_
    have hm := (Rect.mem_set_unit (inb := ib)).mp hm
    exact ⟨hm 0, hm 1⟩

/-- A load back of a box of a two-axis buffer. -/
theorem rc2 {n c : ℕ} {u : View sg κ sp ⟨2, ![n, c]⟩ e} {L : List (View.Piece (Elt Ideal) ⟨2, ![n, c]⟩ e)}
    {o0 o1 a b : ℕ} {ib} {v : Elt Ideal e} (r : Fin a) (l : Fin b) (hr : o0 + r < n) (hl : o1 + l < c)
    (hv : ov (Val := Elt Ideal) (fun _ => Classical.arbitrary _) L (ix2 ⟨o0 + r, hr⟩ ⟨o1 + l, hl⟩) = v) :
    u.readCov (Val := Elt Ideal) L (Rect.unit (s := ⟨2, ![n, c]⟩) ![o0, o1] ![a, b] ib).toLoadRect (ix2 r l) = v := by
  rw [readCov_eq_ov, ← hv]
  show ov (Val := Elt Ideal) _ L ((Rect.unit (s := ⟨2, ![n, c]⟩) ![o0, o1] ![a, b] ib).toLoadRect.idx (ix2 r l)) = _
  congr 1
  funext i
  fin_cases i
  · exact Fin.ext (by show o0 + 1 * r.val = o0 + r.val; omega)
  · exact Fin.ext (by show o1 + 1 * l.val = o1 + l.val; omega)

end Loads

variable {P : Params} {b s0 c : ℕ}

/-! ## The convolution's buffer -/

/-- The rows kept in front of the tile at `s0`: nothing before the first one. -/
def keep (P : Params) (b s0 t l : ℕ) : EReal := if s0 = 0 then 0 else P.proj b (s0 - 8 + t) (5120 + l)

/-- A block of the done buffer at a position of the tile. -/
theorem cv_done {x : S24x264x128.Idx → EReal} {T : ℕ → ℕ → ℕ → EReal} {L : List (View.Piece (Elt Ideal) S24x264x128 .f32)}
    (hs : s0 = 0 ∨ 8 ≤ s0)
    (D : Done x T (fun r l => P.proj b (s0 + r) (5120 + l)) P.convB P.convW 24 L)
    (hT : ∀ a t l, T a t l = keep P b s0 t (128 * a + l)) (y : S24x264x128.Idx → EReal) (k : Fin 24) (r : Fin 264)
    (l : Fin 128) (hr : 8 ≤ (r : ℕ)) :
    ov (Val := Elt Ideal) (e := .f32) y L (ix3 k r l) = P.cv b (s0 + (r - 8)) (128 * k + l) := by
  have hx : ∀ j, 5 ≤ j → xrow (T k) (fun r l => P.proj b (s0 + r) (5120 + (128 * k + l))) j l
      = P.xpad b (s0 + (j - 5)) (128 * k + l) := fun j hj => by
    unfold xrow Params.xpad
    rw [hT]
    unfold keep
    split
    · next h =>
      rcases hs with h0 | h8
      · rw [if_pos h0, if_pos (by omega)]
      · rw [if_neg (by omega), if_neg (by omega), show s0 - 8 + j = s0 + (j - 5) - 3 by omega]
    · next h =>
      rw [if_neg (by omega), show s0 + (j - 5) - 3 = s0 + (j - 8) by omega]
  rw [D.1 y k r l k.isLt]
  unfold blkOut
  rw [if_neg (by omega)]
  unfold cvOut
  rw [hx _ (by omega), hx _ (by omega), hx _ (by omega)]
  unfold Params.cv
  rw [show P.xpad b (s0 + (r - 8) + 3) (128 * k + l) = P.proj b (s0 + (r - 8)) (5120 + (128 * k + l)) by
    unfold Params.xpad; rw [if_neg (by omega), show s0 + ((r : ℕ) - 8) + 3 - 3 = s0 + (r - 8) by omega],
    show s0 + ((r : ℕ) - 8 + 5 - 5) = s0 + (r - 8) by omega, show s0 + ((r : ℕ) - 8 + 6 - 5) = s0 + (r - 8) + 1 by omega,
    show s0 + ((r : ℕ) - 8 + 7 - 5) = s0 + (r - 8) + 2 by omega]

/-- The rows the done buffer keeps for the next tile. -/
theorem keep_done {x : S24x264x128.Idx → EReal} {T : ℕ → ℕ → ℕ → EReal} {L : List (View.Piece (Elt Ideal) S24x264x128 .f32)}
    (D : Done x T (fun r l => P.proj b (s0 + r) (5120 + l)) P.convB P.convW 24 L)
    (y : S24x264x128.Idx → EReal) (k : Fin 24) (r : Fin 264) (l : Fin 128) (hr : (r : ℕ) < 8) :
    ov (Val := Elt Ideal) (e := .f32) y L (ix3 k r l) = keep P b (s0 + 256) r (128 * k + l) := by
  rw [D.1 y k r l k.isLt]
  unfold blkOut keep
  rw [if_pos hr, if_neg (by omega), show s0 + 256 - 8 + (r : ℕ) = s0 + (248 + r) by omega]

/-- A chunk's block of the done buffer, loaded back. -/
theorem cv_read {sg : RefSig} {κ : Kind} {sp : Space} {v : View sg κ sp S24x264x128 .f32}
    {L : List (View.Piece (Elt Ideal) S24x264x128 .f32)}
    (hD : ∀ (y : S24x264x128.Idx → EReal) (k : Fin 24) (r : Fin 264) (l : Fin 128), 8 ≤ (r : ℕ) →
      ov (Val := Elt Ideal) (e := .f32) y L (ix3 k r l) = P.cv b (s0 + (r - 8)) (128 * k + l))
    (d : ℕ) (hd : d ≤ 128) (hc : s0 + d = c * 128) (k : ℕ) (hk : k < 24) (inb) (r l : Fin 128) :
    v.readCov (Val := Elt Ideal) L (Rect.unit (s := S24x264x128) ![k, 8 + d, 0] ![1, 128, 128] inb).toLoadRect
      (ix3 (0 : Fin 1) r l) = P.cv b (c * 128 + r) (128 * k + l) := by
  rw [readCov_eq_ov]
  show ov (Val := Elt Ideal) (e := .f32) _ L ((box3 k (8 + d) 128 inb).toLoadRect.idx (ix3 (0 : Fin 1) r l)) = _
  rw [box3_idx k (8 + d) 128 inb 0 r l hk (by omega), hD _ _ _ _ (by show 8 ≤ 8 + d + (r : ℕ); omega)]
  show P.cv b (s0 + (8 + d + (r : ℕ) - 8)) (128 * k + l) = _
  rw [show s0 + (8 + d + (r : ℕ) - 8) = c * 128 + r by omega]

/-! ## A chunk -/

/-- The tables of a chunk: running sums, their transpose, the transposed step sizes, the sums' exponentials, and the step
    sizes times the decay to the chunk's end. -/
structure Chunk (P : Params) (b c : ℕ) (A T D E W : FVec Ideal S128x128 .f32) : Prop where
  A : ∀ r l : Fin 128, (l : ℕ) < 32 → A (ix2 r l) = P.acs b (c * 128 + r) l
  T : ∀ l r : Fin 128, (l : ℕ) < 32 → T (ix2 l r) = P.acs b (c * 128 + r) l
  D : ∀ l r : Fin 128, (l : ℕ) < 32 → D (ix2 l r) = P.dt b (c * 128 + r) l
  E : ∀ r l : Fin 128, (l : ℕ) < 32 → E (ix2 r l) = Ideal.exp (P.acs b (c * 128 + r) l)
  W : ∀ r l : Fin 128, (l : ℕ) < 32 → W (ix2 r l) = P.dt b (c * 128 + r) l
    * Ideal.exp (P.acs b (c * 128 + 127) l - P.acs b (c * 128 + r) l)

/-- The tables of a chunk, from its running sums and its step sizes. -/
theorem Chunk.of {A d : FVec Ideal S128x128 .f32}
    (hA : ∀ r l : Fin 128, (l : ℕ) < 32 → A (ix2 r l) = P.acs b (c * 128 + r) l)
    (hd : ∀ r l : Fin 128, (l : ℕ) < 32 → d (ix2 r l) = P.dt b (c * 128 + r) l) :
    Chunk P b c A (k0_pay26 A) (k0_pay26 d) (exp A) (decayV d A) :=
  ⟨hA, tr_value (f := fun r l => P.acs b (c * 128 + r) l) hA, tr_value (f := fun r l => P.dt b (c * 128 + r) l) hd, exp_value (f := fun r l => P.acs b (c * 128 + r) l) hA,
    decay_value (f := fun r l => P.acs b (c * 128 + r) l) (g := fun r l => P.dt b (c * 128 + r) l) hd hA⟩

/-- The tables of the tile's first chunk. -/
theorem chunk₀ {v23 : FVec Ideal S256x1024 .f32} {v25 v30 v31 v44 v47} {al : Vec Ideal S1x128 .f32} {tr : Vec Ideal S128x128 .bf16}
    (hs : s0 = c * 128)
    (ht : ∀ r k : Fin 128, tr (ix2 r k) = if (k : ℕ) ≤ r then 1 else 0)
    (hd : ∀ (r : Fin 256) (l : Fin 128), (l : ℕ) < 32 → k0_pay14 v23 v25 v30 v31 v44 v47 (ix2 r l) = P.dt b (s0 + r) l)
    (ha : ∀ l : Fin 128, (l : ℕ) < 32 → k0_pay15 (F := Ideal) al (ix2 0 l) = -Ideal.exp (P.aLog l)) :
    let v66 := k0_pay17 (F := Ideal) tr
    let v70 := k0_pay19 v23 v25 v30 v31 v44 v47 al
    let v73 := k0_pay21 v23 v25 v30 v31 v44 v47 al
    let v76 := k0_pay22 v23 v25 v30 v31 v44 v47 al
    let v64 := k0_pay16 v23 v25 v30 v31 v44 v47
    Chunk P b c (k0_pay24 lane v66 v70 v73 v76 k0_pay23) (k0_pay25 lane v66 v70 v73 v76 k0_pay23) (k0_pay26 v64)
      (k0_pay27 lane v66 v70 v73 v76 k0_pay23) (k0_pay28 lane v64 v66 v70 v73 v76 k0_pay23) :=
  Chunk.of (acs_value₀ hs ht hd ha) fun r l hl => by
    have := half_value (f := fun r l => P.dt b (s0 + r) l) 0 (by decide) slices_S256x128_o0_0_S128x128 hd r l hl
    rw [← hs, ← show 0 + (r : ℕ) = r from Nat.zero_add _]
    exact this

/-- The tables of the tile's second chunk. -/
theorem chunk₁ {d : FVec Ideal S256x128 .f32} {a : FVec Ideal S1x128 .f32} {tr : Vec Ideal S128x128 .bf16}
    (hs : s0 = c * 128)
    (ht : ∀ r k : Fin 128, tr (ix2 r k) = if (k : ℕ) ≤ r then 1 else 0)
    (hd : ∀ (r : Fin 256) (l : Fin 128), (l : ℕ) < 32 → d (ix2 r l) = P.dt b (s0 + r) l)
    (ha : ∀ l : Fin 128, (l : ℕ) < 32 → a (ix2 0 l) = -Ideal.exp (P.aLog l)) :
    let v111 := k0_pay30 (F := Ideal) tr
    let v123 := k0_pay36 lane
    let z : Ideal .f32 := Scalar.ofBits .f32 0x00000000#32
    Chunk P b (c + 1) (k0_pay37 lane v111 (k0_pay32 d a) (k0_pay34 d a) (k0_pay35 d a) v123 z)
      (k0_pay38 lane v111 (k0_pay32 d a) (k0_pay34 d a) (k0_pay35 d a) v123 z) (k0_pay39 (k0_pay29 d))
      (k0_pay40 lane v111 (k0_pay32 d a) (k0_pay34 d a) (k0_pay35 d a) v123 z)
      (k0_pay41 lane (k0_pay29 d) v111 (k0_pay32 d a) (k0_pay34 d a) (k0_pay35 d a) v123 z) :=
  Chunk.of (acs_value₁ hs ht hd ha) fun r l hl => by
    have := half_value (f := fun r l => P.dt b (s0 + r) l) 128 (by decide) slices_S256x128_o128_0_S128x128 hd r l hl
    rw [show (c + 1) * 128 + (r : ℕ) = s0 + (128 + r) by omega]
    exact this

/-- A loaded block as a square. -/
abbrev sq (p : Vec Ideal S1x128x128 .f32) : FVec Ideal S128x128 .f32 := shapeCast S128x128 p shapeCasts_S1x128x128_S128x128

/-- A block with a leading axis of one, read without that axis. -/
theorem sq_apply (p : Vec Ideal S1x128x128 .f32) (r l : Fin 128) : sq p (ix2 r l) = p (ix3 0 r l) := by
  pointwise [sq]

variable {A T D E W : FVec Ideal S128x128 .f32}

/-- The convolved columns of a group of heads. -/
theorem xs_value {g : ℕ} {p0 p1 p2 p3 : Vec Ideal S1x128x128 .f32}
    (h0 : ∀ r l : Fin 128, p0 (ix3 0 r l) = P.cv b (c * 128 + r) (128 * (4 * g) + l))
    (h1 : ∀ r l : Fin 128, p1 (ix3 0 r l) = P.cv b (c * 128 + r) (128 * (4 * g + 1) + l))
    (h2 : ∀ r l : Fin 128, p2 (ix3 0 r l) = P.cv b (c * 128 + r) (128 * (4 * g + 2) + l))
    (h3 : ∀ r l : Fin 128, p3 (ix3 0 r l) = P.cv b (c * 128 + r) (128 * (4 * g + 3) + l)) (r : Fin 128) (q : Fin 512) :
    cat4 (sq p0) (sq p1) (sq p2) (sq p3) (ix2 r q) = P.cv b (c * 128 + r) (512 * g + q) := by
  refine cat4_value (f := fun r q => P.cv b (c * 128 + r) (512 * g + q)) (fun r l => ?_) (fun r l => ?_) (fun r l => ?_)
    (fun r l => ?_) r q
  · rw [sq_apply, h0]; congr 1; omega
  · rw [sq_apply, h1]; congr 1; omega
  · rw [sq_apply, h2]; congr 1; omega
  · rw [sq_apply, h3]; congr 1; omega

/-- A chunk's update of a group of columns of the state. -/
theorem st_step (g : ℕ) (hg : g < 4) (K : Chunk P b c A T D E W) {p0 p1 p2 p3 pB : Vec Ideal S1x128x128 .f32}
    {pv : FVec Ideal S128x512 .f32}
    (h0 : ∀ r l : Fin 128, p0 (ix3 0 r l) = P.cv b (c * 128 + r) (128 * (4 * g) + l))
    (h1 : ∀ r l : Fin 128, p1 (ix3 0 r l) = P.cv b (c * 128 + r) (128 * (4 * g + 1) + l))
    (h2 : ∀ r l : Fin 128, p2 (ix3 0 r l) = P.cv b (c * 128 + r) (128 * (4 * g + 2) + l))
    (h3 : ∀ r l : Fin 128, p3 (ix3 0 r l) = P.cv b (c * 128 + r) (128 * (4 * g + 3) + l))
    (hB : ∀ r l : Fin 128, pB (ix3 0 r l) = P.cv b (c * 128 + r) (128 * (16 + g) + l))
    (hp : ∀ (n : Fin 128) (q : Fin 512), pv (ix2 n q) = P.pv b c n (512 * g + q)) (n : Fin 128) (q : Fin 512) :
    stU g pv E (contrib g (cat4 (sq p0) (sq p1) (sq p2) (sq p3)) W (sq pB)) (ix2 n q) = P.pv b (c + 1) n (512 * g + q) :=
  stU_value hg hp K.E (contrib_value hg (xs_value h0 h1 h2 h3) K.W fun r n => by
    rw [sq_apply, hB]; congr 1; omega) n q

/-- A chunk's output in a group of columns. -/
theorem y_step (g : ℕ) (hg : g < 4) (s1 s2) (K : Chunk P b c A T D E W) {p0 p1 p2 p3 pB pC : Vec Ideal S1x128x128 .f32}
    {pv : FVec Ideal S128x512 .f32} {d : Vec Ideal S1x512 .f32}
    (h0 : ∀ r l : Fin 128, p0 (ix3 0 r l) = P.cv b (c * 128 + r) (128 * (4 * g) + l))
    (h1 : ∀ r l : Fin 128, p1 (ix3 0 r l) = P.cv b (c * 128 + r) (128 * (4 * g + 1) + l))
    (h2 : ∀ r l : Fin 128, p2 (ix3 0 r l) = P.cv b (c * 128 + r) (128 * (4 * g + 2) + l))
    (h3 : ∀ r l : Fin 128, p3 (ix3 0 r l) = P.cv b (c * 128 + r) (128 * (4 * g + 3) + l))
    (hB : ∀ r l : Fin 128, pB (ix3 0 r l) = P.cv b (c * 128 + r) (128 * (16 + g) + l))
    (hC : ∀ r l : Fin 128, pC (ix3 0 r l) = P.cv b (c * 128 + r) (128 * (20 + g) + l))
    (hp : ∀ (n : Fin 128) (q : Fin 512), pv (ix2 n q) = P.pv b c n (512 * g + q))
    (hd : ∀ q : Fin 512, d (ix2 0 q) = P.dSkip ((512 * g + q) / 64)) (r : Fin 128) (q : Fin 512) :
    yG g s1 s2 (k0_pay253 pB pC) A T D E pC pv (cat4 (sq p0) (sq p1) (sq p2) (sq p3)) d (ix2 r q)
      = P.yd b (c * 128 + r) (512 * g + q) + P.yo b (c * 128 + r) (512 * g + q)
        + P.cv b (c * 128 + r) (512 * g + q) * P.dSkip ((512 * g + q) / 64) := by
  have hC' : ∀ r n : Fin 128, pC (ix3 0 r n) = P.cv b (c * 128 + r) (2560 + g * 128 + n) := fun r n => by
    rw [hC]; congr 1; omega
  exact yG_value hg s1 s2 (cb_value (fun r n => by rw [hB]; congr 1; omega) hC') K.A K.T K.D K.E hC' hp
    (xs_value h0 h1 h2 h3) hd r q

/-! ## Stores by groups of columns -/

/-- A group of columns just stored. -/
theorem col_new {n : ℕ} {x : Shape.Idx ⟨2, ![n, 2048]⟩ → EReal} {o : ℕ} {ib}
    {w : (Rect.unit (s := ⟨2, ![n, 2048]⟩) ![0, o] ![n, 512] ib).shape.Idx → EReal}
    {L : List (View.Piece (Elt Ideal) ⟨2, ![n, 2048]⟩ .f32)} {f : ℕ → ℕ → EReal}
    (hw : ∀ (r : Fin n) (q : Fin 512), w (ix2 r q) = f r (o + q))
    (h : ∀ (r : Fin n) (q : Fin 2048), (q : ℕ) < o → ov (Val := Elt Ideal) (e := .f32) x L (ix2 r q) = f r q)
    (r : Fin n) (q : Fin 2048) (hq : (q : ℕ) < o + 512) :
    ov (Val := Elt Ideal) (e := .f32) x (⟨Rect.unit (s := ⟨2, ![n, 2048]⟩) ![0, o] ![n, 512] ib, w⟩ :: L) (ix2 r q) = f r q := by
  rw [ov2 (e := .f32)]
  split
  · next hh =>
    rw [hw]
    show f (r - 0) (o + ((q : ℕ) - o)) = _
    rw [show o + ((q : ℕ) - o) = q by omega, Nat.sub_zero]
  · next hh => exact h r q (by omega)

/-- A store to a group of columns leaves the columns past it. -/
theorem col_old {n : ℕ} {x : Shape.Idx ⟨2, ![n, 2048]⟩ → EReal} {o : ℕ} {ib}
    {w : (Rect.unit (s := ⟨2, ![n, 2048]⟩) ![0, o] ![n, 512] ib).shape.Idx → EReal}
    {L : List (View.Piece (Elt Ideal) ⟨2, ![n, 2048]⟩ .f32)} {f : ℕ → ℕ → EReal}
    (h : ∀ (r : Fin n) (q : Fin 2048), o ≤ (q : ℕ) → ov (Val := Elt Ideal) (e := .f32) x L (ix2 r q) = f r q)
    (r : Fin n) (q : Fin 2048) (hq : o + 512 ≤ (q : ℕ)) :
    ov (Val := Elt Ideal) (e := .f32) x (⟨Rect.unit (s := ⟨2, ![n, 2048]⟩) ![0, o] ![n, 512] ib, w⟩ :: L) (ix2 r q) = f r q := by
  rw [ov2 (e := .f32), dif_neg (by omega), h r q (by omega)]

/-- A chunk's four groups stored into the output buffer, over the rows before them. -/
theorem rows_new {x : S256x2048.Idx → EReal} {d : ℕ} {i0 i1 i2 i3}
    {w0 : (Rect.unit (s := S256x2048) ![d, 0] ![128, 512] i0).shape.Idx → EReal}
    {w1 : (Rect.unit (s := S256x2048) ![d, 512] ![128, 512] i1).shape.Idx → EReal}
    {w2 : (Rect.unit (s := S256x2048) ![d, 1024] ![128, 512] i2).shape.Idx → EReal}
    {w3 : (Rect.unit (s := S256x2048) ![d, 1536] ![128, 512] i3).shape.Idx → EReal}
    {L : List (View.Piece (Elt Ideal) S256x2048 .f32)} {f : ℕ → ℕ → EReal}
    (h0 : ∀ (r : Fin 128) (q : Fin 512), w0 (ix2 r q) = f (d + r) (512 * 0 + q))
    (h1 : ∀ (r : Fin 128) (q : Fin 512), w1 (ix2 r q) = f (d + r) (512 * 1 + q))
    (h2 : ∀ (r : Fin 128) (q : Fin 512), w2 (ix2 r q) = f (d + r) (512 * 2 + q))
    (h3 : ∀ (r : Fin 128) (q : Fin 512), w3 (ix2 r q) = f (d + r) (512 * 3 + q))
    (h : ∀ (r : Fin 256) (q : Fin 2048), (r : ℕ) < d → ov (Val := Elt Ideal) (e := .f32) x L (ix2 r q) = f r q)
    (r : Fin 256) (q : Fin 2048) (hr : (r : ℕ) < d + 128) :
    ov (Val := Elt Ideal) (e := .f32) x (⟨Rect.unit (s := S256x2048) ![d, 1536] ![128, 512] i3, w3⟩
      :: ⟨Rect.unit (s := S256x2048) ![d, 1024] ![128, 512] i2, w2⟩ :: ⟨Rect.unit (s := S256x2048) ![d, 512] ![128, 512] i1, w1⟩
      :: ⟨Rect.unit (s := S256x2048) ![d, 0] ![128, 512] i0, w0⟩ :: L) (ix2 r q) = f r q := by
  have e : ∀ (o : ℕ), d ≤ (r : ℕ) → o ≤ (q : ℕ) → f (d + ((r : ℕ) - d)) (o + ((q : ℕ) - o)) = f r q := fun o h1 h2 => by
    rw [show d + ((r : ℕ) - d) = r by omega, show o + ((q : ℕ) - o) = q by omega]
  rw [ov2 (e := .f32)]
  split
  · next hh => rw [h3]; exact e 1536 hh.1.1 hh.2.1
  rw [ov2 (e := .f32)]
  split
  · next hh => rw [h2]; exact e 1024 hh.1.1 hh.2.1
  rw [ov2 (e := .f32)]
  split
  · next hh => rw [h1]; exact e 512 hh.1.1 hh.2.1
  rw [ov2 (e := .f32)]
  split
  · next hh => rw [h0]; exact e 0 hh.1.1 hh.2.1
  exact h r q (by omega)

end Cert.Layer
-- ==== Proof.Kernel.StepB.lean ====
/- A tile's step in the middle of a batch: from what the tile before left, every buffer's new contents. -/
module

public import proofs.«01_k».proof.Proof.Kernel.ConvAB
public import proofs.«01_k».proof.Proof.Kernel.Tile

@[expose] public section

set_option maxRecDepth 16384

noncomputable section

namespace Cert.Layer

open Idealize.ShloMosaic Cert.KernelIdeal Cert.KernelIdeal.Gen

/-- What a tile's step is given: the tile at position `s0` of batch `b` and the layer's arrays as the kernel lays them out. -/
structure TileIn (P : Params) (b s0 : ℕ)
    (x0 : Vec Ideal S1x256x1024 .f32) (x2 : Vec Ideal S1024x10368 .bf16) (x3 : Vec Ideal S1024x1024 .bf16)
    (x4 : Vec Ideal S2048x1024 .bf16) (x8 : Vec Ideal S4x128x128 .bf16) (x9 : Vec Ideal S128x1024 .f32)
    (x10 : Vec Ideal S4x3072 .f32) (x11 : Vec Ideal S1x3072 .f32) (x12 x13 : Vec Ideal S1x128 .f32)
    (x14 : Vec Ideal S1x2048 .f32) (x15 x16 x17 : Vec Ideal S1x1024 .f32) (x18 : Vec Ideal S1x2048 .f32)
    (x21 : Vec Ideal S128x128 .bf16) : Prop where
  x : ∀ (r : Fin 256) (d : Fin 1024), x0 (ix3 0 r d) = P.x b (s0 + r) d
  w0 : ∀ (k : Fin 1024) (n : Fin 10368), (n : ℕ) < 8192 → x2 (ix2 k n) = P.w k n
  w1 : ∀ (k : Fin 1024) (n : Fin 10368), 8192 ≤ (n : ℕ) → (n : ℕ) < 10240 → x2 (ix2 k n) = P.w k (32 + n)
  w2 : ∀ (k : Fin 1024) (n : Fin 10368), 10240 ≤ (n : ℕ) → (n : ℕ) < 10272 → x2 (ix2 k n) = P.w k (n - 2048)
  wOa : ∀ k d : Fin 1024, x3 (ix2 k d) = P.wOa k d
  wOb : ∀ (q : Fin 2048) (d : Fin 1024), x4 (ix2 q d) = P.wOb q d
  ws : ∀ (g : Fin 4) (r k : Fin 128), x8 (ix3 g r k) = P.wsm g r k
  bs : ∀ (r : Fin 128) (d : Fin 1024), x9 (ix2 r d) = P.bs (d / 256) r
  convW : ∀ (i : Fin 4) (l : Fin 3072), x10 (ix2 i l) = P.convW i l
  convB : ∀ l : Fin 3072, x11 (ix2 0 l) = P.convB l
  dtBias : ∀ l : Fin 128, (l : ℕ) < 32 → x12 (ix2 0 l) = P.dtBias l
  aLog : ∀ l : Fin 128, (l : ℕ) < 32 → x13 (ix2 0 l) = P.aLog l
  dSkip : ∀ q : Fin 2048, x14 (ix2 0 q) = P.dSkip (q / 64)
  normG : ∀ d : Fin 1024, x15 (ix2 0 d) = P.normG d
  lnG : ∀ d : Fin 1024, x16 (ix2 0 d) = P.lnG d
  lnB : ∀ d : Fin 1024, x17 (ix2 0 d) = P.lnB d
  ssmG : ∀ q : Fin 2048, x18 (ix2 0 q) = P.ssmG q
  tri : ∀ r k : Fin 128, x21 (ix2 r k) = if (k : ℕ) ≤ r then 1 else 0

variable {c : Dev nD} {arg1 : Memref sig .tc .vmem S1x256x1024 .f32} {harg1 : arg1.IsWhole}
  {arg3 : Memref sig .tc .vmem S1024x10368 .bf16} {harg3 : arg3.IsWhole}
  {arg4 : Memref sig .tc .vmem S1024x1024 .bf16} {harg4 : arg4.IsWhole}
  {arg5 : Memref sig .tc .vmem S2048x1024 .bf16} {harg5 : arg5.IsWhole}
  {arg9 : Memref sig .tc .vmem S4x128x128 .bf16} {harg9 : arg9.IsWhole}
  {arg10 : Memref sig .tc .vmem S128x1024 .f32} {harg10 : arg10.IsWhole}
  {arg11 : Memref sig .tc .vmem S4x3072 .f32} {harg11 : arg11.IsWhole}
  {arg12 : Memref sig .tc .vmem S1x3072 .f32} {harg12 : arg12.IsWhole}
  {arg13 : Memref sig .tc .vmem S1x128 .f32} {harg13 : arg13.IsWhole}
  {arg14 : Memref sig .tc .vmem S1x128 .f32} {harg14 : arg14.IsWhole}
  {arg15 : Memref sig .tc .vmem S1x2048 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S1x2048 .f32} {harg19 : arg19.IsWhole}
  {arg22 : Memref sig .tc .vmem S128x128 .bf16} {harg22 : arg22.IsWhole}
  {arg24 : Memref sig .tc .vmem S24x264x128 .f32} {harg24 : arg24.IsWhole}
  {arg25 : Memref sig .tc .vmem S256x2048 .f32}
  {arg26 : Memref sig .tc .vmem S128x2048 .f32} {harg26 : arg26.IsWhole}
  {x0 : Vec Ideal S1x256x1024 .f32} {x2 : Vec Ideal S1024x10368 .bf16} {x3 : Vec Ideal S1024x1024 .bf16}
  {x4 : Vec Ideal S2048x1024 .bf16} {x8 : Vec Ideal S4x128x128 .bf16} {x9 : Vec Ideal S128x1024 .f32}
  {x10 : Vec Ideal S4x3072 .f32} {x11 : Vec Ideal S1x3072 .f32} {x12 x13 : Vec Ideal S1x128 .f32}
  {x14 : Vec Ideal S1x2048 .f32} {x15 x16 x17 : Vec Ideal S1x1024 .f32} {x18 : Vec Ideal S1x2048 .f32}
  {x21 : Vec Ideal S128x128 .bf16} {xs0 : Vec Ideal S24x264x128 .f32} {xs2 : Vec Ideal S128x2048 .f32}
  {P : Params} {b s0 c0 : ℕ}

/-- Columns of the projection's weights. -/
theorem TileIn.col (I : TileIn P b s0 x0 x2 x3 x4 x8 x9 x10 x11 x12 x13 x14 x15 x16 x17 x18 x21) {o : ℕ} {ib}
    (ho : o + 512 ≤ 8192) (k : Fin 1024) (l : Fin 512) :
    arg3.view.readAt (Elt Ideal) (Rect.unit (s := S1024x10368) ![0, o] ![1024, 512] ib).toLoadRect (harg3.unread x2) (ix2 k l)
      = P.w k (o + l) :=
  rd2 k l (by omega) (by omega) ((I.w0 _ _ (by show o + (l : ℕ) < 8192; omega)).trans (by simp))

/-- Columns of the gates' weights. -/
theorem TileIn.gcol (I : TileIn P b s0 x0 x2 x3 x4 x8 x9 x10 x11 x12 x13 x14 x15 x16 x17 x18 x21) {o : ℕ} {ib}
    (h : 8192 ≤ o) (ho : o + 512 ≤ 10240) (k : Fin 1024) (l : Fin 512) :
    arg3.view.readAt (Elt Ideal) (Rect.unit (s := S1024x10368) ![0, o] ![1024, 512] ib).toLoadRect (harg3.unread x2) (ix2 k l)
      = P.w k (32 + o + l) :=
  rd2 k l (by omega) (by omega) ((I.w1 _ _ (by show 8192 ≤ o + (l : ℕ); omega) (by show o + (l : ℕ) < 10240; omega)).trans
    (by simp [Nat.add_assoc]))

/-- The normalized rows of the tile. -/
theorem hidB (I : TileIn P b s0 x0 x2 x3 x4 x8 x9 x10 x11 x12 x13 x14 x15 x16 x17 x18 x21) (r : Fin 256) (d : Fin 1024) :
    kernelRun0_B.sl.r_4 (F := Ideal) c arg1 harg1 arg16 harg16 x0 x15 (ix2 r d) = P.hid b (s0 + r) d :=
  hid_value (fun r d => rd3 r d (by omega) (I.x r d)) (fun d => rdw2 (I.normG d)) r d

/-- The step sizes of the tile. -/
theorem dtB (I : TileIn P b s0 x0 x2 x3 x4 x8 x9 x10 x11 x12 x13 x14 x15 x16 x17 x18 x21) (r : Fin 256) (l : Fin 128)
    (hl : (l : ℕ) < 32) : kernelRun0_B.sl.r_5 (F := Ideal) c arg1 harg1 arg3 harg3 arg13 harg13 arg16 harg16 x0 x2 x12 x15 (ix2 r l) = P.dt b (s0 + r) l :=
  dt_value (fun r k => hidB I r k) (fun k l hl => rd2 k l (by omega) (by omega)
    ((I.w2 _ _ (by show 10240 ≤ 10240 + (l : ℕ); omega) (by show 10240 + (l : ℕ) < 10272; omega)).trans (by
      show P.w (0 + k) (10240 + (l : ℕ) - 2048) = _
      rw [Nat.zero_add, show 10240 + (l : ℕ) - 2048 = 8192 + l by omega])))
    (fun l hl => rdw2 (I.dtBias l hl)) r l hl

/-- The tables of the tile's first chunk. -/
theorem chunkB₀ (I : TileIn P b s0 x0 x2 x3 x4 x8 x9 x10 x11 x12 x13 x14 x15 x16 x17 x18 x21) (hs : s0 = c0 * 128) :
    Chunk P b c0 (kernelRun0_B.sl.r_12 (F := Ideal) c arg1 harg1 arg3 harg3 arg13 harg13 arg14 harg14 arg16 harg16 arg22 harg22 x0 x2 x12 x13 x15 x21) (kernelRun0_B.sl.r_13 (F := Ideal) c arg1 harg1 arg3 harg3 arg13 harg13 arg14 harg14 arg16 harg16 arg22 harg22 x0 x2 x12 x13 x15 x21) (kernelRun0_B.sl.r_14 (F := Ideal) c arg1 harg1 arg3 harg3 arg13 harg13 arg16 harg16 x0 x2 x12 x15) (kernelRun0_B.sl.r_15 (F := Ideal) c arg1 harg1 arg3 harg3 arg13 harg13 arg14 harg14 arg16 harg16 arg22 harg22 x0 x2 x12 x13 x15 x21) (kernelRun0_B.sl.r_16 (F := Ideal) c arg1 harg1 arg3 harg3 arg13 harg13 arg14 harg14 arg16 harg16 arg22 harg22 x0 x2 x12 x13 x15 x21) :=
  chunk₀ hs (fun r k => rdw2 (I.tri r k)) (fun r l hl => dtB I r l hl) (fun l hl => a_value (fun l hl => rdw2 (I.aLog l hl)) l hl)

/-- The tables of the tile's second chunk. -/
theorem chunkB₁ (I : TileIn P b s0 x0 x2 x3 x4 x8 x9 x10 x11 x12 x13 x14 x15 x16 x17 x18 x21) (hs : s0 = c0 * 128) :
    Chunk P b (c0 + 1) (kernelRun0_B.sl.r_22 (F := Ideal) c arg1 harg1 arg3 harg3 arg13 harg13 arg14 harg14 arg16 harg16 arg22 harg22 x0 x2 x12 x13 x15 x21) (kernelRun0_B.sl.r_23 (F := Ideal) c arg1 harg1 arg3 harg3 arg13 harg13 arg14 harg14 arg16 harg16 arg22 harg22 x0 x2 x12 x13 x15 x21) (kernelRun0_B.sl.r_24 (F := Ideal) c arg1 harg1 arg3 harg3 arg13 harg13 arg16 harg16 x0 x2 x12 x15) (kernelRun0_B.sl.r_25 (F := Ideal) c arg1 harg1 arg3 harg3 arg13 harg13 arg14 harg14 arg16 harg16 arg22 harg22 x0 x2 x12 x13 x15 x21) (kernelRun0_B.sl.r_26 (F := Ideal) c arg1 harg1 arg3 harg3 arg13 harg13 arg14 harg14 arg16 harg16 arg22 harg22 x0 x2 x12 x13 x15 x21) :=
  chunk₁ hs (fun r k => rdw2 (I.tri r k)) (fun r l hl => dtB I r l hl) (fun l hl => a_value (fun l hl => rdw2 (I.aLog l hl)) l hl)

/-- The convolution's buffer when the tile's step is over. -/
theorem doneB (I : TileIn P b s0 x0 x2 x3 x4 x8 x9 x10 x11 x12 x13 x14 x15 x16 x17 x18 x21)
    (hT : ∀ (a : Fin 24) (r : Fin 264) (l : Fin 128), (r : ℕ) < 8 → xs0 (ix3 a r l) = keep P b s0 r (128 * a + l)) :
    Done xs0 (fun a t l => keep P b s0 t (128 * a + l)) (fun r l => P.proj b (s0 + r) (5120 + l)) P.convB P.convW 24
      (kernelRun0_B.sl.HS0_96 (F := Ideal) c arg1 harg1 arg3 harg3 arg11 harg11 arg12 harg12 arg16 harg16 arg24 harg24 x0 x2 x10 x11 x15 xs0) :=
  convB (RW := fun r l => P.proj b (s0 + r) (5120 + l)) (cb := P.convB) (cw := P.convW)
    (T := fun a t l => keep P b s0 t (128 * a + l)) (hxb := I.convB) (hxw := I.convW) (hT := hT)
    (arg11 := arg11) (harg11 := harg11) (arg12 := arg12) (harg12 := harg12) (arg24 := arg24) (harg24 := harg24)
    (h0 := fun r l => (mm_value (o := 5120) (hidB I) (I.col (by omega)) r l).trans (congrArg _ (by omega)))
    (h1 := fun r l => (mm_value (o := 5632) (hidB I) (I.col (by omega)) r l).trans (congrArg _ (by omega)))
    (h2 := fun r l => (mm_value (o := 6144) (hidB I) (I.col (by omega)) r l).trans (congrArg _ (by omega)))
    (h3 := fun r l => (mm_value (o := 6656) (hidB I) (I.col (by omega)) r l).trans (congrArg _ (by omega)))
    (h4 := fun r l => (mm_value (o := 7168) (hidB I) (I.col (by omega)) r l).trans (congrArg _ (by omega)))
    (h5 := fun r l => (mm_value (o := 7680) (hidB I) (I.col (by omega)) r l).trans (congrArg _ (by omega)))

/-- The gated branch before its output product. -/
theorem yaB (I : TileIn P b s0 x0 x2 x3 x4 x8 x9 x10 x11 x12 x13 x14 x15 x16 x17 x18 x21) (hs : s0 = c0 * 128)
    (r : Fin 256) (d : Fin 1024) : kernelRun0_B.sl.r_292 (F := Ideal) c arg1 harg1 arg3 harg3 arg9 harg9 arg10 harg10 arg16 harg16 arg17 harg17 arg18 harg18 x0 x2 x8 x9 x15 x16 x17 (ix2 r d) = P.ya b (s0 + r) d := by
  have hu : ∀ (r : Fin 256) (q : Fin 3072), kernelRun0_B.sl.r_184 (F := Ideal) c arg1 harg1 arg3 harg3 arg16 harg16 x0 x2 x15 (ix2 r q) = P.proj b (s0 + r) q :=
    uvz_value (hidB I) (mm_value (o := 0) (hidB I) (I.col (by omega))) (mm_value (o := 512) (hidB I) (I.col (by omega)))
      (mm_value (o := 1024) (hidB I) (I.col (by omega))) (mm_value (o := 1536) (hidB I) (I.col (by omega)))
      (I.col (by omega)) (I.col (by omega))
  have hv : ∀ (r : Fin 256) (d : Fin 1024), kernelRun0_B.sl.r_194 (F := Ideal) c arg1 harg1 arg3 harg3 arg16 harg16 arg17 harg17 arg18 harg18 x0 x2 x15 x16 x17 (ix2 r d) = P.gvn b (s0 + r) d :=
    ln_value hu (fun d => rdw2 (I.lnG d)) (fun d => rdw2 (I.lnB d)) (fun d => rdw2 (I.lnG d)) (fun d => rdw2 (I.lnB d))
  have hw : ∀ (g : Fin 4) (ib) (r k : Fin 128),
      arg9.view.readAt (Elt Ideal) (Rect.unit (s := S4x128x128) ![(g : ℕ), 0, 0] ![1, 128, 128] ib).toLoadRect (harg9.unread x8)
        (ix3 (0 : Fin 1) r k) = P.wsm g r k := fun g ib r k => rd3 r k g.isLt (I.ws g r k)
  exact ya_value hu (u_value hu (fun r q => by
      show extractStridedSlice S256x1024 ![0, 0] (kernelRun0_B.sl.r_184 (F := Ideal) c arg1 harg1 arg3 harg3 arg16 harg16 x0 x2 x15) slices_S256x3072_o0_0_S256x1024 (ix2 r q) = _
      generalize kernelRun0_B.sl.r_184 (F := Ideal) c arg1 harg1 arg3 harg3 arg16 harg16 x0 x2 x15 = v
      pointwise []))
    (sv_value₀ hs hv (hw 0 _) (hw 1 _) (hw 2 _) (hw 3 _) (fun r d => rdw2 (I.bs r d)))
    (sv_value₁ hs hv (hw 0 _) (hw 1 _) (hw 2 _) (hw 3 _) (fun r d => rdw2 (I.bs r d))) r d

/-- The state-space branch's gate. -/
theorem zB (I : TileIn P b s0 x0 x2 x3 x4 x8 x9 x10 x11 x12 x13 x14 x15 x16 x17 x18 x21) (r : Fin 256) (q : Fin 2048) :
    kernelRun0_B.sl.r_196 (F := Ideal) c arg1 harg1 arg3 harg3 arg16 harg16 x0 x2 x15 (ix2 r q) = slu (P.proj b (s0 + r) (3072 + q)) := by
  refine four_value (f := fun r q => slu (P.proj b (s0 + r) (3072 + q))) ?_ ?_ ?_ ?_ r q
  · exact fun r l => slu_value (o := 3072) (hidB I) (I.col (by omega)) r l
  · exact fun r l => (slu_value (o := 3584) (hidB I) (I.col (by omega)) r l).trans (by
      rw [show 3072 + (512 + (l : ℕ)) = 3584 + l by omega])
  · exact fun r l => (slu_value (o := 4096) (hidB I) (I.col (by omega)) r l).trans (by
      rw [show 3072 + (1024 + (l : ℕ)) = 4096 + l by omega])
  · exact fun r l => (slu_value (o := 4608) (hidB I) (I.col (by omega)) r l).trans (by
      rw [show 3072 + (1536 + (l : ℕ)) = 4608 + l by omega])

end Cert.Layer
-- ==== Proof.Kernel.Group.lean ====
/- One chunk's state and output in a group of 512 columns, from the blocks of the convolution's buffer. -/
module

public import proofs.«01_k».proof.Proof.Kernel.Tile

@[expose] public section

set_option maxRecDepth 16384

noncomputable section

namespace Cert.Layer

open Idealize.ShloMosaic Cert.KernelIdeal Cert.KernelIdeal.Gen

variable {sg : RefSig} {κ : Kind} {sp : Space}

/-- A block's 128 rows from row `o` lie in the buffer. -/
theorem box1 {k o : ℕ} (hk : k < 24) (ho : o + 128 ≤ 264) :
    ∀ d, (![k, o, 0] : Fin 3 → ℕ) d + (![1, 128, 128] : Fin 3 → ℕ) d ≤ S24x264x128.size d := by
  intro d
  fin_cases d
  · show k + 1 ≤ 24; omega
  · show o + 128 ≤ 264; omega
  · show 0 + 128 ≤ 128; omega

/-- A column of a table. -/
theorem sl1 {k : ℕ} (hk : k < 128) : S128x128.Slices ![0, k] S128x1 :=
  ⟨rfl, fun a => match a with
    | ⟨0, _⟩ => by show 0 + 128 ≤ 128; omega
    | ⟨1, _⟩ => by show k + 1 ≤ 128; omega⟩

/-- A row of a table. -/
theorem sl2 {k : ℕ} (hk : k < 128) : S128x128.Slices ![k, 0] S1x128 :=
  ⟨rfl, fun a => match a with
    | ⟨0, _⟩ => by show k + 1 ≤ 128; omega
    | ⟨1, _⟩ => by show 0 + 128 ≤ 128; omega⟩

/-- Block `k` of the buffer, 128 rows from row `o`. -/
def blkV (u : View sg κ sp S24x264x128 .f32) (L : List (View.Piece (Elt Ideal) S24x264x128 .f32)) (o : ℕ)
    (ho : o + 128 ≤ 264) (k : ℕ) (hk : k < 24) : Vec Ideal S1x128x128 .f32 :=
  u.readCov (Val := Elt Ideal) L (Rect.unit (s := S24x264x128) ![k, o, 0] ![1, 128, 128] (box1 hk ho)).toLoadRect

/-- The group's columns of the chunk's rows. -/
def blkX (u : View sg κ sp S24x264x128 .f32) (L : List (View.Piece (Elt Ideal) S24x264x128 .f32)) (o : ℕ)
    (ho : o + 128 ≤ 264) (g : ℕ) (hg : g < 4) : FVec Ideal S128x512 .f32 :=
  cat4 (sq (blkV u L o ho (4 * g) (by omega))) (sq (blkV u L o ho (4 * g + 1) (by omega)))
    (sq (blkV u L o ho (4 * g + 2) (by omega))) (sq (blkV u L o ho (4 * g + 3) (by omega)))

variable {P : Params} {b s0 c : ℕ} {A T D E W : FVec Ideal S128x128 .f32}
  {u : View sg κ sp S24x264x128 .f32} {L : List (View.Piece (Elt Ideal) S24x264x128 .f32)}

/-- A block of a chunk, loaded back. -/
theorem blkV_value
    (hD : ∀ (y : S24x264x128.Idx → EReal) (k : Fin 24) (r : Fin 264) (l : Fin 128), 8 ≤ (r : ℕ) →
      ov (Val := Elt Ideal) (e := .f32) y L (ix3 k r l) = P.cv b (s0 + (r - 8)) (128 * k + l))
    (d : ℕ) (hd : 8 + d + 128 ≤ 264) (hc : s0 + d = c * 128) (k : ℕ) (hk : k < 24) (r l : Fin 128) :
    blkV u L (8 + d) hd k hk (ix3 (0 : Fin 1) r l) = P.cv b (c * 128 + r) (128 * k + l) :=
  cv_read hD d (by omega) hc k hk _ r l

/-- The chunk's state in a group of columns. -/
theorem st_of {o : ℕ} {ho : o + 128 ≤ 264} (K : Chunk P b c A T D E W)
    (hR : ∀ k hk (r l : Fin 128), blkV u L o ho k hk (ix3 (0 : Fin 1) r l) = P.cv b (c * 128 + r) (128 * k + l))
    (g : ℕ) (hg : g < 4) {pv : FVec Ideal S128x512 .f32}
    (hp : ∀ (n : Fin 128) (q : Fin 512), pv (ix2 n q) = P.pv b c n (512 * g + q)) (n : Fin 128) (q : Fin 512) :
    stU g pv E (contrib g (blkX u L o ho g hg) W (sq (blkV u L o ho (16 + g) (by omega)))) (ix2 n q)
      = P.pv b (c + 1) n (512 * g + q) :=
  st_step g hg K (hR _ _) (hR _ _) (hR _ _) (hR _ _) (hR _ _) hp n q

/-- The chunk's output in a group of columns. -/
theorem y_of {o : ℕ} {ho : o + 128 ≤ 264} (K : Chunk P b c A T D E W)
    (hR : ∀ k hk (r l : Fin 128), blkV u L o ho k hk (ix3 (0 : Fin 1) r l) = P.cv b (c * 128 + r) (128 * k + l))
    (g : ℕ) (hg : g < 4) {pv : FVec Ideal S128x512 .f32} {d : Vec Ideal S1x512 .f32}
    (hp : ∀ (n : Fin 128) (q : Fin 512), pv (ix2 n q) = P.pv b c n (512 * g + q))
    (hd : ∀ q : Fin 512, d (ix2 0 q) = P.dSkip ((512 * g + q) / 64)) (r : Fin 128) (q : Fin 512) :
    yG g (fun i hi => sl1 (by omega)) (fun i hi => sl2 (by omega))
        (k0_pay253 (blkV u L o ho (16 + g) (by omega)) (blkV u L o ho (20 + g) (by omega))) A T D E
        (blkV u L o ho (20 + g) (by omega)) pv (blkX u L o ho g hg) d (ix2 r q)
      = P.yd b (c * 128 + r) (512 * g + q) + P.yo b (c * 128 + r) (512 * g + q)
        + P.cv b (c * 128 + r) (512 * g + q) * P.dSkip ((512 * g + q) / 64) :=
  y_step g hg _ _ K (hR _ _) (hR _ _) (hR _ _) (hR _ _) (hR _ _) (hR _ _) hp hd r q

end Cert.Layer
-- ==== Proof.Kernel.StepA.lean ====
/- The first step of a batch: the state it leaves, the state-space output and the merged rows. -/
module

public import proofs.«01_k».proof.Proof.Kernel.StepB
public import proofs.«01_k».proof.Proof.Kernel.Group

@[expose] public section

set_option maxRecDepth 16384

noncomputable section

namespace Cert.Layer

open Idealize.ShloMosaic Cert.KernelIdeal Cert.KernelIdeal.Gen

variable {c : Dev nD} {arg1 : Memref sig .tc .vmem S1x256x1024 .f32} {harg1 : arg1.IsWhole}
  {arg3 : Memref sig .tc .vmem S1024x10368 .bf16} {harg3 : arg3.IsWhole}
  {arg4 : Memref sig .tc .vmem S1024x1024 .bf16} {harg4 : arg4.IsWhole}
  {arg5 : Memref sig .tc .vmem S2048x1024 .bf16} {harg5 : arg5.IsWhole}
  {arg9 : Memref sig .tc .vmem S4x128x128 .bf16} {harg9 : arg9.IsWhole}
  {arg10 : Memref sig .tc .vmem S128x1024 .f32} {harg10 : arg10.IsWhole}
  {arg11 : Memref sig .tc .vmem S4x3072 .f32} {harg11 : arg11.IsWhole}
  {arg12 : Memref sig .tc .vmem S1x3072 .f32} {harg12 : arg12.IsWhole}
  {arg13 : Memref sig .tc .vmem S1x128 .f32} {harg13 : arg13.IsWhole}
  {arg14 : Memref sig .tc .vmem S1x128 .f32} {harg14 : arg14.IsWhole}
  {arg15 : Memref sig .tc .vmem S1x2048 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S1x2048 .f32} {harg19 : arg19.IsWhole}
  {arg22 : Memref sig .tc .vmem S128x128 .bf16} {harg22 : arg22.IsWhole}
  {arg24 : Memref sig .tc .vmem S24x264x128 .f32}
  {arg25 : Memref sig .tc .vmem S256x2048 .f32}
  {arg26 : Memref sig .tc .vmem S128x2048 .f32}
  {x0 : Vec Ideal S1x256x1024 .f32} {x2 : Vec Ideal S1024x10368 .bf16} {x3 : Vec Ideal S1024x1024 .bf16}
  {x4 : Vec Ideal S2048x1024 .bf16} {x8 : Vec Ideal S4x128x128 .bf16} {x9 : Vec Ideal S128x1024 .f32}
  {x10 : Vec Ideal S4x3072 .f32} {x11 : Vec Ideal S1x3072 .f32} {x12 x13 : Vec Ideal S1x128 .f32}
  {x14 : Vec Ideal S1x2048 .f32} {x15 x16 x17 : Vec Ideal S1x1024 .f32} {x18 : Vec Ideal S1x2048 .f32}
  {x21 : Vec Ideal S128x128 .bf16}
  {P : Params} {b s0 c0 : ℕ}

/-- The tables of the first chunk. -/
theorem chunkA₀ (I : TileIn P b s0 x0 x2 x3 x4 x8 x9 x10 x11 x12 x13 x14 x15 x16 x17 x18 x21) (hs : s0 = c0 * 128) :
    Chunk P b c0 (kernelRun0_A.sl.r_12 (F := Ideal) c arg1 harg1 arg3 harg3 arg13 harg13 arg14 harg14 arg16 harg16 arg22 harg22 x0 x2 x12 x13 x15 x21) (kernelRun0_A.sl.r_13 (F := Ideal) c arg1 harg1 arg3 harg3 arg13 harg13 arg14 harg14 arg16 harg16 arg22 harg22 x0 x2 x12 x13 x15 x21) (kernelRun0_A.sl.r_14 (F := Ideal) c arg1 harg1 arg3 harg3 arg13 harg13 arg16 harg16 x0 x2 x12 x15) (kernelRun0_A.sl.r_15 (F := Ideal) c arg1 harg1 arg3 harg3 arg13 harg13 arg14 harg14 arg16 harg16 arg22 harg22 x0 x2 x12 x13 x15 x21) (kernelRun0_A.sl.r_16 (F := Ideal) c arg1 harg1 arg3 harg3 arg13 harg13 arg14 harg14 arg16 harg16 arg22 harg22 x0 x2 x12 x13 x15 x21) :=
  chunkB₀ (c := c) (harg1 := harg1) (harg3 := harg3) (harg13 := harg13) (harg14 := harg14) (harg16 := harg16)
    (harg22 := harg22) I hs

/-- The tables of the second chunk. -/
theorem chunkA₁ (I : TileIn P b s0 x0 x2 x3 x4 x8 x9 x10 x11 x12 x13 x14 x15 x16 x17 x18 x21) (hs : s0 = c0 * 128) :
    Chunk P b (c0 + 1) (kernelRun0_A.sl.r_22 (F := Ideal) c arg1 harg1 arg3 harg3 arg13 harg13 arg14 harg14 arg16 harg16 arg22 harg22 x0 x2 x12 x13 x15 x21) (kernelRun0_A.sl.r_23 (F := Ideal) c arg1 harg1 arg3 harg3 arg13 harg13 arg14 harg14 arg16 harg16 arg22 harg22 x0 x2 x12 x13 x15 x21) (kernelRun0_A.sl.r_24 (F := Ideal) c arg1 harg1 arg3 harg3 arg13 harg13 arg16 harg16 x0 x2 x12 x15) (kernelRun0_A.sl.r_25 (F := Ideal) c arg1 harg1 arg3 harg3 arg13 harg13 arg14 harg14 arg16 harg16 arg22 harg22 x0 x2 x12 x13 x15 x21) (kernelRun0_A.sl.r_26 (F := Ideal) c arg1 harg1 arg3 harg3 arg13 harg13 arg14 harg14 arg16 harg16 arg22 harg22 x0 x2 x12 x13 x15 x21) :=
  chunkB₁ (c := c) (harg1 := harg1) (harg3 := harg3) (harg13 := harg13) (harg14 := harg14) (harg16 := harg16)
    (harg22 := harg22) I hs

/-- The convolution's buffer when the tile's step is over. -/
theorem doneA (I : TileIn P b s0 x0 x2 x3 x4 x8 x9 x10 x11 x12 x13 x14 x15 x16 x17 x18 x21) :
    Done (fun _ => Classical.arbitrary _) (fun _ _ _ => 0) (fun r l => P.proj b (s0 + r) (5120 + l)) P.convB P.convW 24
      (kernelRun0_A.sl.HS0_97 (F := Ideal) c arg1 harg1 arg3 harg3 arg11 harg11 arg12 harg12 arg16 harg16 arg24 x0 x2 x10 x11 x15) :=
  convA (RW := fun r l => P.proj b (s0 + r) (5120 + l)) (cb := P.convB) (cw := P.convW)
    (hxb := I.convB) (hxw := I.convW)
    (arg11 := arg11) (harg11 := harg11) (arg12 := arg12) (harg12 := harg12) (arg24 := arg24)
    (h0 := fun r l => (mm_value (o := 5120) (hidB I) (I.col (by omega)) r l).trans (congrArg _ (by omega)))
    (h1 := fun r l => (mm_value (o := 5632) (hidB I) (I.col (by omega)) r l).trans (congrArg _ (by omega)))
    (h2 := fun r l => (mm_value (o := 6144) (hidB I) (I.col (by omega)) r l).trans (congrArg _ (by omega)))
    (h3 := fun r l => (mm_value (o := 6656) (hidB I) (I.col (by omega)) r l).trans (congrArg _ (by omega)))
    (h4 := fun r l => (mm_value (o := 7168) (hidB I) (I.col (by omega)) r l).trans (congrArg _ (by omega)))
    (h5 := fun r l => (mm_value (o := 7680) (hidB I) (I.col (by omega)) r l).trans (congrArg _ (by omega)))

/-- The state that enters the first chunk, by groups of columns. -/
theorem inA₀ (hp : c0 = 0) :
    (∀ (n : Fin 128) (q : Fin 512), kernelRun0_A.sl.v3337 (F := Ideal) c arg26 (ix2 n q) = P.pv b c0 n (512 * 0 + q))
    ∧ (∀ (n : Fin 128) (q : Fin 512), kernelRun0_A.sl.v3588 (F := Ideal) c arg1 harg1 arg3 harg3 arg11 harg11 arg12 harg12 arg13 harg13 arg14 harg14 arg16 harg16 arg22 harg22 arg24 arg26 x0 x2 x10 x11 x12 x13 x15 x21 (ix2 n q) = P.pv b c0 n (512 * 1 + q))
    ∧ (∀ (n : Fin 128) (q : Fin 512), kernelRun0_A.sl.v3839 (F := Ideal) c arg1 harg1 arg3 harg3 arg11 harg11 arg12 harg12 arg13 harg13 arg14 harg14 arg16 harg16 arg22 harg22 arg24 arg26 x0 x2 x10 x11 x12 x13 x15 x21 (ix2 n q) = P.pv b c0 n (512 * 2 + q))
    ∧ (∀ (n : Fin 128) (q : Fin 512), kernelRun0_A.sl.v4090 (F := Ideal) c arg1 harg1 arg3 harg3 arg11 harg11 arg12 harg12 arg13 harg13 arg14 harg14 arg16 harg16 arg22 harg22 arg24 arg26 x0 x2 x10 x11 x12 x13 x15 x21 (ix2 n q) = P.pv b c0 n (512 * 3 + q)) := by
  subst hp
  have h0 : ∀ (y : S128x2048.Idx → EReal) (n : Fin 128) (q : Fin 2048),
      ov (Val := Elt Ideal) (e := .f32) y kernelRun0_A.sl.HS2_1 (ix2 n q) = P.pv b 0 n q := fun y n q => by
    refine (ov2 (e := .f32) ..).trans ((dif_pos (by omega)).trans ?_)
    generalize ha : (⟨_, _⟩ : Fin 128) = a
    generalize hb : (⟨_, _⟩ : Fin 2048) = a'
    show k0_pay4 (ix2 a a') = 0
    pointwise [k0_pay4]
  have h1 : ∀ (y : S128x2048.Idx → EReal) (n : Fin 128) (q : Fin 2048), 512 ≤ (q : ℕ) →
      ov (Val := Elt Ideal) (e := .f32) y (kernelRun0_A.sl.HS2_2 (F := Ideal) c arg1 harg1 arg3 harg3 arg11 harg11 arg12 harg12 arg13 harg13 arg14 harg14 arg16 harg16 arg22 harg22 arg24 arg26 x0 x2 x10 x11 x12 x13 x15 x21) (ix2 n q) = P.pv b 0 n q := fun y =>
    col_old (o := 0) (f := P.pv b 0) (fun n q _ => h0 y n q)
  have h2 : ∀ (y : S128x2048.Idx → EReal) (n : Fin 128) (q : Fin 2048), 1024 ≤ (q : ℕ) →
      ov (Val := Elt Ideal) (e := .f32) y (kernelRun0_A.sl.HS2_3 (F := Ideal) c arg1 harg1 arg3 harg3 arg11 harg11 arg12 harg12 arg13 harg13 arg14 harg14 arg16 harg16 arg22 harg22 arg24 arg26 x0 x2 x10 x11 x12 x13 x15 x21) (ix2 n q) = P.pv b 0 n q := fun y =>
    col_old (o := 512) (f := P.pv b 0) (h1 y)
  have h3 : ∀ (y : S128x2048.Idx → EReal) (n : Fin 128) (q : Fin 2048), 1536 ≤ (q : ℕ) →
      ov (Val := Elt Ideal) (e := .f32) y (kernelRun0_A.sl.HS2_4 (F := Ideal) c arg1 harg1 arg3 harg3 arg11 harg11 arg12 harg12 arg13 harg13 arg14 harg14 arg16 harg16 arg22 harg22 arg24 arg26 x0 x2 x10 x11 x12 x13 x15 x21) (ix2 n q) = P.pv b 0 n q := fun y =>
    col_old (o := 1024) (f := P.pv b 0) (h2 y)
  exact ⟨fun n q => rc2 n q (by omega) (by omega) (h0 _ _ _),
    fun n q => rc2 n q (by omega) (by omega) (h1 _ _ _ (by show 512 ≤ 512 + (q : ℕ); omega)),
    fun n q => rc2 n q (by omega) (by omega) (h2 _ _ _ (by show 1024 ≤ 1024 + (q : ℕ); omega)),
    fun n q => rc2 n q (by omega) (by omega) (h3 _ _ _ (by show 1536 ≤ 1536 + (q : ℕ); omega))⟩

/-- The state after the first chunk. -/
theorem stA₀ (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_A.sl.HS0_97 (F := Ideal) c arg1 harg1 arg3 harg3 arg11 harg11 arg12 harg12 arg16 harg16 arg24 x0 x2 x10 x11 x15) (ix3 k r l) = P.cv b (s0 + (r - 8)) (128 * k + l))
    (hp : c0 = 0) (y : S128x2048.Idx → EReal) (n : Fin 128) (q : Fin 2048) :
    ov (Val := Elt Ideal) (e := .f32) y (kernelRun0_A.sl.HS2_5 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q := by
  have K := chunkA₀ (c := c) (harg1 := harg1) (harg3 := harg3) (harg13 := harg13) (harg14 := harg14) (harg16 := harg16)
    (harg22 := harg22) I hs
  have R : ∀ k hk (r l : Fin 128), blkV arg24.view (kernelRun0_A.sl.HS0_97 (F := Ideal) c arg1 harg1 arg3 harg3 arg11 harg11 arg12 harg12 arg16 harg16 arg24 x0 x2 x10 x11 x15) 8 (by decide) k hk (ix3 (0 : Fin 1) r l)
    = P.cv b (c0 * 128 + r) (128 * k + l) := blkV_value hD 0 (by decide) hs
  obtain ⟨p0, p1, p2, p3⟩ := inA₀ (c := c) (harg1 := harg1) (harg3 := harg3) (harg11 := harg11) (harg12 := harg12) (harg13 := harg13)
      (harg14 := harg14) (harg16 := harg16) (harg22 := harg22) (arg24 := arg24) (arg26 := arg26) (x0 := x0) (x2 := x2) (x10 := x10)
      (x11 := x11) (x12 := x12) (x13 := x13) (x15 := x15) (x21 := x21) hp
  refine col_new (o := 1536) (f := P.pv b (c0 + 1)) ?_ (fun n q hq => col_new (o := 1024) (f := P.pv b (c0 + 1)) ?_
    (fun n q hq => col_new (o := 512) (f := P.pv b (c0 + 1)) ?_ (fun n q hq => col_new (o := 0) (f := P.pv b (c0 + 1)) ?_
      (fun n q hq => absurd hq (by omega)) n q (by omega)) n q (by omega)) n q (by omega)) n q (by omega)
  · have h := st_of K R 3 (by decide) p3
    exact h
  · have h := st_of K R 2 (by decide) p2
    exact h
  · have h := st_of K R 1 (by decide) p1
    exact h
  · have h := st_of K R 0 (by decide) p0
    exact h

/-- The state that enters the second chunk, by groups of columns. -/
theorem inA₁
    (h0 : ∀ (y : S128x2048.Idx → EReal) (n : Fin 128) (q : Fin 2048), ov (Val := Elt Ideal) (e := .f32) y (kernelRun0_A.sl.HS2_5 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q) :
    (∀ (n : Fin 128) (q : Fin 512), kernelRun0_A.sl.v4341 (F := Ideal) c arg1 harg1 arg3 harg3 arg11 harg11 arg12 harg12 arg13 harg13 arg14 harg14 arg16 harg16 arg22 harg22 arg24 arg26 x0 x2 x10 x11 x12 x13 x15 x21 (ix2 n q) = P.pv b (c0 + 1) n (512 * 0 + q))
    ∧ (∀ (n : Fin 128) (q : Fin 512), kernelRun0_A.sl.v4592 (F := Ideal) c arg1 harg1 arg3 harg3 arg11 harg11 arg12 harg12 arg13 harg13 arg14 harg14 arg16 harg16 arg22 harg22 arg24 arg26 x0 x2 x10 x11 x12 x13 x15 x21 (ix2 n q) = P.pv b (c0 + 1) n (512 * 1 + q))
    ∧ (∀ (n : Fin 128) (q : Fin 512), kernelRun0_A.sl.v4839 (F := Ideal) c arg1 harg1 arg3 harg3 arg11 harg11 arg12 harg12 arg13 harg13 arg14 harg14 arg16 harg16 arg22 harg22 arg24 arg26 x0 x2 x10 x11 x12 x13 x15 x21 (ix2 n q) = P.pv b (c0 + 1) n (512 * 2 + q))
    ∧ (∀ (n : Fin 128) (q : Fin 512), kernelRun0_A.sl.v5073 (F := Ideal) c arg1 harg1 arg3 harg3 arg11 harg11 arg12 harg12 arg13 harg13 arg14 harg14 arg16 harg16 arg22 harg22 arg24 arg26 x0 x2 x10 x11 x12 x13 x15 x21 (ix2 n q) = P.pv b (c0 + 1) n (512 * 3 + q)) := by
  have h1 : ∀ (y : S128x2048.Idx → EReal) (n : Fin 128) (q : Fin 2048), 512 ≤ (q : ℕ) →
      ov (Val := Elt Ideal) (e := .f32) y (kernelRun0_A.sl.HS2_6 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q := fun y =>
    col_old (o := 0) (f := P.pv b (c0 + 1)) (fun n q _ => h0 y n q)
  have h2 : ∀ (y : S128x2048.Idx → EReal) (n : Fin 128) (q : Fin 2048), 1024 ≤ (q : ℕ) →
      ov (Val := Elt Ideal) (e := .f32) y (kernelRun0_A.sl.HS2_7 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q := fun y =>
    col_old (o := 512) (f := P.pv b (c0 + 1)) (h1 y)
  have h3 : ∀ (y : S128x2048.Idx → EReal) (n : Fin 128) (q : Fin 2048), 1536 ≤ (q : ℕ) →
      ov (Val := Elt Ideal) (e := .f32) y (kernelRun0_A.sl.HS2_8 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q := fun y =>
    col_old (o := 1024) (f := P.pv b (c0 + 1)) (h2 y)
  have hz : ∀ (n q : ℕ), P.pv b (c0 + 1) (0 + n) q = P.pv b (c0 + 1) n q := fun n q => by rw [Nat.zero_add]
  exact ⟨fun n q => rc2 n q (by omega) (by omega) ((h0 _ _ _).trans (hz _ _)),
    fun n q => rc2 n q (by omega) (by omega) ((h1 _ _ _ (by show 512 ≤ 512 + (q : ℕ); omega)).trans (hz _ _)),
    fun n q => rc2 n q (by omega) (by omega) ((h2 _ _ _ (by show 1024 ≤ 1024 + (q : ℕ); omega)).trans (hz _ _)),
    fun n q => rc2 n q (by omega) (by omega) ((h3 _ _ _ (by show 1536 ≤ 1536 + (q : ℕ); omega)).trans (hz _ _))⟩

/-- The state after the tile's step. -/
theorem stA₁ (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_A.sl.HS0_97 (F := Ideal) c arg1 harg1 arg3 harg3 arg11 harg11 arg12 harg12 arg16 harg16 arg24 x0 x2 x10 x11 x15) (ix3 k r l) = P.cv b (s0 + (r - 8)) (128 * k + l))
    (h0 : ∀ (y : S128x2048.Idx → EReal) (n : Fin 128) (q : Fin 2048), ov (Val := Elt Ideal) (e := .f32) y (kernelRun0_A.sl.HS2_5 (F := Ideal) c arg1 harg1 arg3 harg3 arg11 harg11 arg12 harg12 arg13 harg13 arg14 harg14 arg16 harg16 arg22 harg22 arg24 arg26 x0 x2 x10 x11 x12 x13 x15 x21) (ix2 n q) = P.pv b (c0 + 1) n q) (ib)
    (y : S128x2048.Idx → EReal) (n : Fin 128) (q : Fin 2048) :
    ov (Val := Elt Ideal) (e := .f32) y (⟨Rect.unit (s := S128x2048) ![0, 1536] ![128, 512] ib, k0_pay535 (kernelRun0_A.sl.r_183 (F := Ideal) c arg1 harg1 arg3 harg3 arg11 harg11 arg12 harg12 arg13 harg13 arg14 harg14 arg16 harg16 arg22 harg22 arg24 x0 x2 x10 x11 x12 x13 x15 x21) (kernelRun0_A.sl.v5073 (F := Ideal) c arg1 harg1 arg3 harg3 arg11 harg11 arg12 harg12 arg13 harg13 arg14 harg14 arg16 harg16 arg22 harg22 arg24 arg26 x0 x2 x10 x11 x12 x13 x15 x21) (kernelRun0_A.sl.r_320 (F := Ideal) c arg1 harg1 arg3 harg3 arg13 harg13 arg14 harg14 arg16 harg16 arg22 harg22 x0 x2 x12 x13 x15 x21)⟩ :: kernelRun0_A.sl.HS2_8 (F := Ideal) c arg1 harg1 arg3 harg3 arg11 harg11 arg12 harg12 arg13 harg13 arg14 harg14 arg16 harg16 arg22 harg22 arg24 arg26 x0 x2 x10 x11 x12 x13 x15 x21) (ix2 n q)
      = P.pv b (c0 + 2) n q := by
  have K := chunkA₁ (c := c) (harg1 := harg1) (harg3 := harg3) (harg13 := harg13) (harg14 := harg14) (harg16 := harg16)
    (harg22 := harg22) I hs
  have R : ∀ k hk (r l : Fin 128), blkV arg24.view (kernelRun0_A.sl.HS0_97 (F := Ideal) c arg1 harg1 arg3 harg3 arg11 harg11 arg12 harg12 arg16 harg16 arg24 x0 x2 x10 x11 x15) 136 (by decide) k hk (ix3 (0 : Fin 1) r l)
    = P.cv b ((c0 + 1) * 128 + r) (128 * k + l) := blkV_value hD 128 (by decide) (by omega)
  obtain ⟨p0, p1, p2, p3⟩ := inA₁ (c := c) h0
  refine col_new (o := 1536) (f := P.pv b (c0 + 2)) ?_ (fun n q hq => col_new (o := 1024) (f := P.pv b (c0 + 2)) ?_
    (fun n q hq => col_new (o := 512) (f := P.pv b (c0 + 2)) ?_ (fun n q hq => col_new (o := 0) (f := P.pv b (c0 + 2)) ?_
      (fun n q hq => absurd hq (by omega)) n q (by omega)) n q (by omega)) n q (by omega)) n q (by omega)
  · have h := st_of K R 3 (by decide) p3
    exact h
  · have h := st_of K R 2 (by decide) p2
    exact h
  · have h := st_of K R 1 (by decide) p1
    exact h
  · have h := st_of K R 0 (by decide) p0
    exact h

/-- The state-space output, before its gate. -/
theorem yA (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_A.sl.HS0_97 (F := Ideal) c arg1 harg1 arg3 harg3 arg11 harg11 arg12 harg12 arg16 harg16 arg24 x0 x2 x10 x11 x15) (ix3 k r l) = P.cv b (s0 + (r - 8)) (128 * k + l))
    (hp : c0 = 0) (r : Fin 256) (q : Fin 2048) :
    kernelRun0_A.sl.v5291 (F := Ideal) c arg1 harg1 arg3 harg3 arg11 harg11 arg12 harg12 arg13 harg13 arg14 harg14 arg15 harg15 arg16 harg16 arg22 harg22 arg24 arg25 arg26 x0 x2 x10 x11 x12 x13 x14 x15 x21 (ix2 r q) = P.yd b (s0 + r) q + P.yo b (s0 + r) q + P.cv b (s0 + r) q * P.dSkip (q / 64) := by
  have D : ∀ (o : ℕ) (ho : o + 512 ≤ 2048) (ib) (q : Fin 512),
      arg15.view.readAt (Elt Ideal) (Rect.unit (s := S1x2048) ![0, o] ![1, 512] ib).toLoadRect (harg15.unread x14) (ix2 0 q)
        = P.dSkip ((o + q) / 64) := fun o ho ib q => rd2 0 q (by decide) (by omega) (I.dSkip _)
  have h0 := stA₀ (c := c) (harg1 := harg1) (harg3 := harg3) (harg11 := harg11) (harg12 := harg12) (harg13 := harg13)
    (harg14 := harg14) (harg16 := harg16) (harg22 := harg22) (arg24 := arg24) (arg26 := arg26) I hs hD hp
  let f : ℕ → ℕ → EReal := fun r q =>
    P.yd b (s0 + r) q + P.yo b (s0 + r) q + P.cv b (s0 + r) q * P.dSkip (q / 64)
  have e0 : ∀ r q, P.yd b (c0 * 128 + r) q + P.yo b (c0 * 128 + r) q + P.cv b (c0 * 128 + r) q * P.dSkip (q / 64)
      = f (0 + r) q := fun r q => by
    rw [show c0 * 128 + r = s0 + (0 + r) by omega]
  have e1 : ∀ r q, P.yd b ((c0 + 1) * 128 + r) q + P.yo b ((c0 + 1) * 128 + r) q
      + P.cv b ((c0 + 1) * 128 + r) q * P.dSkip (q / 64) = f (128 + r) q := fun r q => by
    rw [show (c0 + 1) * 128 + r = s0 + (128 + r) by omega]
  refine rc2 r q (by omega) (by omega) ((rows_new (d := 128) (f := f) ?_ ?_ ?_ ?_
    (rows_new (d := 0) (f := f) ?_ ?_ ?_ ?_ (fun r q hr => absurd hr (by omega))) _ _ (by show 0 + (r : ℕ) < _; omega)).trans
      (by show f (0 + r) (0 + q) = f r q; rw [Nat.zero_add, Nat.zero_add]))
  · have K := chunkA₁ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 136 (by decide) k hk (ix3 (0 : Fin 1) r l)
      = P.cv b ((c0 + 1) * 128 + r) (128 * k + l) := blkV_value hD 128 (by decide) (by omega)
    have h := y_of K R 0 (by decide) (inA₁ (c := c) h0).1 (D 0 (by decide) (by decide))
    exact fun r q => (h r q).trans (e1 _ _)
  · have K := chunkA₁ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 136 (by decide) k hk (ix3 (0 : Fin 1) r l)
      = P.cv b ((c0 + 1) * 128 + r) (128 * k + l) := blkV_value hD 128 (by decide) (by omega)
    have h := y_of K R 1 (by decide) (inA₁ (c := c) h0).2.1 (D 512 (by decide) (by decide))
    exact fun r q => (h r q).trans (e1 _ _)
  · have K := chunkA₁ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 136 (by decide) k hk (ix3 (0 : Fin 1) r l)
      = P.cv b ((c0 + 1) * 128 + r) (128 * k + l) := blkV_value hD 128 (by decide) (by omega)
    have h := y_of K R 2 (by decide) (inA₁ (c := c) h0).2.2.1 (D 1024 (by decide) (by decide))
    exact fun r q => (h r q).trans (e1 _ _)
  · have K := chunkA₁ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 136 (by decide) k hk (ix3 (0 : Fin 1) r l)
      = P.cv b ((c0 + 1) * 128 + r) (128 * k + l) := blkV_value hD 128 (by decide) (by omega)
    have h := y_of K R 3 (by decide) (inA₁ (c := c) h0).2.2.2 (D 1536 (by decide) (by decide))
    exact fun r q => (h r q).trans (e1 _ _)
  · have K := chunkA₀ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 8 (by decide) k hk (ix3 (0 : Fin 1) r l)
      = P.cv b (c0 * 128 + r) (128 * k + l) := blkV_value hD 0 (by decide) hs
    have h := y_of K R 0 (by decide) (inA₀ (c := c) (harg1 := harg1) (harg3 := harg3) (harg11 := harg11) (harg12 := harg12) (harg13 := harg13)
      (harg14 := harg14) (harg16 := harg16) (harg22 := harg22) (arg24 := arg24) (arg26 := arg26) (x0 := x0) (x2 := x2) (x10 := x10)
      (x11 := x11) (x12 := x12) (x13 := x13) (x15 := x15) (x21 := x21) hp).1 (D 0 (by decide) (by decide))
    exact fun r q => (h r q).trans (e0 _ _)
  · have K := chunkA₀ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 8 (by decide) k hk (ix3 (0 : Fin 1) r l)
      = P.cv b (c0 * 128 + r) (128 * k + l) := blkV_value hD 0 (by decide) hs
    have h := y_of K R 1 (by decide) (inA₀ (c := c) (harg1 := harg1) (harg3 := harg3) (harg11 := harg11) (harg12 := harg12) (harg13 := harg13)
      (harg14 := harg14) (harg16 := harg16) (harg22 := harg22) (arg24 := arg24) (arg26 := arg26) (x0 := x0) (x2 := x2) (x10 := x10)
      (x11 := x11) (x12 := x12) (x13 := x13) (x15 := x15) (x21 := x21) hp).2.1 (D 512 (by decide) (by decide))
    exact fun r q => (h r q).trans (e0 _ _)
  · have K := chunkA₀ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 8 (by decide) k hk (ix3 (0 : Fin 1) r l)
      = P.cv b (c0 * 128 + r) (128 * k + l) := blkV_value hD 0 (by decide) hs
    have h := y_of K R 2 (by decide) (inA₀ (c := c) (harg1 := harg1) (harg3 := harg3) (harg11 := harg11) (harg12 := harg12) (harg13 := harg13)
      (harg14 := harg14) (harg16 := harg16) (harg22 := harg22) (arg24 := arg24) (arg26 := arg26) (x0 := x0) (x2 := x2) (x10 := x10)
      (x11 := x11) (x12 := x12) (x13 := x13) (x15 := x15) (x21 := x21) hp).2.2.1 (D 1024 (by decide) (by decide))
    exact fun r q => (h r q).trans (e0 _ _)
  · have K := chunkA₀ (c := c) (harg1 := harg1) (harg3 := harg3) (harg13 := harg13) (harg14 := harg14) (harg16 := harg16)
      (harg22 := harg22) I hs
    have R : ∀ k hk (r l : Fin 128), blkV arg24.view (kernelRun0_A.sl.HS0_97 (F := Ideal) c arg1 harg1 arg3 harg3 arg11 harg11 arg12 harg12 arg16 harg16 arg24 x0 x2 x10 x11 x15) 8 (by decide) k hk (ix3 (0 : Fin 1) r l)
      = P.cv b (c0 * 128 + r) (128 * k + l) := blkV_value hD 0 (by decide) hs
    have h := y_of K R 3 (by decide) (inA₀ (c := c) (harg1 := harg1) (harg3 := harg3) (harg11 := harg11) (harg12 := harg12) (harg13 := harg13)
      (harg14 := harg14) (harg16 := harg16) (harg22 := harg22) (arg24 := arg24) (arg26 := arg26) (x0 := x0) (x2 := x2) (x10 := x10)
      (x11 := x11) (x12 := x12) (x13 := x13) (x15 := x15) (x21 := x21) hp).2.2.2 (D 1536 (by decide) (by decide))
    exact fun r q => (h r q).trans (e0 _ _)

/-- The merged rows. -/
theorem mgA (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_A.sl.HS0_97 (F := Ideal) c arg1 harg1 arg3 harg3 arg11 harg11 arg12 harg12 arg16 harg16 arg24 x0 x2 x10 x11 x15) (ix3 k r l) = P.cv b (s0 + (r - 8)) (128 * k + l))
    (hp : c0 = 0) (r : Fin 256) (d : Fin 1024) :
    kernelRun0_A.sl.r_335 (F := Ideal) c arg1 harg1 arg3 harg3 arg4 harg4 arg5 harg5 arg9 harg9 arg10 harg10 arg11 harg11 arg12 harg12 arg13 harg13 arg14 harg14 arg15 harg15 arg16 harg16 arg17 harg17 arg18 harg18 arg19 harg19 arg22 harg22 arg24 arg25 arg26 x0 x2 x3 x4 x8 x9 x10 x11 x12 x13 x14 x15 x16 x17 x18 x21 (ix2 r d) = P.mg b (s0 + r) d :=
  mg_value (sig_value (o := 8224) (hidB I) (I.gcol (o := 8192) (by decide) (by decide)))
    (sig_value (o := 8736) (hidB I) (I.gcol (o := 8704) (by decide) (by decide)))
    (sig_value (o := 9248) (hidB I) (I.gcol (o := 9216) (by decide) (by decide)))
    (sig_value (o := 9760) (hidB I) (I.gcol (o := 9728) (by decide) (by decide)))
    (oa_value (o := 0) (yaB I hs) (fun k l => rd2 k l (by omega) (by omega) ((I.wOa _ _).trans (congrArg₂ P.wOa (Nat.zero_add _) rfl))))
    (oa_value (o := 512) (yaB I hs) (fun k l => rd2 k l (by omega) (by omega) ((I.wOa _ _).trans (congrArg₂ P.wOa (Nat.zero_add _) rfl))))
    (zB I) (yA I hs hD hp) (fun q => rdw2 (I.ssmG q)) (fun q d => rdw2 (I.wOb q d)) r d

end Cert.Layer
-- ==== Proof.Kernel.StepB2.lean ====
/- A tile's step in the middle of a batch: the state it leaves, the state-space output and the merged rows. -/
module

public import proofs.«01_k».proof.Proof.Kernel.StepB
public import proofs.«01_k».proof.Proof.Kernel.Group

@[expose] public section

set_option maxRecDepth 16384

noncomputable section

namespace Cert.Layer

open Idealize.ShloMosaic Cert.KernelIdeal Cert.KernelIdeal.Gen

variable {c : Dev nD} {arg1 : Memref sig .tc .vmem S1x256x1024 .f32} {harg1 : arg1.IsWhole}
  {arg3 : Memref sig .tc .vmem S1024x10368 .bf16} {harg3 : arg3.IsWhole}
  {arg4 : Memref sig .tc .vmem S1024x1024 .bf16} {harg4 : arg4.IsWhole}
  {arg5 : Memref sig .tc .vmem S2048x1024 .bf16} {harg5 : arg5.IsWhole}
  {arg9 : Memref sig .tc .vmem S4x128x128 .bf16} {harg9 : arg9.IsWhole}
  {arg10 : Memref sig .tc .vmem S128x1024 .f32} {harg10 : arg10.IsWhole}
  {arg11 : Memref sig .tc .vmem S4x3072 .f32} {harg11 : arg11.IsWhole}
  {arg12 : Memref sig .tc .vmem S1x3072 .f32} {harg12 : arg12.IsWhole}
  {arg13 : Memref sig .tc .vmem S1x128 .f32} {harg13 : arg13.IsWhole}
  {arg14 : Memref sig .tc .vmem S1x128 .f32} {harg14 : arg14.IsWhole}
  {arg15 : Memref sig .tc .vmem S1x2048 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S1x2048 .f32} {harg19 : arg19.IsWhole}
  {arg22 : Memref sig .tc .vmem S128x128 .bf16} {harg22 : arg22.IsWhole}
  {arg24 : Memref sig .tc .vmem S24x264x128 .f32} {harg24 : arg24.IsWhole}
  {arg25 : Memref sig .tc .vmem S256x2048 .f32}
  {arg26 : Memref sig .tc .vmem S128x2048 .f32} {harg26 : arg26.IsWhole}
  {x0 : Vec Ideal S1x256x1024 .f32} {x2 : Vec Ideal S1024x10368 .bf16} {x3 : Vec Ideal S1024x1024 .bf16}
  {x4 : Vec Ideal S2048x1024 .bf16} {x8 : Vec Ideal S4x128x128 .bf16} {x9 : Vec Ideal S128x1024 .f32}
  {x10 : Vec Ideal S4x3072 .f32} {x11 : Vec Ideal S1x3072 .f32} {x12 x13 : Vec Ideal S1x128 .f32}
  {x14 : Vec Ideal S1x2048 .f32} {x15 x16 x17 : Vec Ideal S1x1024 .f32} {x18 : Vec Ideal S1x2048 .f32}
  {x21 : Vec Ideal S128x128 .bf16} {xs0 : Vec Ideal S24x264x128 .f32} {xs2 : Vec Ideal S128x2048 .f32}
  {P : Params} {b s0 c0 : ℕ}

/-- The state that enters the first chunk, by groups of columns. -/
theorem inB₀ (hp : ∀ (n : Fin 128) (q : Fin 2048), xs2 (ix2 n q) = P.pv b c0 n q) :
    (∀ (n : Fin 128) (q : Fin 512), kernelRun0_B.sl.r_202 (F := Ideal) c arg26 harg26 xs2 (ix2 n q) = P.pv b c0 n (512 * 0 + q))
    ∧ (∀ (n : Fin 128) (q : Fin 512), kernelRun0_B.sl.v3588 (F := Ideal) c arg26 harg26 xs2 (ix2 n q) = P.pv b c0 n (512 * 1 + q))
    ∧ (∀ (n : Fin 128) (q : Fin 512), kernelRun0_B.sl.v3839 (F := Ideal) c arg26 harg26 xs2 (ix2 n q) = P.pv b c0 n (512 * 2 + q))
    ∧ (∀ (n : Fin 128) (q : Fin 512), kernelRun0_B.sl.v4090 (F := Ideal) c arg26 harg26 xs2 (ix2 n q) = P.pv b c0 n (512 * 3 + q)) := by
  refine ⟨fun n q => ?_, fun n q => ?_, fun n q => ?_, fun n q => ?_⟩ <;>
  exact rd2 n q (by omega) (by omega) ((hp _ _).trans (congrArg (fun n => P.pv b c0 n _) (Nat.zero_add _)))

/-- The state after the first chunk. -/
theorem stB₀ (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_B.sl.HS0_96 (F := Ideal) c arg1 harg1 arg3 harg3 arg11 harg11 arg12 harg12 arg16 harg16 arg24 harg24 x0 x2 x10 x11 x15 xs0) (ix3 k r l) = P.cv b (s0 + (r - 8)) (128 * k + l))
    (hp : ∀ (n : Fin 128) (q : Fin 2048), xs2 (ix2 n q) = P.pv b c0 n q) (y : S128x2048.Idx → EReal) (n : Fin 128) (q : Fin 2048) :
    ov (Val := Elt Ideal) (e := .f32) y (kernelRun0_B.sl.HS2_4 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q := by
  have K := chunkB₀ (c := c) (harg1 := harg1) (harg3 := harg3) (harg13 := harg13) (harg14 := harg14) (harg16 := harg16)
    (harg22 := harg22) I hs
  have R : ∀ k hk (r l : Fin 128), blkV arg24.view (kernelRun0_B.sl.HS0_96 (F := Ideal) c arg1 harg1 arg3 harg3 arg11 harg11 arg12 harg12 arg16 harg16 arg24 harg24 x0 x2 x10 x11 x15 xs0) 8 (by decide) k hk (ix3 (0 : Fin 1) r l)
    = P.cv b (c0 * 128 + r) (128 * k + l) := blkV_value hD 0 (by decide) hs
  obtain ⟨p0, p1, p2, p3⟩ := inB₀ (c := c) (harg26 := harg26) hp
  refine col_new (o := 1536) (f := P.pv b (c0 + 1)) ?_ (fun n q hq => col_new (o := 1024) (f := P.pv b (c0 + 1)) ?_
    (fun n q hq => col_new (o := 512) (f := P.pv b (c0 + 1)) ?_ (fun n q hq => col_new (o := 0) (f := P.pv b (c0 + 1)) ?_
      (fun n q hq => absurd hq (by omega)) n q (by omega)) n q (by omega)) n q (by omega)) n q (by omega)
  · have h := st_of K R 3 (by decide) p3
    exact h
  · have h := st_of K R 2 (by decide) p2
    exact h
  · have h := st_of K R 1 (by decide) p1
    exact h
  · have h := st_of K R 0 (by decide) p0
    exact h

/-- The state that enters the second chunk, by groups of columns. -/
theorem inB₁
    (h0 : ∀ (y : S128x2048.Idx → EReal) (n : Fin 128) (q : Fin 2048), ov (Val := Elt Ideal) (e := .f32) y (kernelRun0_B.sl.HS2_4 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q) :
    (∀ (n : Fin 128) (q : Fin 512), kernelRun0_B.sl.v4341 (F := Ideal) c arg1 harg1 arg3 harg3 arg11 harg11 arg12 harg12 arg13 harg13 arg14 harg14 arg16 harg16 arg22 harg22 arg24 harg24 arg26 harg26 x0 x2 x10 x11 x12 x13 x15 x21 xs0 xs2 (ix2 n q) = P.pv b (c0 + 1) n (512 * 0 + q))
    ∧ (∀ (n : Fin 128) (q : Fin 512), kernelRun0_B.sl.v4592 (F := Ideal) c arg1 harg1 arg3 harg3 arg11 harg11 arg12 harg12 arg13 harg13 arg14 harg14 arg16 harg16 arg22 harg22 arg24 harg24 arg26 harg26 x0 x2 x10 x11 x12 x13 x15 x21 xs0 xs2 (ix2 n q) = P.pv b (c0 + 1) n (512 * 1 + q))
    ∧ (∀ (n : Fin 128) (q : Fin 512), kernelRun0_B.sl.v4839 (F := Ideal) c arg1 harg1 arg3 harg3 arg11 harg11 arg12 harg12 arg13 harg13 arg14 harg14 arg16 harg16 arg22 harg22 arg24 harg24 arg26 harg26 x0 x2 x10 x11 x12 x13 x15 x21 xs0 xs2 (ix2 n q) = P.pv b (c0 + 1) n (512 * 2 + q))
    ∧ (∀ (n : Fin 128) (q : Fin 512), kernelRun0_B.sl.v5073 (F := Ideal) c arg1 harg1 arg3 harg3 arg11 harg11 arg12 harg12 arg13 harg13 arg14 harg14 arg16 harg16 arg22 harg22 arg24 harg24 arg26 harg26 x0 x2 x10 x11 x12 x13 x15 x21 xs0 xs2 (ix2 n q) = P.pv b (c0 + 1) n (512 * 3 + q)) := by
  have h1 : ∀ (y : S128x2048.Idx → EReal) (n : Fin 128) (q : Fin 2048), 512 ≤ (q : ℕ) →
      ov (Val := Elt Ideal) (e := .f32) y (kernelRun0_B.sl.HS2_5 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q := fun y =>
    col_old (o := 0) (f := P.pv b (c0 + 1)) (fun n q _ => h0 y n q)
  have h2 : ∀ (y : S128x2048.Idx → EReal) (n : Fin 128) (q : Fin 2048), 1024 ≤ (q : ℕ) →
      ov (Val := Elt Ideal) (e := .f32) y (kernelRun0_B.sl.HS2_6 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q := fun y =>
    col_old (o := 512) (f := P.pv b (c0 + 1)) (h1 y)
  have h3 : ∀ (y : S128x2048.Idx → EReal) (n : Fin 128) (q : Fin 2048), 1536 ≤ (q : ℕ) →
      ov (Val := Elt Ideal) (e := .f32) y (kernelRun0_B.sl.HS2_7 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q := fun y =>
    col_old (o := 1024) (f := P.pv b (c0 + 1)) (h2 y)
  have hz : ∀ (n q : ℕ), P.pv b (c0 + 1) (0 + n) q = P.pv b (c0 + 1) n q := fun n q => by rw [Nat.zero_add]
  exact ⟨fun n q => rc2 n q (by omega) (by omega) ((h0 _ _ _).trans (hz _ _)),
    fun n q => rc2 n q (by omega) (by omega) ((h1 _ _ _ (by show 512 ≤ 512 + (q : ℕ); omega)).trans (hz _ _)),
    fun n q => rc2 n q (by omega) (by omega) ((h2 _ _ _ (by show 1024 ≤ 1024 + (q : ℕ); omega)).trans (hz _ _)),
    fun n q => rc2 n q (by omega) (by omega) ((h3 _ _ _ (by show 1536 ≤ 1536 + (q : ℕ); omega)).trans (hz _ _))⟩

/-- The state after the tile's step. -/
theorem stB₁ (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_B.sl.HS0_96 (F := Ideal) c arg1 harg1 arg3 harg3 arg11 harg11 arg12 harg12 arg16 harg16 arg24 harg24 x0 x2 x10 x11 x15 xs0) (ix3 k r l) = P.cv b (s0 + (r - 8)) (128 * k + l))
    (h0 : ∀ (y : S128x2048.Idx → EReal) (n : Fin 128) (q : Fin 2048), ov (Val := Elt Ideal) (e := .f32) y (kernelRun0_B.sl.HS2_4 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q) = P.pv b (c0 + 1) n q) (ib)
    (y : S128x2048.Idx → EReal) (n : Fin 128) (q : Fin 2048) :
    ov (Val := Elt Ideal) (e := .f32) y (⟨Rect.unit (s := S128x2048) ![0, 1536] ![128, 512] ib, k0_pay535 (kernelRun0_B.sl.r_183 (F := Ideal) c arg1 harg1 arg3 harg3 arg11 harg11 arg12 harg12 arg13 harg13 arg14 harg14 arg16 harg16 arg22 harg22 arg24 harg24 x0 x2 x10 x11 x12 x13 x15 x21 xs0) (kernelRun0_B.sl.v5073 (F := Ideal) c arg1 harg1 arg3 harg3 arg11 harg11 arg12 harg12 arg13 harg13 arg14 harg14 arg16 harg16 arg22 harg22 arg24 harg24 arg26 harg26 x0 x2 x10 x11 x12 x13 x15 x21 xs0 xs2) (kernelRun0_B.sl.r_321 (F := Ideal) c arg1 harg1 arg3 harg3 arg13 harg13 arg14 harg14 arg16 harg16 arg22 harg22 x0 x2 x12 x13 x15 x21)⟩ :: kernelRun0_B.sl.HS2_7 (F := Ideal) c arg1 harg1 arg3 harg3 arg11 harg11 arg12 harg12 arg13 harg13 arg14 harg14 arg16 harg16 arg22 harg22 arg24 harg24 arg26 harg26 x0 x2 x10 x11 x12 x13 x15 x21 xs0 xs2) (ix2 n q)
      = P.pv b (c0 + 2) n q := by
  have K := chunkB₁ (c := c) (harg1 := harg1) (harg3 := harg3) (harg13 := harg13) (harg14 := harg14) (harg16 := harg16)
    (harg22 := harg22) I hs
  have R : ∀ k hk (r l : Fin 128), blkV arg24.view (kernelRun0_B.sl.HS0_96 (F := Ideal) c arg1 harg1 arg3 harg3 arg11 harg11 arg12 harg12 arg16 harg16 arg24 harg24 x0 x2 x10 x11 x15 xs0) 136 (by decide) k hk (ix3 (0 : Fin 1) r l)
    = P.cv b ((c0 + 1) * 128 + r) (128 * k + l) := blkV_value hD 128 (by decide) (by omega)
  obtain ⟨p0, p1, p2, p3⟩ := inB₁ (c := c) h0
  refine col_new (o := 1536) (f := P.pv b (c0 + 2)) ?_ (fun n q hq => col_new (o := 1024) (f := P.pv b (c0 + 2)) ?_
    (fun n q hq => col_new (o := 512) (f := P.pv b (c0 + 2)) ?_ (fun n q hq => col_new (o := 0) (f := P.pv b (c0 + 2)) ?_
      (fun n q hq => absurd hq (by omega)) n q (by omega)) n q (by omega)) n q (by omega)) n q (by omega)
  · have h := st_of K R 3 (by decide) p3
    exact h
  · have h := st_of K R 2 (by decide) p2
    exact h
  · have h := st_of K R 1 (by decide) p1
    exact h
  · have h := st_of K R 0 (by decide) p0
    exact h

/-- The state-space output, before its gate. -/
theorem yB (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_B.sl.HS0_96 (F := Ideal) c arg1 harg1 arg3 harg3 arg11 harg11 arg12 harg12 arg16 harg16 arg24 harg24 x0 x2 x10 x11 x15 xs0) (ix3 k r l) = P.cv b (s0 + (r - 8)) (128 * k + l))
    (hp : ∀ (n : Fin 128) (q : Fin 2048), xs2 (ix2 n q) = P.pv b c0 n q) (r : Fin 256) (q : Fin 2048) :
    kernelRun0_B.sl.v5291 (F := Ideal) c arg1 harg1 arg3 harg3 arg11 harg11 arg12 harg12 arg13 harg13 arg14 harg14 arg15 harg15 arg16 harg16 arg22 harg22 arg24 harg24 arg25 arg26 harg26 x0 x2 x10 x11 x12 x13 x14 x15 x21 xs0 xs2 (ix2 r q) = P.yd b (s0 + r) q + P.yo b (s0 + r) q + P.cv b (s0 + r) q * P.dSkip (q / 64) := by
  have D : ∀ (o : ℕ) (ho : o + 512 ≤ 2048) (ib) (q : Fin 512),
      arg15.view.readAt (Elt Ideal) (Rect.unit (s := S1x2048) ![0, o] ![1, 512] ib).toLoadRect (harg15.unread x14) (ix2 0 q)
        = P.dSkip ((o + q) / 64) := fun o ho ib q => rd2 0 q (by decide) (by omega) (I.dSkip _)
  have h0 := stB₀ (c := c) (harg1 := harg1) (harg3 := harg3) (harg11 := harg11) (harg12 := harg12) (harg13 := harg13)
    (harg14 := harg14) (harg16 := harg16) (harg22 := harg22) (harg24 := harg24) (harg26 := harg26) I hs hD hp
  let f : ℕ → ℕ → EReal := fun r q =>
    P.yd b (s0 + r) q + P.yo b (s0 + r) q + P.cv b (s0 + r) q * P.dSkip (q / 64)
  have e0 : ∀ r q, P.yd b (c0 * 128 + r) q + P.yo b (c0 * 128 + r) q + P.cv b (c0 * 128 + r) q * P.dSkip (q / 64)
      = f (0 + r) q := fun r q => by
    rw [show c0 * 128 + r = s0 + (0 + r) by omega]
  have e1 : ∀ r q, P.yd b ((c0 + 1) * 128 + r) q + P.yo b ((c0 + 1) * 128 + r) q
      + P.cv b ((c0 + 1) * 128 + r) q * P.dSkip (q / 64) = f (128 + r) q := fun r q => by
    rw [show (c0 + 1) * 128 + r = s0 + (128 + r) by omega]
  refine rc2 r q (by omega) (by omega) ((rows_new (d := 128) (f := f) ?_ ?_ ?_ ?_
    (rows_new (d := 0) (f := f) ?_ ?_ ?_ ?_ (fun r q hr => absurd hr (by omega))) _ _ (by show 0 + (r : ℕ) < _; omega)).trans
      (by show f (0 + r) (0 + q) = f r q; rw [Nat.zero_add, Nat.zero_add]))
  · have K := chunkB₁ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 136 (by decide) k hk (ix3 (0 : Fin 1) r l)
      = P.cv b ((c0 + 1) * 128 + r) (128 * k + l) := blkV_value hD 128 (by decide) (by omega)
    have h := y_of K R 0 (by decide) (inB₁ (c := c) h0).1 (D 0 (by decide) (by decide))
    exact fun r q => (h r q).trans (e1 _ _)
  · have K := chunkB₁ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 136 (by decide) k hk (ix3 (0 : Fin 1) r l)
      = P.cv b ((c0 + 1) * 128 + r) (128 * k + l) := blkV_value hD 128 (by decide) (by omega)
    have h := y_of K R 1 (by decide) (inB₁ (c := c) h0).2.1 (D 512 (by decide) (by decide))
    exact fun r q => (h r q).trans (e1 _ _)
  · have K := chunkB₁ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 136 (by decide) k hk (ix3 (0 : Fin 1) r l)
      = P.cv b ((c0 + 1) * 128 + r) (128 * k + l) := blkV_value hD 128 (by decide) (by omega)
    have h := y_of K R 2 (by decide) (inB₁ (c := c) h0).2.2.1 (D 1024 (by decide) (by decide))
    exact fun r q => (h r q).trans (e1 _ _)
  · have K := chunkB₁ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 136 (by decide) k hk (ix3 (0 : Fin 1) r l)
      = P.cv b ((c0 + 1) * 128 + r) (128 * k + l) := blkV_value hD 128 (by decide) (by omega)
    have h := y_of K R 3 (by decide) (inB₁ (c := c) h0).2.2.2 (D 1536 (by decide) (by decide))
    exact fun r q => (h r q).trans (e1 _ _)
  · have K := chunkB₀ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 8 (by decide) k hk (ix3 (0 : Fin 1) r l)
      = P.cv b (c0 * 128 + r) (128 * k + l) := blkV_value hD 0 (by decide) hs
    have h := y_of K R 0 (by decide) (inB₀ (c := c) (harg26 := harg26) hp).1 (D 0 (by decide) (by decide))
    exact fun r q => (h r q).trans (e0 _ _)
  · have K := chunkB₀ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 8 (by decide) k hk (ix3 (0 : Fin 1) r l)
      = P.cv b (c0 * 128 + r) (128 * k + l) := blkV_value hD 0 (by decide) hs
    have h := y_of K R 1 (by decide) (inB₀ (c := c) (harg26 := harg26) hp).2.1 (D 512 (by decide) (by decide))
    exact fun r q => (h r q).trans (e0 _ _)
  · have K := chunkB₀ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 8 (by decide) k hk (ix3 (0 : Fin 1) r l)
      = P.cv b (c0 * 128 + r) (128 * k + l) := blkV_value hD 0 (by decide) hs
    have h := y_of K R 2 (by decide) (inB₀ (c := c) (harg26 := harg26) hp).2.2.1 (D 1024 (by decide) (by decide))
    exact fun r q => (h r q).trans (e0 _ _)
  · have K := chunkB₀ (c := c) (harg1 := harg1) (harg3 := harg3) (harg13 := harg13) (harg14 := harg14) (harg16 := harg16)
      (harg22 := harg22) I hs
    have R : ∀ k hk (r l : Fin 128), blkV arg24.view (kernelRun0_B.sl.HS0_96 (F := Ideal) c arg1 harg1 arg3 harg3 arg11 harg11 arg12 harg12 arg16 harg16 arg24 harg24 x0 x2 x10 x11 x15 xs0) 8 (by decide) k hk (ix3 (0 : Fin 1) r l)
      = P.cv b (c0 * 128 + r) (128 * k + l) := blkV_value hD 0 (by decide) hs
    have h := y_of K R 3 (by decide) (inB₀ (c := c) (harg26 := harg26) hp).2.2.2 (D 1536 (by decide) (by decide))
    exact fun r q => (h r q).trans (e0 _ _)

/-- The merged rows. -/
theorem mgB (I : TileIn P b s0 x0 x2 x3 x4 x8 x9 x10 x11 x12 x13 x14 x15 x16 x17 x18 x21) (hs : s0 = c0 * 128)
    (hD : ∀ (y : S24x264x128.Idx → EReal) (k : Fin 24) (r : Fin 264) (l : Fin 128), 8 ≤ (r : ℕ) →
      ov (Val := Elt Ideal) (e := .f32) y (kernelRun0_B.sl.HS0_96 (F := Ideal) c arg1 harg1 arg3 harg3 arg11 harg11 arg12 harg12 arg16 harg16 arg24 harg24 x0 x2 x10 x11 x15 xs0) (ix3 k r l) = P.cv b (s0 + (r - 8)) (128 * k + l))
    (hp : ∀ (n : Fin 128) (q : Fin 2048), xs2 (ix2 n q) = P.pv b c0 n q) (r : Fin 256) (d : Fin 1024) :
    kernelRun0_B.sl.r_336 (F := Ideal) c arg1 harg1 arg3 harg3 arg4 harg4 arg5 harg5 arg9 harg9 arg10 harg10 arg11 harg11 arg12 harg12 arg13 harg13 arg14 harg14 arg15 harg15 arg16 harg16 arg17 harg17 arg18 harg18 arg19 harg19 arg22 harg22 arg24 harg24 arg25 arg26 harg26 x0 x2 x3 x4 x8 x9 x10 x11 x12 x13 x14 x15 x16 x17 x18 x21 xs0 xs2 (ix2 r d) = P.mg b (s0 + r) d :=
  mg_value (sig_value (o := 8224) (hidB I) (I.gcol (o := 8192) (by decide) (by decide)))
    (sig_value (o := 8736) (hidB I) (I.gcol (o := 8704) (by decide) (by decide)))
    (sig_value (o := 9248) (hidB I) (I.gcol (o := 9216) (by decide) (by decide)))
    (sig_value (o := 9760) (hidB I) (I.gcol (o := 9728) (by decide) (by decide)))
    (oa_value (o := 0) (yaB I hs) (fun k l => rd2 k l (by omega) (by omega) ((I.wOa _ _).trans (congrArg₂ P.wOa (Nat.zero_add _) rfl))))
    (oa_value (o := 512) (yaB I hs) (fun k l => rd2 k l (by omega) (by omega) ((I.wOa _ _).trans (congrArg₂ P.wOa (Nat.zero_add _) rfl))))
    (zB I) (yB I hs hD hp) (fun q => rdw2 (I.ssmG q)) (fun q d => rdw2 (I.wOb q d)) r d

end Cert.Layer
-- ==== Proof.Kernel.Outs.lean ====
/- What a step of the grid leaves in the buffers that are carried, and the tile it writes. -/
module

public import proofs.«01_k».proof.Proof.Kernel.StepA
public import proofs.«01_k».proof.Proof.Kernel.StepB2
public import proofs.«01_k».proof.Proof.Frame.Run

@[expose] public section

set_option maxRecDepth 16384
set_option maxHeartbeats 1000000

noncomputable section

namespace Cert.Layer

open Idealize.ShloMosaic Cert.KernelIdeal Cert.KernelIdeal.Gen

/-- The carried buffers after the tile at position `s0` of batch `b`: the last rows of the convolution's input, the state
    after `c` chunks, the merged rows and the input rows. -/
structure After (P : Params) (b s0 c : ℕ) (o : Vec Ideal S1x256x1024 .f32 × Vec Ideal S24x264x128 .f32
    × Vec Ideal S128x2048 .f32 × Vec Ideal S256x1024 .bf16 × Vec Ideal S256x1024 .f32) : Prop where
  xp : ∀ (k : Fin 24) (r : Fin 264) (l : Fin 128), (r : ℕ) < 8 → o.2.1 (ix3 k r l) = keep P b (s0 + 256) r (128 * k + l)
  st : ∀ (n : Fin 128) (q : Fin 2048), o.2.2.1 (ix2 n q) = P.pv b c n q
  mg : ∀ (r : Fin 256) (d : Fin 1024), o.2.2.2.1 (ix2 r d) = P.mg b (s0 + r) d
  xr : ∀ (r : Fin 256) (d : Fin 1024), o.2.2.2.2 (ix2 r d) = P.x b (s0 + r) d

/-- A store of a whole one-plane buffer, read back. -/
theorem ov3 {n c : ℕ} {x : Shape.Idx ⟨3, ![1, n, c]⟩ → EReal} {ib}
    {w : (Rect.unit (s := ⟨3, ![1, n, c]⟩) ![0, 0, 0] ![1, n, c] ib).shape.Idx → EReal}
    {L : List (View.Piece (Elt Ideal) ⟨3, ![1, n, c]⟩ .f32)} (r : Fin n) (l : Fin c) :
    ov (Val := Elt Ideal) (e := .f32) x (⟨Rect.unit (s := ⟨3, ![1, n, c]⟩) ![0, 0, 0] ![1, n, c] ib, w⟩ :: L)
      (ix3 (0 : Fin 1) r l) = w (ix3 (0 : Fin 1) r l) := by
  have e : (Rect.unit (s := ⟨3, ![1, n, c]⟩) ![0, 0, 0] ![1, n, c] ib).emb (ix3 (0 : Fin 1) r l) = ix3 (0 : Fin 1) r l := by
    funext i
    fin_cases i
    · exact Fin.ext (by show 0 + 1 * 0 = 0; omega)
    · exact Fin.ext (by show 0 + 1 * r.val = r.val; omega)
    · exact Fin.ext (by show 0 + 1 * l.val = l.val; omega)
  conv_lhs => rw [← e]
  exact ov_cons_emb (Val := Elt Ideal) x _ w L _

/-- The input rows kept for the next step. -/
theorem xr_value {sg : RefSig} {κ : Kind} {sp : Space} {v : Memref sg κ sp S1x256x1024 .f32} {h : v.IsWhole}
    {x : Vec Ideal S1x256x1024 .f32} {f : ℕ → EReal} {r : Fin 256} {ib} (hx : ∀ d : Fin 1024, x (ix3 0 r d) = f d)
    (d : Fin 1024) {i : Fin 256} {j : Fin 1024} (hi : i = r := by rfl) (hj : j = d := by rfl) :
    k0_pay1 (v.view.readAt (Elt Ideal) (Rect.unit (s := S1x256x1024) ![0, 0, 0] ![1, 256, 1024] ib).toLoadRect (h.unread x))
      (ix2 i j) = f d := by
  subst hi hj
  refine Eq.trans ?_ (rd3 (m := v) (h := h) (x := x) (ib := ib) (o := 0) i j (by decide) (hx j))
  generalize v.view.readAt _ _ _ = w
  pointwise [k0_pay1]

variable {m : (ℓ : Loc nD τ sig) → Buf (Elt Ideal) ℓ} {c : Dev nD} {P : Params} {b s0 c0 : ℕ}

/-- The tile's blocks of the operands at a step. -/
abbrev TileAt (P : Params) (b s0 : ℕ) (m : (ℓ : Loc nD τ sig) → Buf (Elt Ideal) ℓ) (c : Dev nD) (t : Fin cfg0.N) : Prop :=
  TileIn P b s0 (iblk m c 0 t) (iblk m c 2 t) (iblk m c 3 t) (iblk m c 4 t) (iblk m c 8 t) (iblk m c 9 t) (iblk m c 10 t)
    (iblk m c 11 t) (iblk m c 12 t) (iblk m c 13 t) (iblk m c 14 t) (iblk m c 15 t) (iblk m c 16 t) (iblk m c 17 t)
    (iblk m c 18 t) (iblk m c 21 t)

/-- A middle step of a batch. -/
theorem afterB (t : Fin cfg0.N) (h0 : ¬t.val % 257 = 0) (h1 : ¬t.val % 32 = 0) (I : TileAt P b (s0 + 256) m c t)
    (hs : s0 + 256 = c0 * 128)
    (A : After P b s0 c0 (outsAt0 m c (t.val - 1) (Nat.lt_of_le_of_lt (Nat.sub_le _ _) t.isLt))) :
    After P b (s0 + 256) (c0 + 2) (outsAt0 m c t.val t.isLt) := by
  rw [outsAt0_B m c t h0 h1]
  have D := doneB (c := c) (harg1 := hs0_0 t) (harg3 := hs0_2 t) (harg11 := hs0_10 t) (harg12 := hs0_11 t)
    (harg16 := hs0_15 t) (arg24 := scM0_0)
    (harg24 := Memref.isWhole_whole _) I A.xp
  constructor
  · intro k r l hr
    dsimp only
    unfold sout0_B_0
    rw [View.read_writes_junk_eq_canon, canon_eq_ov]
    exact keep_done D _ k r l hr
  · intro n q
    dsimp only
    unfold sout0_B_2
    rw [View.read_writes_junk_eq_canon, canon_eq_ov]
    exact stB₁ I hs (fun y => cv_done (by omega) D (fun _ _ _ => rfl) y)
      (stB₀ I hs (fun y => cv_done (by omega) D (fun _ _ _ => rfl) y) A.st) _ _ n q
  · intro r d
    dsimp only
    unfold sout0_B_3
    rw [View.read_writes_junk_eq_canon, canon_eq_ov]
    refine (ov2 (e := .bf16) ..).trans ((dif_pos (by omega)).trans ?_)
    exact mgB I hs (fun y => cv_done (by omega) D (fun _ _ _ => rfl) y) A.st r d
  · intro r d
    dsimp only
    unfold sout0_B_4
    rw [View.read_writes_junk_eq_canon, canon_eq_ov]
    refine (ov2 (e := .f32) ..).trans ((dif_pos (by omega)).trans ?_)
    exact xr_value (I.x r) d

/-- The first step. -/
theorem afterA (t : Fin cfg0.N) (h0 : t.val % 257 = 0) (h1 : t.val % 32 = 0) (I : TileAt P b 0 m c t) :
    After P b 0 2 (outsAt0 m c t.val t.isLt) := by
  rw [outsAt0_A m c t h0 h1]
  have D := doneA (c := c) (harg1 := hs0_0 t) (harg3 := hs0_2 t) (harg11 := hs0_10 t) (harg12 := hs0_11 t)
    (harg16 := hs0_15 t) (arg24 := scM0_0) I
  constructor
  · intro k r l hr
    dsimp only
    unfold sout0_A_0
    rw [View.read_writes_junk_eq_canon, canon_eq_ov]
    exact keep_done D _ k r l hr
  · intro n q
    dsimp only
    unfold sout0_A_2
    rw [View.read_writes_junk_eq_canon, canon_eq_ov]
    exact stA₁ (c0 := 0) I (by omega) (fun y => cv_done (by omega) D (fun _ _ _ => (if_pos rfl).symm) y)
      (stA₀ (c0 := 0) I (by omega) (fun y => cv_done (by omega) D (fun _ _ _ => (if_pos rfl).symm) y) rfl) _ _ n q
  · intro r d
    dsimp only
    unfold sout0_A_3
    rw [View.read_writes_junk_eq_canon, canon_eq_ov]
    refine (ov2 (e := .bf16) ..).trans ((dif_pos (by omega)).trans ?_)
    exact mgA (c0 := 0) I (by omega) (fun y => cv_done (by omega) D (fun _ _ _ => (if_pos rfl).symm) y) rfl r d
  · intro r d
    dsimp only
    unfold sout0_A_4
    rw [View.read_writes_junk_eq_canon, canon_eq_ov]
    refine (ov2 (e := .f32) ..).trans ((dif_pos (by omega)).trans ?_)
    exact xr_value (I.x r) d

/-- The first step of a later batch. -/
theorem afterC (t : Fin cfg0.N) (h0 : ¬t.val % 257 = 0) (h1 : t.val % 32 = 0) (I : TileAt P b 0 m c t) :
    After P b 0 2 (outsAt0 m c t.val t.isLt) := by
  rw [outsAt0_C m c t h0 h1]
  have D := doneA (c := c) (harg1 := hs0_0 t) (harg3 := hs0_2 t) (harg11 := hs0_10 t) (harg12 := hs0_11 t)
    (harg16 := hs0_15 t) (arg24 := scM0_0) I
  constructor
  · intro k r l hr
    dsimp only
    unfold sout0_C_0
    rw [View.read_writes_junk_eq_canon, canon_eq_ov]
    exact keep_done D _ k r l hr
  · intro n q
    dsimp only
    unfold sout0_C_2
    rw [View.read_writes_junk_eq_canon, canon_eq_ov]
    exact stA₁ (c0 := 0) I (by omega) (fun y => cv_done (by omega) D (fun _ _ _ => (if_pos rfl).symm) y)
      (stA₀ (c0 := 0) I (by omega) (fun y => cv_done (by omega) D (fun _ _ _ => (if_pos rfl).symm) y) rfl) _ _ n q
  · intro r d
    dsimp only
    unfold sout0_C_3
    rw [View.read_writes_junk_eq_canon, canon_eq_ov]
    refine (ov2 (e := .bf16) ..).trans ((dif_pos (by omega)).trans ?_)
    exact mgA (c0 := 0) I (by omega) (fun y => cv_done (by omega) D (fun _ _ _ => (if_pos rfl).symm) y) rfl r d
  · intro r d
    dsimp only
    unfold sout0_C_4
    rw [View.read_writes_junk_eq_canon, canon_eq_ov]
    refine (ov2 (e := .f32) ..).trans ((dif_pos (by omega)).trans ?_)
    exact xr_value (I.x r) d

/-- The operands of the layer's last part at a step. -/
structure LastIn (P : Params) (b s0 : ℕ) (x1 : Vec Ideal S1x256x256 .f32) (x5 x6 : Vec Ideal S1024x1024 .bf16)
    (x7 : Vec Ideal S256x1024 .bf16) (x19 x20 : Vec Ideal S1x1024 .f32) : Prop where
  e : ∀ (r d : Fin 256), x1 (ix3 0 r d) = P.p b (s0 + r) d
  wOut : ∀ k d : Fin 1024, x5 (ix2 k d) = P.wOut k d
  wPg : ∀ k d : Fin 1024, x6 (ix2 k d) = P.wPg k d
  wPle : ∀ (k : Fin 256) (d : Fin 1024), x7 (ix2 k d) = P.wPle k d
  pleG : ∀ d : Fin 1024, x19 (ix2 0 d) = P.pleG d
  finalG : ∀ d : Fin 1024, x20 (ix2 0 d) = P.finalG d

/-- They, at a step. -/
abbrev LastAt (P : Params) (b s0 : ℕ) (m : (ℓ : Loc nD τ sig) → Buf (Elt Ideal) ℓ) (c : Dev nD) (t : Fin cfg0.N) : Prop :=
  LastIn P b s0 (iblk m c 1 t) (iblk m c 5 t) (iblk m c 6 t) (iblk m c 7 t) (iblk m c 19 t) (iblk m c 20 t)

/-- The tile a middle step writes: the layer on the rows of the step before. -/
theorem outB (t : Fin cfg0.N) (h0 : ¬t.val % 257 = 0) (h1 : ¬t.val % 32 = 0) (I : LastAt P b s0 m c t)
    (A : After P b s0 c0 (outsAt0 m c (t.val - 1) (Nat.lt_of_le_of_lt (Nat.sub_le _ _) t.isLt))) (r : Fin 256) (d : Fin 1024) :
    (outsAt0 m c t.val t.isLt).1 (ix3 (0 : Fin 1) r d) = P.out b (s0 + r) d := by
  rw [outsAt0_B m c t h0 h1]
  dsimp only
  unfold out0_B_22
  rw [View.read_writes_junk_eq_canon, canon_eq_ov]
  refine (ov3 r d).trans ?_
  exact out_value (P := P) (x := fun r => P.x b (s0 + r)) (m := fun r => P.mg b (s0 + r)) (e := fun r => P.p b (s0 + r))
    (fun r d => rdw2 (A.xr r d)) (fun r d => rdw2 (A.mg r d)) (fun r d => rd3 r d (by decide) (I.e r d))
    (fun k d => rdw2 (I.wOut k d)) (fun k d => rdw2 (I.wPg k d)) (fun k d => rdw2 (I.wPle k d)) (fun d => rdw2 (I.pleG d))
    (fun d => rdw2 (I.finalG d)) 0 r d

/-- The tile a later batch's first step writes: the layer on the rows of the step before. -/
theorem outC (t : Fin cfg0.N) (h0 : ¬t.val % 257 = 0) (h1 : t.val % 32 = 0) (I : LastAt P b s0 m c t)
    (A : After P b s0 c0 (outsAt0 m c (t.val - 1) (Nat.lt_of_le_of_lt (Nat.sub_le _ _) t.isLt))) (r : Fin 256) (d : Fin 1024) :
    (outsAt0 m c t.val t.isLt).1 (ix3 (0 : Fin 1) r d) = P.out b (s0 + r) d := by
  rw [outsAt0_C m c t h0 h1]
  dsimp only
  unfold out0_C_22
  rw [View.read_writes_junk_eq_canon, canon_eq_ov]
  refine (ov3 r d).trans ?_
  exact out_value (P := P) (x := fun r => P.x b (s0 + r)) (m := fun r => P.mg b (s0 + r)) (e := fun r => P.p b (s0 + r))
    (fun r d => rdw2 (A.xr r d)) (fun r d => rdw2 (A.mg r d)) (fun r d => rd3 r d (by decide) (I.e r d))
    (fun k d => rdw2 (I.wOut k d)) (fun k d => rdw2 (I.wPg k d)) (fun k d => rdw2 (I.wPle k d)) (fun d => rdw2 (I.pleG d))
    (fun d => rdw2 (I.finalG d)) 0 r d

end Cert.Layer
-- ==== Proof.Kernel.Windows.lean ====
/- The blocks a grid point reads and writes: each operand window's block in terms of the layer's parameters, and the tile
   conditions of the step lemmas. -/
module

public import proofs.«01_k».proof.Proof.Kernel.Operands
public import proofs.«01_k».proof.Proof.Kernel.Outs
public import Idealize.ShloMosaic.Lib.Pipeline.ValueKit.Geometry

@[expose] public section

set_option maxRecDepth 16384
set_option maxHeartbeats 800000

noncomputable section

namespace Cert.Layer

open Idealize.ShloMosaic Idealize.ShloMosaic.TcCoe Cert.KernelIdeal Cert.KernelIdeal.Gen

variable (m : (ℓ : Loc nD τ sig) → Buf (Elt Ideal) ℓ) (c : Dev nD)

/-- The tile that step `t` reads of the input: tile `t`, at the last step the last tile again. -/
theorem ix_0 : ∀ t : Fin cfg0.N, win0_0.index t = ![min t.val 255 / 32, min t.val 255 % 32, 0] :=
  (by decide +kernel : ∀ t : Fin grid0.N, win0_0.index t = ![min t.val 255 / 32, min t.val 255 % 32, 0])
/-- The tile of the per-layer inputs that step `t` reads: the tile before `t`. -/
theorem ix_1 : ∀ t : Fin cfg0.N, win0_1.index t = ![(t.val - 1) / 32, (t.val - 1) % 32, 0] :=
  (by decide +kernel : ∀ t : Fin grid0.N, win0_1.index t = ![(t.val - 1) / 32, (t.val - 1) % 32, 0])
/-- Operand 2 is one block, the same at every step. -/
theorem ix_2 : ∀ t : Fin cfg0.N, win0_2.index t = ![0, 0] :=
  (by decide +kernel : ∀ t : Fin grid0.N, win0_2.index t = ![0, 0])
/-- Operand 3 is one block, the same at every step. -/
theorem ix_3 : ∀ t : Fin cfg0.N, win0_3.index t = ![0, 0] :=
  (by decide +kernel : ∀ t : Fin grid0.N, win0_3.index t = ![0, 0])
/-- Operand 4 is one block, the same at every step. -/
theorem ix_4 : ∀ t : Fin cfg0.N, win0_4.index t = ![0, 0] :=
  (by decide +kernel : ∀ t : Fin grid0.N, win0_4.index t = ![0, 0])
/-- Operand 5 is one block, the same at every step. -/
theorem ix_5 : ∀ t : Fin cfg0.N, win0_5.index t = ![0, 0] :=
  (by decide +kernel : ∀ t : Fin grid0.N, win0_5.index t = ![0, 0])
/-- Operand 6 is one block, the same at every step. -/
theorem ix_6 : ∀ t : Fin cfg0.N, win0_6.index t = ![0, 0] :=
  (by decide +kernel : ∀ t : Fin grid0.N, win0_6.index t = ![0, 0])
/-- Operand 7 is one block, the same at every step. -/
theorem ix_7 : ∀ t : Fin cfg0.N, win0_7.index t = ![0, 0] :=
  (by decide +kernel : ∀ t : Fin grid0.N, win0_7.index t = ![0, 0])
/-- Operand 8 is one block, the same at every step. -/
theorem ix_8 : ∀ t : Fin cfg0.N, win0_8.index t = ![0, 0, 0] :=
  (by decide +kernel : ∀ t : Fin grid0.N, win0_8.index t = ![0, 0, 0])
/-- Operand 9 is one block, the same at every step. -/
theorem ix_9 : ∀ t : Fin cfg0.N, win0_9.index t = ![0, 0] :=
  (by decide +kernel : ∀ t : Fin grid0.N, win0_9.index t = ![0, 0])
/-- Operand 10 is one block, the same at every step. -/
theorem ix_10 : ∀ t : Fin cfg0.N, win0_10.index t = ![0, 0] :=
  (by decide +kernel : ∀ t : Fin grid0.N, win0_10.index t = ![0, 0])
/-- Operand 11 is one block, the same at every step. -/
theorem ix_11 : ∀ t : Fin cfg0.N, win0_11.index t = ![0, 0] :=
  (by decide +kernel : ∀ t : Fin grid0.N, win0_11.index t = ![0, 0])
/-- Operand 12 is one block, the same at every step. -/
theorem ix_12 : ∀ t : Fin cfg0.N, win0_12.index t = ![0, 0] :=
  (by decide +kernel : ∀ t : Fin grid0.N, win0_12.index t = ![0, 0])
/-- Operand 13 is one block, the same at every step. -/
theorem ix_13 : ∀ t : Fin cfg0.N, win0_13.index t = ![0, 0] :=
  (by decide +kernel : ∀ t : Fin grid0.N, win0_13.index t = ![0, 0])
/-- Operand 14 is one block, the same at every step. -/
theorem ix_14 : ∀ t : Fin cfg0.N, win0_14.index t = ![0, 0] :=
  (by decide +kernel : ∀ t : Fin grid0.N, win0_14.index t = ![0, 0])
/-- Operand 15 is one block, the same at every step. -/
theorem ix_15 : ∀ t : Fin cfg0.N, win0_15.index t = ![0, 0] :=
  (by decide +kernel : ∀ t : Fin grid0.N, win0_15.index t = ![0, 0])
/-- Operand 16 is one block, the same at every step. -/
theorem ix_16 : ∀ t : Fin cfg0.N, win0_16.index t = ![0, 0] :=
  (by decide +kernel : ∀ t : Fin grid0.N, win0_16.index t = ![0, 0])
/-- Operand 17 is one block, the same at every step. -/
theorem ix_17 : ∀ t : Fin cfg0.N, win0_17.index t = ![0, 0] :=
  (by decide +kernel : ∀ t : Fin grid0.N, win0_17.index t = ![0, 0])
/-- Operand 18 is one block, the same at every step. -/
theorem ix_18 : ∀ t : Fin cfg0.N, win0_18.index t = ![0, 0] :=
  (by decide +kernel : ∀ t : Fin grid0.N, win0_18.index t = ![0, 0])
/-- Operand 19 is one block, the same at every step. -/
theorem ix_19 : ∀ t : Fin cfg0.N, win0_19.index t = ![0, 0] :=
  (by decide +kernel : ∀ t : Fin grid0.N, win0_19.index t = ![0, 0])
/-- Operand 20 is one block, the same at every step. -/
theorem ix_20 : ∀ t : Fin cfg0.N, win0_20.index t = ![0, 0] :=
  (by decide +kernel : ∀ t : Fin grid0.N, win0_20.index t = ![0, 0])
/-- Operand 21 is one block, the same at every step. -/
theorem ix_21 : ∀ t : Fin cfg0.N, win0_21.index t = ![0, 0] :=
  (by decide +kernel : ∀ t : Fin grid0.N, win0_21.index t = ![0, 0])
/-- The tile of the result that step `t` writes: the tile before `t`. -/
theorem ix_22 : ∀ t : Fin cfg0.N, win0_22.index t = ![(t.val - 1) / 32, (t.val - 1) % 32, 0] :=
  (by decide +kernel : ∀ t : Fin grid0.N, win0_22.index t = ![(t.val - 1) / 32, (t.val - 1) % 32, 0])

/-- The block of operand 2 at any step is the whole array. -/
theorem blk_2 (t : Fin cfg0.N) (i : Fin 1024) (j : Fin 10368) : iblk m c 2 t (ix2 i j) = V m c main_v24 (ix2 i j) := by
  unfold iblk
  refine congrArg (V m c main_v24) ?_
  blk_ext [ix_2]

/-- The block of operand 3 at any step is the whole array. -/
theorem blk_3 (t : Fin cfg0.N) (i : Fin 1024) (j : Fin 1024) : iblk m c 3 t (ix2 i j) = V m c main_v35 (ix2 i j) := by
  unfold iblk
  refine congrArg (V m c main_v35) ?_
  blk_ext [ix_3]

/-- The block of operand 4 at any step is the whole array. -/
theorem blk_4 (t : Fin cfg0.N) (i : Fin 2048) (j : Fin 1024) : iblk m c 4 t (ix2 i j) = V m c main_v36 (ix2 i j) := by
  unfold iblk
  refine congrArg (V m c main_v36) ?_
  blk_ext [ix_4]

/-- The block of operand 5 at any step is the whole array. -/
theorem blk_5 (t : Fin cfg0.N) (i : Fin 1024) (j : Fin 1024) : iblk m c 5 t (ix2 i j) = V m c main_v37 (ix2 i j) := by
  unfold iblk
  refine congrArg (V m c main_v37) ?_
  blk_ext [ix_5]

/-- The block of operand 6 at any step is the whole array. -/
theorem blk_6 (t : Fin cfg0.N) (i : Fin 1024) (j : Fin 1024) : iblk m c 6 t (ix2 i j) = V m c main_v38 (ix2 i j) := by
  unfold iblk
  refine congrArg (V m c main_v38) ?_
  blk_ext [ix_6]

/-- The block of operand 7 at any step is the whole array. -/
theorem blk_7 (t : Fin cfg0.N) (i : Fin 256) (j : Fin 1024) : iblk m c 7 t (ix2 i j) = V m c main_v39 (ix2 i j) := by
  unfold iblk
  refine congrArg (V m c main_v39) ?_
  blk_ext [ix_7]

/-- The block of operand 8 at any step is the whole array. -/
theorem blk_8 (t : Fin cfg0.N) (i : Fin 4) (j k : Fin 128) : iblk m c 8 t (ix3 i j k) = V m c main_v31 (ix3 i j k) := by
  unfold iblk
  refine congrArg (V m c main_v31) ?_
  blk_ext [ix_8]

/-- The block of operand 9 at any step is the whole array. -/
theorem blk_9 (t : Fin cfg0.N) (i : Fin 128) (j : Fin 1024) : iblk m c 9 t (ix2 i j) = V m c main_v34 (ix2 i j) := by
  unfold iblk
  refine congrArg (V m c main_v34) ?_
  blk_ext [ix_9]

/-- The block of operand 10 at any step is the whole array. -/
theorem blk_10 (t : Fin cfg0.N) (i : Fin 4) (j : Fin 3072) : iblk m c 10 t (ix2 i j) = V m c main_v7 (ix2 i j) := by
  unfold iblk
  refine congrArg (V m c main_v7) ?_
  blk_ext [ix_10]

/-- The block of operand 11 at any step is the whole array. -/
theorem blk_11 (t : Fin cfg0.N) (i : Fin 1) (j : Fin 3072) : iblk m c 11 t (ix2 i j) = V m c main_v40 (ix2 i j) := by
  unfold iblk
  refine congrArg (V m c main_v40) ?_
  blk_ext [ix_11]

/-- The block of operand 12 at any step is the whole array. -/
theorem blk_12 (t : Fin cfg0.N) (i : Fin 1) (j : Fin 128) : iblk m c 12 t (ix2 i j) = V m c main_v42 (ix2 i j) := by
  unfold iblk
  refine congrArg (V m c main_v42) ?_
  blk_ext [ix_12]

/-- The block of operand 13 at any step is the whole array. -/
theorem blk_13 (t : Fin cfg0.N) (i : Fin 1) (j : Fin 128) : iblk m c 13 t (ix2 i j) = V m c main_v44 (ix2 i j) := by
  unfold iblk
  refine congrArg (V m c main_v44) ?_
  blk_ext [ix_13]

/-- The block of operand 14 at any step is the whole array. -/
theorem blk_14 (t : Fin cfg0.N) (i : Fin 1) (j : Fin 2048) : iblk m c 14 t (ix2 i j) = V m c main_v47 (ix2 i j) := by
  unfold iblk
  refine congrArg (V m c main_v47) ?_
  blk_ext [ix_14]

/-- The block of operand 15 at any step is the whole array. -/
theorem blk_15 (t : Fin cfg0.N) (i : Fin 1) (j : Fin 1024) : iblk m c 15 t (ix2 i j) = V m c main_v48 (ix2 i j) := by
  unfold iblk
  refine congrArg (V m c main_v48) ?_
  blk_ext [ix_15]

/-- The block of operand 16 at any step is the whole array. -/
theorem blk_16 (t : Fin cfg0.N) (i : Fin 1) (j : Fin 1024) : iblk m c 16 t (ix2 i j) = V m c main_v49 (ix2 i j) := by
  unfold iblk
  refine congrArg (V m c main_v49) ?_
  blk_ext [ix_16]

/-- The block of operand 17 at any step is the whole array. -/
theorem blk_17 (t : Fin cfg0.N) (i : Fin 1) (j : Fin 1024) : iblk m c 17 t (ix2 i j) = V m c main_v50 (ix2 i j) := by
  unfold iblk
  refine congrArg (V m c main_v50) ?_
  blk_ext [ix_17]

/-- The block of operand 18 at any step is the whole array. -/
theorem blk_18 (t : Fin cfg0.N) (i : Fin 1) (j : Fin 2048) : iblk m c 18 t (ix2 i j) = V m c main_v51 (ix2 i j) := by
  unfold iblk
  refine congrArg (V m c main_v51) ?_
  blk_ext [ix_18]

/-- The block of operand 19 at any step is the whole array. -/
theorem blk_19 (t : Fin cfg0.N) (i : Fin 1) (j : Fin 1024) : iblk m c 19 t (ix2 i j) = V m c main_v52 (ix2 i j) := by
  unfold iblk
  refine congrArg (V m c main_v52) ?_
  blk_ext [ix_19]

/-- The block of operand 20 at any step is the whole array. -/
theorem blk_20 (t : Fin cfg0.N) (i : Fin 1) (j : Fin 1024) : iblk m c 20 t (ix2 i j) = V m c main_v53 (ix2 i j) := by
  unfold iblk
  refine congrArg (V m c main_v53) ?_
  blk_ext [ix_20]

/-- The block of operand 21 at any step is the whole array. -/
theorem blk_21 (t : Fin cfg0.N) (i : Fin 128) (j : Fin 128) : iblk m c 21 t (ix2 i j) = V m c main_v54 (ix2 i j) := by
  unfold iblk
  refine congrArg (V m c main_v54) ?_
  blk_ext [ix_21]

end Cert.Layer

end
-- ==== Proof.Kernel.Grid.lean ====
/- The whole grid: by induction every step leaves what the recurrences say, and every tile the layer's rows. -/
module

public import proofs.«01_k».proof.Proof.Kernel.Windows
public import proofs.«01_k».proof.Proof.Frame.Blocks

@[expose] public section

set_option maxRecDepth 16384
set_option maxHeartbeats 800000

noncomputable section

namespace Cert.Layer

open Idealize.ShloMosaic Idealize.ShloMosaic.TcCoe Cert.KernelIdeal Cert.KernelIdeal.Gen

variable (m : (ℓ : Loc nD τ sig) → Buf (Elt Ideal) ℓ) (c : Dev nD)

/-- There are 257 grid steps. -/
theorem step_lt (t : Fin cfg0.N) : t.val < 257 := t.isLt.trans_eq N_0

/-- A step's input rows. -/
theorem blk_0 (t : Fin cfg0.N) (ht : t.val < 256) (r : Fin 256) (d : Fin 1024) :
    iblk m c 0 t (ix3 (0 : Fin 1) r d) = (parOf m c).x (t.val / 32) (256 * (t.val % 32) + r) d := by
  have hr := r.isLt
  have h1 : t.val / 32 < 8 := by omega
  have h2 : 256 * (t.val % 32) + (r : ℕ) < 8192 := by omega
  refine Eq.trans ?_ (par_x h1 h2 d.isLt).symm
  rw [← V_main_arg0 m c]
  unfold iblk
  refine congrArg (V m c main_arg0) ?_
  have h3 : min t.val 255 = t.val := by omega
  blk_ext [ix_0]

/-- The rows of the second input for the tile before. -/
theorem blk_1 (t : Fin cfg0.N) (r d : Fin 256) :
    iblk m c 1 t (ix3 (0 : Fin 1) r d) = (parOf m c).p ((t.val - 1) / 32) (256 * ((t.val - 1) % 32) + r) d := by
  have hr := r.isLt
  have ht := step_lt t
  have h1 : (t.val - 1) / 32 < 8 := by omega
  have h2 : 256 * ((t.val - 1) % 32) + (r : ℕ) < 8192 := by omega
  refine Eq.trans ?_ (V_v0 m c ⟨_, h1⟩ ⟨_, h2⟩ d)
  unfold iblk
  refine congrArg (V m c main_v0) ?_
  blk_ext [ix_1]

/-- What a step reads of the operands for its own tile. -/
theorem tileAt (t : Fin cfg0.N) (ht : t.val < 256) :
    TileAt (parOf m c) (t.val / 32) (256 * (t.val % 32)) m c t where
  x r d := blk_0 m c t ht r d
  w0 k n h := (blk_2 m c t k n).trans (V_v24_0 m c k n h)
  w1 k n h h' := (blk_2 m c t k n).trans (V_v24_1 m c k n h h')
  w2 k n h h' := (blk_2 m c t k n).trans (V_v24_2 m c k n h h')
  wOa k d := (blk_3 m c t k d).trans (V_v35 m c k d)
  wOb k d := (blk_4 m c t k d).trans (V_v36 m c k d)
  ws g r k := (blk_8 m c t g r k).trans (V_v31 m c g r k)
  bs r d := (blk_9 m c t r d).trans (V_v34 m c r d)
  convW i l := (blk_10 m c t i l).trans (V_v7 m c i l)
  convB l := (blk_11 m c t 0 l).trans (V_v40 m c l)
  dtBias l h := (blk_12 m c t 0 l).trans (V_v42 m c l h)
  aLog l h := (blk_13 m c t 0 l).trans (V_v44 m c l h)
  dSkip l := (blk_14 m c t 0 l).trans (V_v47 m c l)
  normG l := (blk_15 m c t 0 l).trans (V_v48 m c l)
  lnG l := (blk_16 m c t 0 l).trans (V_v49 m c l)
  lnB l := (blk_17 m c t 0 l).trans (V_v50 m c l)
  ssmG l := (blk_18 m c t 0 l).trans (V_v51 m c l)
  tri r k := (blk_21 m c t r k).trans (V_v54 m c r k)

/-- What a step reads of the operands for the tile before. -/
theorem lastAt (t : Fin cfg0.N) :
    LastAt (parOf m c) ((t.val - 1) / 32) (256 * ((t.val - 1) % 32)) m c t where
  e r d := blk_1 m c t r d
  wOut k d := (blk_5 m c t k d).trans (V_v37 m c k d)
  wPg k d := (blk_6 m c t k d).trans (V_v38 m c k d)
  wPle k d := (blk_7 m c t k d).trans (V_v39 m c k d)
  pleG l := (blk_19 m c t 0 l).trans (V_v52 m c l)
  finalG l := (blk_20 m c t 0 l).trans (V_v53 m c l)

/-- What every step but the last leaves. -/
theorem after_all : ∀ (n : ℕ) (hn : n < cfg0.N), n < 256 →
    After (parOf m c) (n / 32) (256 * (n % 32)) (2 * (n % 32) + 2) (outsAt0 m c n hn)
  | 0, hn, _ => afterA ⟨0, hn⟩ rfl rfl (tileAt m c ⟨0, hn⟩ (Nat.zero_lt_succ 255))
  | n + 1, hn, h => by
    have I := tileAt m c ⟨n + 1, hn⟩ h
    have h0 : ¬(n + 1) % 257 = 0 := by omega
    by_cases h1 : (n + 1) % 32 = 0
    · have e : 256 * ((n + 1) % 32) = 0 := by omega
      rw [e, h1]
      refine afterC ⟨n + 1, hn⟩ h0 h1 ?_
      have J := I
      rw [show (⟨n + 1, hn⟩ : Fin cfg0.N).val = n + 1 from rfl, e] at J
      exact J
    · have A := after_all n (Nat.lt_of_succ_lt hn) (by omega)
      have e1 : (n + 1) / 32 = n / 32 := by omega
      have e2 : (n + 1) % 32 = n % 32 + 1 := by omega
      have J := I
      rw [show (⟨n + 1, hn⟩ : Fin cfg0.N).val = n + 1 from rfl, e1, e2, Nat.mul_add] at J
      rw [e1, e2, Nat.mul_add, Nat.mul_add]
      exact afterB ⟨n + 1, hn⟩ h0 h1 J (by omega) A

/-- What every step but the first writes: the layer on the tile before. -/
theorem out_all (t : Fin cfg0.N) (h : 1 ≤ t.val) (r : Fin 256) (d : Fin 1024) :
    (outsAt0 m c t.val t.isLt).1 (ix3 (0 : Fin 1) r d)
      = (parOf m c).out ((t.val - 1) / 32) (256 * ((t.val - 1) % 32) + r) d := by
  have ht := step_lt t
  have A := after_all m c (t.val - 1) (Nat.lt_of_le_of_lt (Nat.sub_le _ _) t.isLt) (by omega)
  have h0 : ¬t.val % 257 = 0 := by omega
  by_cases h1 : t.val % 32 = 0
  · exact outC t h0 h1 (lastAt m c t) A r d
  · exact outB t h0 h1 (lastAt m c t) A r d

/-- The layer as an array. -/
def layerArr (P : Params) (i : (⟨3, ![8, 8192, 1024]⟩ : Shape).Idx) : EReal := P.out (i 0) (i 1) (i 2)

/-- The result array holds the layer. -/
theorem arr_out : (dats m 0 c).arrAt 22 cfg0.N = layerArr (parOf m c) := by
  refine (dats m 0 c).arrAt_eq_of_covers 22 _ (by decide +kernel) fun t hf y => ?_
  have ht := step_lt t
  have h1 : 1 ≤ t.val := by
    by_contra h
    have e : t = ⟨0, by decide⟩ := Fin.ext (by show t.val = 0; omega)
    subst e
    exact absurd hf (by decide +kernel)
  blk_simp
  rw [after0_22]
  obtain ⟨z, r, d, rfl⟩ : ∃ (z : Fin 1) (r : Fin 256) (d : Fin 1024), y = ix3 z r d :=
    ⟨y 0, y 1, y 2, by funext a; fin_cases a <;> rfl⟩
  obtain rfl : z = 0 := Subsingleton.elim _ _
  refine Eq.trans (out_all m c t h1 r d) ?_
  unfold layerArr
  congr 1 <;> blk_simp [ix_22]
  · rfl
  · omega

end Cert.Layer

end
-- ==== Proof.Reference.State.lean ====
/- The state that enters a chunk, as a sum over the chunks before it. -/
module

public import proofs.«01_k».proof.Proof.Numbers

@[expose] public section

noncomputable section

namespace Cert.Layer

open Idealize.ShloMosaic

/-- The exponential of zero is one. -/
theorem exp_of_zero : Ideal.exp 0 = 1 := by
  rw [← EReal.coe_zero, Ideal.exp_coe, Real.exp_zero, EReal.coe_one]

/-- A finite factor that is not negative goes into a sum. -/
theorem mul_sum_of {ι : Type} (a : EReal) (h0 : 0 ≤ a) (ht : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-- A state that decays by `exp (L c)` and takes `S c` up at each chunk is the sum of what the chunks before added, each
    decayed over the chunks between. -/
theorem closed_state (L S f : ℕ → EReal) (hL : ∀ c, L c ≤ 0) (h0 : f 0 = 0)
    (hs : ∀ c, f (c + 1) = Ideal.exp (L c) * f c + S c) (c : ℕ) (hc : c ≤ 64) :
    f c = ∑ j : Fin 64, S j
      * (if (j : ℕ) < c then Ideal.exp (∑ k : Fin 64, if (j : ℕ) < k ∧ (k : ℕ) < c then L k else 0) else 0) := by
  induction c with
  | zero => simp [h0]
  | succ c ih =>
    have hlt : c < 64 := by omega
    rw [hs, ih (by omega), mul_sum_of _ (exp_nonneg _) (exp_ne_top (hL c)),
      show S c = ∑ j : Fin 64, if j = ⟨c, hlt⟩ then S j else 0 by simp, ← Finset.sum_add_distrib]
    refine Finset.sum_congr rfl fun j _ => ?_
    rcases lt_trichotomy (j : ℕ) c with h | h | h
    · rw [if_pos h, if_pos (show (j : ℕ) < c + 1 by omega), if_neg (fun e : j = ⟨c, hlt⟩ => absurd (congrArg Fin.val e) (Nat.ne_of_lt h)), add_zero,
        mul_left_comm, ← exp_add (hL c) (Finset.sum_nonpos fun k _ => by split; exacts [hL _, le_rfl])]
      refine congrArg (fun v => S j * Ideal.exp v) ?_
      rw [show L c = ∑ k : Fin 64, if k = ⟨c, hlt⟩ then L k else 0 by simp, ← Finset.sum_add_distrib]
      refine Finset.sum_congr rfl fun k _ => ?_
      by_cases hk : k = ⟨c, hlt⟩
      · have hk' : (k : ℕ) = c := congrArg Fin.val hk
        rw [if_pos hk, if_neg (show ¬ ((j : ℕ) < k ∧ (k : ℕ) < c) by omega),
          if_pos (show (j : ℕ) < k ∧ (k : ℕ) < c + 1 by omega), add_zero]
      · have hk' : (k : ℕ) ≠ c := fun e => hk (Fin.ext e)
        rw [if_neg hk, zero_add]
        exact if_congr (by omega) rfl rfl
    · rw [if_neg (show ¬ (j : ℕ) < c by omega), if_pos (show (j : ℕ) < c + 1 by omega), if_pos (show j = ⟨c, hlt⟩ from Fin.ext h), mul_zero, mul_zero, zero_add,
        Finset.sum_eq_zero (fun k _ => if_neg (by omega)), exp_of_zero, mul_one]
    · rw [if_neg (show ¬ (j : ℕ) < c by omega), if_neg (show ¬ (j : ℕ) < c + 1 by omega),
        if_neg (fun e : j = ⟨c, hlt⟩ => absurd (congrArg Fin.val e) (Nat.ne_of_gt h)),
        mul_zero, mul_zero, add_zero]

/-- A running sum of log decays is nonpositive. -/
theorem acs_nonpos (P : Params) (b s h : ℕ) : P.acs b s h ≤ 0 :=
  Finset.sum_nonpos fun k _ => by split; exacts [av_nonpos P b _ h, le_rfl]

/-- The state that enters a chunk, from the chunks before. -/
theorem pv_closed (P : Params) (b c n q : ℕ) (hc : c ≤ 64) :
    P.pv b c n q = ∑ j : Fin 64, P.st b j n q
      * (if (j : ℕ) < c then Ideal.exp (∑ k : Fin 64, if (j : ℕ) < k ∧ (k : ℕ) < c
          then P.acs b (k * 128 + 127) (q / 64) else 0) else 0) :=
  closed_state (fun c => P.acs b (c * 128 + 127) (q / 64)) (fun c => P.st b c n q) (fun c => P.pv b c n q)
    (fun _ => acs_nonpos P b _ _) rfl (fun _ => rfl) c hc

end Cert.Layer

end
-- ==== Proof.Reference.Args.lean ====
/- The arguments of the reference, entry by entry, as the layer's parameters. -/
module

public import proofs.«01_k».proof.Proof.Args
public import proofs.«01_k».proof.Proof.Gen.ReferenceIdeal.Read

@[expose] public section

set_option maxRecDepth 16384

noncomputable section

namespace Cert.Layer

open Idealize.ShloMosaic Cert.ReferenceIdeal

/-- The reference's arguments hold the parameters. -/
structure RefIn (P : Params)
    (x0 : (⟨S8x8192x1024, .f32⟩ : BufTy).Contents (Elt Ideal)) (x1 : (⟨S1x8x8192x256, .f32⟩ : BufTy).Contents
    (Elt Ideal)) (x2 : (⟨S1x1024, .f32⟩ : BufTy).Contents (Elt Ideal)) (x3 :
    (⟨S1x1024x10272, .f32⟩ : BufTy).Contents (Elt Ideal)) (x4 : (⟨S1x1024, .f32⟩ : BufTy).Contents (Elt Ideal))
    (x5 : (⟨S1x1024, .f32⟩ : BufTy).Contents (Elt Ideal)) (x6 : (⟨S1x4x128x128, .f32⟩ : BufTy).Contents (Elt Ideal))
    (x7 : (⟨S1x4x128, .f32⟩ : BufTy).Contents (Elt Ideal)) (x8 : (⟨S1x4x3072, .f32⟩ : BufTy).Contents (Elt Ideal))
    (x9 : (⟨S1x3072, .f32⟩ : BufTy).Contents (Elt Ideal)) (x10 : (⟨S1x32, .f32⟩ : BufTy).Contents (Elt Ideal))
    (x11 : (⟨S1x32, .f32⟩ : BufTy).Contents (Elt Ideal)) (x12 : (⟨S1x32, .f32⟩ : BufTy).Contents (Elt Ideal)) (x13 :
    (⟨S1x2048, .f32⟩ : BufTy).Contents (Elt Ideal)) (x14 : (⟨S1x1024x1024, .f32⟩ : BufTy).Contents (Elt Ideal))
    (x15 : (⟨S1x2048x1024, .f32⟩ : BufTy).Contents (Elt Ideal)) (x16 : (⟨S1x1024x1024, .f32⟩ : BufTy).Contents
    (Elt Ideal)) (x17 : (⟨S1x1024, .f32⟩ : BufTy).Contents (Elt Ideal)) (x18 :
    (⟨S1x1024x1024, .f32⟩ : BufTy).Contents (Elt Ideal)) (x19 : (⟨S1x256x1024, .f32⟩ : BufTy).Contents (Elt Ideal))
    (x20 : (⟨S1024, .f32⟩ : BufTy).Contents (Elt Ideal)) : Prop where
  x : ∀ (i : Fin 8) (j : Fin 8192) (k : Fin 1024), x0 (ix3 i j k) = P.x i j k
  p : ∀ (i : Fin 8) (j : Fin 8192) (k : Fin 256), x1 (ix4 0 i j k) = P.p i j k
  normG : ∀ (i : Fin 1024), x2 (ix2 0 i) = P.normG i
  w : ∀ (i : Fin 1024) (j : Fin 10272), x3 (ix3 0 i j) = P.w i j
  lnG : ∀ (i : Fin 1024), x4 (ix2 0 i) = P.lnG i
  lnB : ∀ (i : Fin 1024), x5 (ix2 0 i) = P.lnB i
  ws : ∀ (i : Fin 4) (j : Fin 128) (k : Fin 128), x6 (ix4 0 i j k) = P.ws i j k
  bs : ∀ (i : Fin 4) (j : Fin 128), x7 (ix3 0 i j) = P.bs i j
  convW : ∀ (i : Fin 4) (j : Fin 3072), x8 (ix3 0 i j) = P.convW i j
  convB : ∀ (i : Fin 3072), x9 (ix2 0 i) = P.convB i
  dtBias : ∀ (i : Fin 32), x10 (ix2 0 i) = P.dtBias i
  aLog : ∀ (i : Fin 32), x11 (ix2 0 i) = P.aLog i
  dSkip : ∀ (i : Fin 32), x12 (ix2 0 i) = P.dSkip i
  ssmG : ∀ (i : Fin 2048), x13 (ix2 0 i) = P.ssmG i
  wOa : ∀ (i : Fin 1024) (j : Fin 1024), x14 (ix3 0 i j) = P.wOa i j
  wOb : ∀ (i : Fin 2048) (j : Fin 1024), x15 (ix3 0 i j) = P.wOb i j
  wOut : ∀ (i : Fin 1024) (j : Fin 1024), x16 (ix3 0 i j) = P.wOut i j
  pleG : ∀ (i : Fin 1024), x17 (ix2 0 i) = P.pleG i
  wPg : ∀ (i : Fin 1024) (j : Fin 1024), x18 (ix3 0 i j) = P.wPg i j
  wPle : ∀ (i : Fin 256) (j : Fin 1024), x19 (ix3 0 i j) = P.wPle i j
  finalG : ∀ (i : Fin 1024), x20 (ix1 i) = P.finalG i

/-- They hold those read off them. -/
theorem refIn
    (x0 : (⟨S8x8192x1024, .f32⟩ : BufTy).Contents (Elt Ideal)) (x1 : (⟨S1x8x8192x256, .f32⟩ : BufTy).Contents
    (Elt Ideal)) (x2 : (⟨S1x1024, .f32⟩ : BufTy).Contents (Elt Ideal)) (x3 :
    (⟨S1x1024x10272, .f32⟩ : BufTy).Contents (Elt Ideal)) (x4 : (⟨S1x1024, .f32⟩ : BufTy).Contents (Elt Ideal))
    (x5 : (⟨S1x1024, .f32⟩ : BufTy).Contents (Elt Ideal)) (x6 : (⟨S1x4x128x128, .f32⟩ : BufTy).Contents (Elt Ideal))
    (x7 : (⟨S1x4x128, .f32⟩ : BufTy).Contents (Elt Ideal)) (x8 : (⟨S1x4x3072, .f32⟩ : BufTy).Contents (Elt Ideal))
    (x9 : (⟨S1x3072, .f32⟩ : BufTy).Contents (Elt Ideal)) (x10 : (⟨S1x32, .f32⟩ : BufTy).Contents (Elt Ideal))
    (x11 : (⟨S1x32, .f32⟩ : BufTy).Contents (Elt Ideal)) (x12 : (⟨S1x32, .f32⟩ : BufTy).Contents (Elt Ideal)) (x13 :
    (⟨S1x2048, .f32⟩ : BufTy).Contents (Elt Ideal)) (x14 : (⟨S1x1024x1024, .f32⟩ : BufTy).Contents (Elt Ideal))
    (x15 : (⟨S1x2048x1024, .f32⟩ : BufTy).Contents (Elt Ideal)) (x16 : (⟨S1x1024x1024, .f32⟩ : BufTy).Contents
    (Elt Ideal)) (x17 : (⟨S1x1024, .f32⟩ : BufTy).Contents (Elt Ideal)) (x18 :
    (⟨S1x1024x1024, .f32⟩ : BufTy).Contents (Elt Ideal)) (x19 : (⟨S1x256x1024, .f32⟩ : BufTy).Contents (Elt Ideal))
    (x20 : (⟨S1024, .f32⟩ : BufTy).Contents (Elt Ideal)) :
    RefIn (par x0 x1 x2 x3 x4 x5 x6 x7 x8 x9 x10 x11 x12 x13 x14 x15 x16 x17 x18 x19 x20) x0 x1 x2 x3 x4 x5 x6 x7 x8 x9 x10 x11 x12 x13 x14 x15 x16 x17 x18 x19 x20 where
  x i j k := (par_x i.isLt j.isLt k.isLt).symm
  p i j k := (par_p i.isLt j.isLt k.isLt).symm
  normG i := (par_normG i.isLt).symm
  w i j := (par_w i.isLt j.isLt).symm
  lnG i := (par_lnG i.isLt).symm
  lnB i := (par_lnB i.isLt).symm
  ws i j k := (par_ws i.isLt j.isLt k.isLt).symm
  bs i j := (par_bs i.isLt j.isLt).symm
  convW i j := (par_convW i.isLt j.isLt).symm
  convB i := (par_convB i.isLt).symm
  dtBias i := (par_dtBias i.isLt).symm
  aLog i := (par_aLog i.isLt).symm
  dSkip i := (par_dSkip i.isLt).symm
  ssmG i := (par_ssmG i.isLt).symm
  wOa i j := (par_wOa i.isLt j.isLt).symm
  wOb i j := (par_wOb i.isLt j.isLt).symm
  wOut i j := (par_wOut i.isLt j.isLt).symm
  pleG i := (par_pleG i.isLt).symm
  wPg i j := (par_wPg i.isLt j.isLt).symm
  wPle i j := (par_wPle i.isLt j.isLt).symm
  finalG i := (par_finalG i.isLt).symm

end Cert.Layer

end
-- ==== Proof.Reference.Dense.lean ====
/- The dense parts of the reference before its two branches. -/
module

public import proofs.«01_k».proof.Proof.Reference.Args
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

include R

/-- The normalized input. -/
theorem r_hid (b : Fin 8) (s : Fin 8192) (d : Fin 1024) :
    val_main_v13 (F := Ideal) x0 x2 (ix3 b s d) = P.hid b s d := by
  unfold Params.hid rms rinv
  simp only [← R.x, ← R.normG]
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

/-- Its projection. -/
theorem r_proj (b : Fin 8) (s : Fin 8192) (n : Fin 10272) :
    val_main_v15 (F := Ideal) x0 x2 x3 (ix3 b s n) = P.proj b s n := by
  unfold Params.proj
  simp only [← r_hid R, ← R.w]
  unfold val_main_v15 val_main_v14
  generalize val_main_v13 (F := Ideal) x0 x2 = h
  pointwise []

end Cert.Layer

end
-- ==== Proof.Reference.Mix.lean ====
/- The gated branch of the reference. -/
module

public import proofs.«01_k».proof.Proof.Reference.Dense
public import proofs.«01_k».proof.Proof.Kernel.Heads
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

/-- Selecting by the triangular mask. -/
theorem tri_select {α : Type} (t k : Fin 128) (u v : α) :
    Scalar.select (Scalar.select (IntOp.cmpi CmpIPredicate.sge (IntOp.addi (BitVec.ofNat 32 t) 0#32) (BitVec.ofNat 32 k))
      1#1 0#1) u v = if (k : ℕ) ≤ t then u else v := by
  rw [show IntOp.addi (BitVec.ofNat 32 t) 0#32 = BitVec.ofNat 32 t from BitVec.add_zero _, sge_small]
  split
  · rw [ValueIdx.select_one, ValueIdx.select_one]
  · rw [ValueIdx.select_zero, ValueIdx.select_zero]

include R

/-- The gated branch's second part after its unit. -/
theorem r_gv (b : Fin 8) (s : Fin 8192) (e : Fin 1024) :
    val_main_v53 (F := Ideal) x0 x2 x3 (ix3 b s e) = P.gv b s e := by
  have h := r_proj R
  unfold Params.gv gel
  generalize hv : val_main_v15 (F := Ideal) x0 x2 x3 = v at h
  pointwise [val_main_v41, val_main_v42, val_main_cst_6, val_main_v43, val_main_v44, val_main_v45, val_main_cst_7,
    val_main_v46, val_main_v47, val_main_v48, val_main_cst_8, val_main_v49, val_main_v50, val_main_cst_9,
    val_main_v51, val_main_v52, val_main_v53, val_main_v17, hv]
  simp only [h, lit]

/-- It, less its mean. -/
theorem r_gvc (b : Fin 8) (s : Fin 8192) (e : Fin 1024) :
    val_main_v59 (F := Ideal) x0 x2 x3 (ix3 b s e) = P.gvc b s e := by
  unfold Params.gvc
  simp only [← r_gv R]
  generalize hv : val_main_v53 (F := Ideal) x0 x2 x3 = v
  pointwise [val_main_cst_10, val_main_v54, val_main_v55, val_main_cst_11, val_main_v56, val_main_v57, val_main_v58,
    val_main_v59, hv]

/-- It, normalized. -/
theorem r_gvn (b : Fin 8) (s : Fin 8192) (e : Fin 1024) :
    val_main_v75 (F := Ideal) x0 x2 x3 x4 x5 (ix3 b s e) = P.gvn b s e := by
  unfold Params.gvn rinv
  simp only [← r_gvc R, ← R.lnG, ← R.lnB]
  generalize hv : val_main_v59 (F := Ideal) x0 x2 x3 = v
  pointwise [val_main_v60, val_main_cst_12, val_main_v61, val_main_v62, val_main_cst_13, val_main_v63, val_main_v64,
    val_main_cst_14, val_main_v65, val_main_v66, val_main_v67, val_main_v68, val_main_v69, val_main_v70,
    val_main_v71, val_main_v72, val_main_v73, val_main_v74, val_main_v75, val_main_v24, val_main_v25, hv]

/-- The causal mixing matrices. -/
theorem r_wsm (g : Fin 4) (t k : Fin 128) : val_main_v80 (F := Ideal) x6 (ix3 g t k) = P.wsm g t k := by
  unfold Params.wsm
  simp only [← R.ws]
  pointwise [val_main_c, val_main_v76, val_main_call0_v0, val_main_call0_c, val_main_call0_v1, val_main_call0_v2,
    val_main_call0_v3, val_main_call0_v4, val_main_call0_c_0, val_main_call0_v5, val_main_v77, val_main_v78,
    val_main_cst_15, val_main_v79, val_main_call1_v0, val_main_v80, val_main_v26]
  exact tri_select _ _ _ _

/-- The positions of a chunk mixed. -/
theorem r_sv (b : Fin 8) (s : Fin 8192) (e : Fin 1024) :
    val_main_v88 (F := Ideal) x0 x2 x3 x4 x5 x6 x7 (ix3 b s e) = P.sv b s e := by
  have hw := r_wsm R
  have hv := r_gvn R
  have hb := R.bs
  unfold Params.sv
  generalize h1 : val_main_v75 (F := Ideal) x0 x2 x3 x4 x5 = v at hv
  generalize h2 : val_main_v80 (F := Ideal) x6 = w at hw
  pointwise [val_main_v81, val_main_v82, val_main_v83, val_main_v84, val_main_v85, val_main_v86, val_main_v87,
    val_main_v88, val_main_v27, h1, h2]
  simp only [hv, hw, hb, mul_comm (P.gvn _ _ _)]

/-- The gated branch before its output product. -/
theorem r_ya (b : Fin 8) (s : Fin 8192) (e : Fin 1024) :
    val_main_v91 (F := Ideal) x0 x2 x3 x4 x5 x6 x7 (ix3 b s e) = P.ya b s e := by
  have h := r_proj R
  have hs := r_sv R b s e
  unfold Params.ya gel slu sgm
  generalize hv : val_main_v15 (F := Ideal) x0 x2 x3 = v at h
  generalize h1 : val_main_v88 (F := Ideal) x0 x2 x3 x4 x5 x6 x7 = w at hs
  pointwise [val_main_v28, val_main_v29, val_main_cst_2, val_main_v30, val_main_v31, val_main_v32, val_main_cst_3,
    val_main_v33, val_main_v34, val_main_v35, val_main_cst_4, val_main_v36, val_main_v37, val_main_cst_5,
    val_main_v38, val_main_v39, val_main_v40, val_main_v16, val_main_v18, val_main_v89, val_main_call2_v0,
    val_main_call2_v1, val_main_call2_cst, val_main_call2_v2, val_main_call2_v3, val_main_call2_cst_0,
    val_main_call2_v4, val_main_call2_v5, val_main_v90, val_main_v91, hv, h1]
  simp only [h, hs, lit]

/-- The gated branch. -/
theorem r_oa (b : Fin 8) (s : Fin 8192) (d : Fin 1024) :
    val_main_v93 (F := Ideal) x0 x2 x3 x4 x5 x6 x7 x14 (ix3 b s d) = P.oa b s d := by
  unfold Params.oa
  simp only [← r_ya R, ← R.wOa]
  generalize h1 : val_main_v91 (F := Ideal) x0 x2 x3 x4 x5 x6 x7 = w
  pointwise [val_main_v92, val_main_v93, h1]

end Cert.Layer

end
-- ==== Proof.Reference.Conv.lean ====
/- The convolution and the decay of the reference. -/
module

public import proofs.«01_k».proof.Proof.Reference.Dense
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

/-- A sum accumulated along a list is the start value plus the sum of the list. -/
theorem foldl_add {n : ℕ} (f : Fin n → EReal) (l : List (Fin n)) (v : EReal) :
    l.foldl (fun r k => r + f k) v = v + (l.map f).sum := by
  induction l generalizing v with
  | nil => simp
  | cons a l ih => rw [List.foldl_cons, ih, List.map_cons, List.sum_cons, add_assoc]

/-- The window of the running sum: 128 positions of the middle axis. -/
abbrev Win : Shape := ⟨5, ![1, 1, 128, 1, 1]⟩

/-- The positions of a window of the running sum are the numbers below 128. -/
theorem win_bij : Function.Bijective (fun w : Fin 128 => (ix5 0 0 w 0 0 : Win.Idx)) := by
  refine ⟨fun a c e => congrFun e 2, fun i => ⟨i 2, ?_⟩⟩
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _
  | ⟨4, _⟩ => exact Subsingleton.elim (α := Fin 1) _ _

/-- A sum over a window of the whole middle axis, padded low by one less, is the running sum. -/
theorem cumsum_read (x : FVec Ideal S8x64x128x4x8 .f32) (init : FVec Ideal S_ .f32)
    (h : S8x64x128x4x8.ReduceWindows ![1, 1, 128, 1, 1] ![1, 1, 1, 1, 1] ![0, 0, 127, 0, 0] ![0, 0, 0, 0, 0]
      S8x64x128x4x8) (hu : 0 < S_.numel) (h0 : init (Shape.Idx.first hu) = 0)
    (b : Fin 8) (c : Fin 64) (k : Fin 128) (g : Fin 4) (e : Fin 8) :
    Host.reduceWindowAdd ![1, 1, 128, 1, 1] ![1, 1, 1, 1, 1] ![0, 0, 127, 0, 0] ![0, 0, 0, 0, 0] x init h hu
      (ix5 b c k g e) = ∑ i : Fin 128, if (i : ℕ) ≤ k then x (ix5 b c i g e) else 0 := by
  show Host.reduceWindow (· + ·) ![1, 1, 128, 1, 1] ![1, 1, 1, 1, 1] ![0, 0, 127, 0, 0] ![0, 0, 0, 0, 0] x
    (fun _ : (⟨0, ![]⟩ : Shape).Idx => init (Shape.Idx.first hu)) h (by decide) (ix5 b c k g e) = _
  unfold Host.reduceWindow
  rw [h0]
  refine (foldl_add _ _ _).trans ?_
  rw [zero_add, ← List.ofFn_eq_map, List.sum_ofFn]
  refine (Equiv.sum_comp Win.rowMajor.symm (fun i : Win.Idx => @dite EReal (∀ a : Fin 5,
      (![0, 0, 127, 0, 0] : Fin 5 → ℕ) a ≤ (ix5 b c k g e a).val * (![1, 1, 1, 1, 1] : Fin 5 → ℕ) a + (i a).val
      ∧ (ix5 b c k g e a).val * (![1, 1, 1, 1, 1] : Fin 5 → ℕ) a + (i a).val - (![0, 0, 127, 0, 0] : Fin 5 → ℕ) a
        < S8x64x128x4x8.size a) (Nat.decidableForallFin _) (fun hin => x (fun a => ⟨_, (hin a).2⟩)) (fun _ => 0))).trans ?_
  refine (Function.Bijective.sum_comp win_bij _).symm.trans ?_
  refine Eq.trans ?_ (Equiv.sum_comp (Equiv.addRight (k + 1))
    (fun i : Fin 128 => if (i : ℕ) ≤ k then x (ix5 b c i g e) else 0))
  refine Finset.sum_congr rfl fun w _ => ?_
  have hk := k.isLt
  have hw := w.isLt
  have hv : ((Equiv.addRight (k + 1) w : Fin 128) : ℕ) = (w + (k + 1)) % 128 := by
    simp [Fin.val_add, add_assoc]
  by_cases hc : 127 ≤ (k : ℕ) + w
  · rw [dif_pos (fun a => by
      match a with
      | ⟨0, _⟩ => exact ⟨Nat.zero_le _, by show (b : ℕ) * 1 + 0 - 0 < 8; omega⟩
      | ⟨1, _⟩ => exact ⟨Nat.zero_le _, by show (c : ℕ) * 1 + 0 - 0 < 64; omega⟩
      | ⟨2, _⟩ => exact ⟨by show 127 ≤ (k : ℕ) * 1 + w; omega, by show (k : ℕ) * 1 + w - 127 < 128; omega⟩
      | ⟨3, _⟩ => exact ⟨Nat.zero_le _, by show (g : ℕ) * 1 + 0 - 0 < 4; omega⟩
      | ⟨4, _⟩ => exact ⟨Nat.zero_le _, by show (e : ℕ) * 1 + 0 - 0 < 8; omega⟩), if_pos (by omega)]
    refine congrArg x (funext fun a => Fin.ext ?_)
    match a with
    | ⟨0, _⟩ => show (b : ℕ) * 1 + 0 - 0 = b; omega
    | ⟨1, _⟩ => show (c : ℕ) * 1 + 0 - 0 = c; omega
    | ⟨2, _⟩ => show (k : ℕ) * 1 + w - 127 = (Equiv.addRight (k + 1) w : Fin 128); omega
    | ⟨3, _⟩ => show (g : ℕ) * 1 + 0 - 0 = g; omega
    | ⟨4, _⟩ => show (e : ℕ) * 1 + 0 - 0 = e; omega
  · rw [if_neg (by omega), dif_neg]
    intro hin
    have h2 : 127 ≤ (k : ℕ) * 1 + w := (hin 2).1
    omega

include R

/-- The convolution's input with three zero rows in front. -/
theorem r_xpad (b : Fin 8) (s : Fin 8195) (c : Fin 3072) :
    val_main_v96 (F := Ideal) x0 x2 x3 (ix3 b s c) = P.xpad b s c := by
  have h := r_proj R
  unfold Params.xpad
  generalize hv : val_main_v15 (F := Ideal) x0 x2 x3 = v at h
  pointwise [val_main_v20, val_main_c_16, val_main_call3_v0, val_main_v96, hv]
  by_cases hs : (s : ℕ) < 3
  · rw [dif_neg (by omega), if_pos hs]
    show (((0#32 : BitVec 32).toInt : ℝ) : EReal) = 0
    norm_num
  · rw [dif_pos (by omega), if_neg hs, h]

/-- The convolution of width four, and its unit. -/
theorem r_cv (b : Fin 8) (s : Fin 8192) (c : Fin 3072) :
    val_main_v129 (F := Ideal) x0 x2 x3 x8 x9 (ix3 b s c) = P.cv b s c := by
  have h := r_xpad R
  have hw := R.convW
  have hb := R.convB
  unfold Params.cv slu sgm
  generalize hv : val_main_v96 (F := Ideal) x0 x2 x3 = v at h
  pointwise [val_main_v94, val_main_v95, val_main_v97, val_main_v98, val_main_v99, val_main_v100, val_main_v101,
    val_main_v102, val_main_cst_17, val_main_v103, val_main_v104, val_main_v105, val_main_v106, val_main_v107,
    val_main_v108, val_main_v109, val_main_v110, val_main_v111, val_main_v112, val_main_v113, val_main_v114,
    val_main_v115, val_main_v116, val_main_v117, val_main_v118, val_main_v119, val_main_v120, val_main_v121,
    val_main_v122, val_main_v123, val_main_v124, val_main_v125, val_main_v126, val_main_v127, val_main_v128,
    val_main_call4_v0, val_main_call4_v1, val_main_call4_cst, val_main_call4_v2, val_main_call4_v3,
    val_main_call4_cst_0, val_main_call4_v4, val_main_call4_v5, val_main_v129, hv]
  have e : ∀ q0 q1 q2 q3 q : EReal, q0 + q1 + q2 + q3 + q = q + q3 + q0 + q1 + q2 := fun q0 q1 q2 q3 q => by
    rw [add_comm _ q, add_right_comm q q3, add_right_comm _ q3, add_assoc]
    ac_rfl
  rw [e]
  simp only [h, hw, hb, add_comm 1 (s : ℕ), add_comm 2 (s : ℕ), add_comm 3 (s : ℕ)]
  rfl

/-- The step size of a head. -/
theorem r_dt (b : Fin 8) (s : Fin 8192) (c : Fin 32) :
    val_main_v137 (F := Ideal) x0 x2 x3 x10 (ix3 b s c) = P.dt b s c := by
  have h := r_proj R
  have hb := R.dtBias
  unfold Params.dt spl
  generalize hv : val_main_v15 (F := Ideal) x0 x2 x3 = v at h
  pointwise [val_main_v21, val_main_v133, val_main_v134, val_main_v135, val_main_v136, val_main_call5_cst,
    val_main_call5_v0, val_main_call5_v1, val_main_call5_v2, val_main_call5_v3, val_main_call5_v4, val_main_call5_v5,
    val_main_call5_v6, val_main_call5_v7, val_main_call5_v8, val_main_call5_v9, val_main_call5_v10,
    val_main_call5_v11, val_main_v137, hv]
  rw [if_neg (fun hn => hn rfl)]
  simp only [h, hb]
  rfl

/-- The logarithm of the decay. -/
theorem r_av (b : Fin 8) (c : Fin 64) (k : Fin 128) (g : Fin 4) (h : Fin 8) :
    val_main_v150 (F := Ideal) x0 x2 x3 x10 x11 (ix5 b c k g h) = P.av b (c * 128 + k) (g * 8 + h) := by
  have hd := r_dt R
  have hb := R.aLog
  unfold Params.av
  generalize hv : val_main_v137 (F := Ideal) x0 x2 x3 x10 = v at hd
  pointwise [val_main_v138, val_main_v140, val_main_v141, val_main_v142, val_main_v144, val_main_v148, val_main_v149,
    val_main_v150, hv]
  simp only [hd, hb]

/-- Its running sum. -/
theorem r_acs (b : Fin 8) (c : Fin 64) (k : Fin 128) (g : Fin 4) (h : Fin 8) :
    val_main_v151 (F := Ideal) x0 x2 x3 x10 x11 (ix5 b c k g h) = P.acs b (c * 128 + k) (g * 8 + h) := by
  have ha := r_av R
  unfold Params.acs val_main_v151
  rw [cumsum_read _ _ _ _ (by pointwise [val_main_call6_call0_v0, val_main_call6_call0_cst])]
  have hk := k.isLt
  rw [show ((c : ℕ) * 128 + k) % 128 = k by omega, show ((c : ℕ) * 128 + k) / 128 = c by omega]
  simp only [ha]

end Cert.Layer

end
-- ==== Proof.Reference.Scan.lean ====
/- The scan of the reference. -/
module

public import proofs.«01_k».proof.Proof.Reference.Mix
public import proofs.«01_k».proof.Proof.Reference.Conv
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

/-- The comparison of two small words is the comparison of their numbers. -/
theorem slt_small (i j : Fin 64) : IntOp.cmpi CmpIPredicate.slt (BitVec.ofNat 32 i) (BitVec.ofNat 32 j)
    = if (i : ℕ) < j then 1#1 else 0#1 := by
  have e : ∀ n : Fin 64, (BitVec.ofNat 32 (n : ℕ)).toInt = (n : ℕ) := by decide
  split
  · next h => rw [IntOp.cmpi_slt, e, e]; exact_mod_cast h
  · next h =>
    refine ValueIdx.eq_zero_of_ne_one fun hc => h ?_
    rw [IntOp.cmpi_slt, e, e] at hc
    exact_mod_cast hc

/-- The zero word is the number zero. -/
theorem zero_word : (id (constant S_ .f32 0x00000000#32) : FVec Ideal S_ .f32) ix0 = 0 := by
  show Ideal.ofBits .f32 0x00000000#32 = 0
  simp [Ideal.ofBits, Ideal.ieee]

/-- A choice on the conjunction of two tests. -/
theorem both_select {α : Type} (p q : Prop) [Decidable p] [Decidable q] (u v : α) :
    Scalar.select (IntOp.andi (if p then 1#1 else 0#1) (if q then 1#1 else 0#1)) u v = if p ∧ q then u else v := by
  by_cases hp : p
  · by_cases hq : q
    · rw [if_pos hp, if_pos hq, if_pos ⟨hp, hq⟩]; exact ValueIdx.select_one _ _
    · rw [if_pos hp, if_neg hq, if_neg (fun h => hq h.2)]; exact ValueIdx.select_zero _ _
  · rw [if_neg hp, if_neg (fun h : p ∧ q => hp h.1)]
    by_cases hq : q
    · rw [if_pos hq]; exact ValueIdx.select_zero _ _
    · rw [if_neg hq]; exact ValueIdx.select_zero _ _

include R

/-- The scaled input. -/
theorem r_xdt (b : Fin 8) (c : Fin 64) (k : Fin 128) (g : Fin 4) (h : Fin 8) (p : Fin 64) :
    val_main_v147 (F := Ideal) x0 x2 x3 x8 x9 x10 (ix6 b c k g h p)
      = P.cv b (c * 128 + k) ((g * 8 + h) * 64 + p) * P.dt b (c * 128 + k) (g * 8 + h) := by
  have hd := r_dt R
  have hc := r_cv R
  generalize h1 : val_main_v137 (F := Ideal) x0 x2 x3 x10 = v at hd
  generalize h2 : val_main_v129 (F := Ideal) x0 x2 x3 x8 x9 = w at hc
  pointwise [val_main_v130, val_main_v143, val_main_v144, val_main_v145, val_main_v146, val_main_v147, h1, h2]
  simp only [hd, hc]
  rw [show (g : ℕ) * 512 + h * 64 + p = (g * 8 + h) * 64 + p by omega]

/-- The state's projections, in and out. -/
theorem r_bm (b : Fin 8) (c : Fin 64) (k : Fin 128) (g : Fin 4) (n : Fin 128) :
    val_main_v152 (F := Ideal) x0 x2 x3 x8 x9 (ix5 b c k g n) = P.cv b (c * 128 + k) (2048 + g * 128 + n) := by
  have hc := r_cv R
  generalize h2 : val_main_v129 (F := Ideal) x0 x2 x3 x8 x9 = w at hc
  pointwise [val_main_v131, val_main_v152, h2]
  simp only [hc, add_assoc]

/-- The `C` rows of the state-space branch. -/
theorem r_cm (b : Fin 8) (c : Fin 64) (k : Fin 128) (g : Fin 4) (n : Fin 128) :
    val_main_v153 (F := Ideal) x0 x2 x3 x8 x9 (ix5 b c k g n) = P.cv b (c * 128 + k) (2560 + g * 128 + n) := by
  have hc := r_cv R
  generalize h2 : val_main_v129 (F := Ideal) x0 x2 x3 x8 x9 = w at hc
  pointwise [val_main_v132, val_main_v153, h2]
  simp only [hc, add_assoc]

/-- The part of the output from the position's own chunk. -/
theorem r_yd (b : Fin 8) (c : Fin 64) (k : Fin 128) (g : Fin 4) (h : Fin 8) (p : Fin 64) :
    val_main_v170 (F := Ideal) x0 x2 x3 x8 x9 x10 x11 (ix6 b c k g h p)
      = P.yd b (c * 128 + k) ((g * 8 + h) * 64 + p) := by
  have hx := r_xdt R
  have hb := r_bm R
  have hc := r_cm R
  have ha := r_acs R
  unfold Params.yd Params.cbm
  generalize h1 : val_main_v147 (F := Ideal) x0 x2 x3 x8 x9 x10 = v at hx
  generalize h2 : val_main_v152 (F := Ideal) x0 x2 x3 x8 x9 = w at hb
  generalize h3 : val_main_v153 (F := Ideal) x0 x2 x3 x8 x9 = u at hc
  generalize h4 : val_main_v151 (F := Ideal) x0 x2 x3 x10 x11 = r at ha
  pointwise [val_main_c_18, val_main_v154, val_main_call7_v0, val_main_call7_c, val_main_call7_v1, val_main_call7_v2,
    val_main_call7_v3, val_main_call7_v4, val_main_call7_c_0, val_main_call7_v5, val_main_v155, val_main_v156,
    val_main_v157, val_main_v158, val_main_v159, val_main_v160, val_main_v161, val_main_cst_19, val_main_call8_v0,
    val_main_call8_v1, val_main_call8_v2, val_main_v162, val_main_v163, val_main_v164, val_main_v165, val_main_v166,
    val_main_v167, val_main_v168, val_main_v169, val_main_v170, h1, h2, h3, h4]
  have hk := k.isLt
  have hh := h.isLt
  have hp := p.isLt
  rw [show (((g : ℕ) * 8 + h) * 64 + p) / 512 = g by omega, show (((g : ℕ) * 8 + h) * 64 + p) / 64 = g * 8 + h by omega,
    show ((c : ℕ) * 128 + k) % 128 = k by omega, show ((c : ℕ) * 128 + k) / 128 = c by omega]
  refine Finset.sum_congr rfl fun i _ => ?_
  rw [tri_select, hx, mul_comm (P.cv _ _ _ * _)]
  refine congrArg₂ (· * ·) (congrArg₂ (· * ·) (Finset.sum_congr rfl fun n _ => ?_) (congrArg Ideal.exp ?_)) rfl
  · rw [hb, hc, mul_comm]
  · rw [ha, ha]
    exact if_congr Iff.rfl rfl ninf

/-- What a chunk adds to the state. -/
theorem r_st (b : Fin 8) (c : Fin 64) (g : Fin 4) (h : Fin 8) (p : Fin 64) (n : Fin 128) :
    val_main_v178 (F := Ideal) x0 x2 x3 x8 x9 x10 x11 (ix6 b c g h p n)
      = P.st b c n ((g * 8 + h) * 64 + p) := by
  have hx := r_xdt R
  have hb := r_bm R
  have ha := r_acs R
  unfold Params.st
  generalize h1 : val_main_v147 (F := Ideal) x0 x2 x3 x8 x9 x10 = v at hx
  generalize h2 : val_main_v152 (F := Ideal) x0 x2 x3 x8 x9 = w at hb
  generalize h4 : val_main_v151 (F := Ideal) x0 x2 x3 x10 x11 = r at ha
  pointwise [val_main_v171, val_main_v172, val_main_v173, val_main_v174, val_main_v175, val_main_v176, val_main_v177,
    val_main_v178, h1, h2, h4]
  have hh := h.isLt
  have hp := p.isLt
  rw [show (((g : ℕ) * 8 + h) * 64 + p) / 512 = g by omega, show (((g : ℕ) * 8 + h) * 64 + p) / 64 = g * 8 + h by omega]
  refine Finset.sum_congr rfl fun i _ => ?_
  rw [hx, hb, ha, ha, mul_comm]
  rfl

/-- The decay over the chunks strictly between two. -/
theorem r_span (b : Fin 8) (c j : Fin 64) (g : Fin 4) (h : Fin 8) :
    val_main_v199 (F := Ideal) x0 x2 x3 x10 x11 (ix5 b c j g h)
      = ∑ k : Fin 64, if (j : ℕ) < k ∧ (k : ℕ) < c then P.acs b (k * 128 + 127) (g * 8 + h) else 0 := by
  have ha := r_acs R
  rw [val_main_v199_apply]
  refine (congrArg₂ (· + ·) (show _ = (0 : EReal) by pointwise [val_main_cst_21]) rfl).trans ((zero_add _).trans ?_)
  refine Finset.sum_congr rfl fun k _ => ?_
  show val_main_v198 (F := Ideal) x0 x2 x3 x10 x11 (ix6 b c j k g h) = _
  generalize h4 : val_main_v151 (F := Ideal) x0 x2 x3 x10 x11 = r at ha
  pointwise [val_main_v179, val_main_v180, val_main_v181, val_main_v182, val_main_v183, val_main_v184, val_main_v185,
    val_main_v186, val_main_v187, val_main_v188, val_main_v189, val_main_v190, val_main_v191, val_main_v192,
    val_main_v193, val_main_v194, val_main_v195, val_main_v196, val_main_v197, val_main_cst_20, val_main_call9_v0,
    val_main_call9_v1, val_main_call9_v2, val_main_call9_v3, val_main_v198, h4]
  rw [slt_small, slt_small, ha, zero_word]
  rw [both_select]
  rfl

/-- The share of a chunk in the state that enters another. -/
theorem r_carry (b : Fin 8) (c j : Fin 64) (g : Fin 4) (h : Fin 8) :
    val_main_v205 (F := Ideal) x0 x2 x3 x10 x11 (ix5 b c j g h)
      = if (j : ℕ) < c then Ideal.exp (∑ k : Fin 64, if (j : ℕ) < k ∧ (k : ℕ) < c
          then P.acs b (k * 128 + 127) (g * 8 + h) else 0) else 0 := by
  have ha := r_span R b c j g h
  generalize h4 : val_main_v199 (F := Ideal) x0 x2 x3 x10 x11 = r at ha
  pointwise [val_main_v181, val_main_v182, val_main_v183, val_main_v184, val_main_v200, val_main_v201, val_main_v202,
    val_main_v203, val_main_v204, val_main_cst_22, val_main_call10_v0, val_main_call10_v1, val_main_call10_v2,
    val_main_v205, h4]
  rw [slt_small, ha]
  by_cases hj : (j : ℕ) < c
  · rw [if_pos hj, if_pos hj, ValueIdx.select_one]
  · rw [if_neg hj, if_neg hj, ValueIdx.select_zero, zero_word]

end Cert.Layer

end
-- ==== Proof.Reference.Merge.lean ====
/- The state-space branch of the reference. -/
module

public import proofs.«01_k».proof.Proof.Reference.State
public import proofs.«01_k».proof.Proof.Reference.Scan
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

include R

/-- The state that enters a chunk. -/
theorem r_pv (b : Fin 8) (c : Fin 64) (g : Fin 4) (h : Fin 8) (p : Fin 64) (n : Fin 128) :
    val_main_v207 (F := Ideal) x0 x2 x3 x8 x9 x10 x11 (ix6 b c g h p n)
      = P.pv b c n ((g * 8 + h) * 64 + p) := by
  have hs := r_st R
  have hc := r_carry R
  have hh := h.isLt
  have hp := p.isLt
  rw [pv_closed P b c n _ (by omega)]
  rw [show (((g : ℕ) * 8 + h) * 64 + p) / 64 = g * 8 + h by omega]
  generalize h1 : val_main_v178 (F := Ideal) x0 x2 x3 x8 x9 x10 x11 = v at hs
  generalize h2 : val_main_v205 (F := Ideal) x0 x2 x3 x10 x11 = w at hc
  simp only [← hs, ← hc]
  pointwise [val_main_v206, val_main_v207, h1, h2]

/-- The part of the output that comes from the chunks before. -/
theorem r_yo (b : Fin 8) (c : Fin 64) (k : Fin 128) (g : Fin 4) (h : Fin 8) (p : Fin 64) :
    val_main_v213 (F := Ideal) x0 x2 x3 x8 x9 x10 x11 (ix6 b c k g h p)
      = P.yo b (c * 128 + k) ((g * 8 + h) * 64 + p) := by
  have hs := r_pv R
  have hc := r_cm R
  have ha := r_acs R
  have hk := k.isLt
  have hh := h.isLt
  have hp := p.isLt
  unfold Params.yo
  rw [show (((g : ℕ) * 8 + h) * 64 + p) / 512 = g by omega, show (((g : ℕ) * 8 + h) * 64 + p) / 64 = g * 8 + h by omega,
    show ((c : ℕ) * 128 + k) / 128 = c by omega]
  generalize h1 : val_main_v207 (F := Ideal) x0 x2 x3 x8 x9 x10 x11 = v at hs
  generalize h2 : val_main_v153 (F := Ideal) x0 x2 x3 x8 x9 = w at hc
  generalize h4 : val_main_v151 (F := Ideal) x0 x2 x3 x10 x11 = r at ha
  pointwise [val_main_v208, val_main_v209, val_main_v210, val_main_v211, val_main_v212, val_main_v213, h1, h2, h4]
  simp only [hs, hc, ha, mul_comm (P.pv _ _ _ _)]

/-- The state-space output. -/
theorem r_y (b : Fin 8) (c : Fin 64) (k : Fin 128) (g : Fin 4) (h : Fin 8) (p : Fin 64) :
    val_main_v220 (F := Ideal) x0 x2 x3 x8 x9 x10 x11 x12 (ix6 b c k g h p)
      = P.yd b (c * 128 + k) ((g * 8 + h) * 64 + p) + P.yo b (c * 128 + k) ((g * 8 + h) * 64 + p)
        + P.cv b (c * 128 + k) ((g * 8 + h) * 64 + p) * P.dSkip (g * 8 + h) := by
  have hs := r_yd R
  have hc := r_yo R
  have ha := r_cv R
  have hd := R.dSkip
  generalize h1 : val_main_v170 (F := Ideal) x0 x2 x3 x8 x9 x10 x11 = v at hs
  generalize h2 : val_main_v213 (F := Ideal) x0 x2 x3 x8 x9 x10 x11 = w at hc
  generalize h4 : val_main_v129 (F := Ideal) x0 x2 x3 x8 x9 = r at ha
  pointwise [val_main_v130, val_main_v143, val_main_v139, val_main_v214, val_main_v215, val_main_v216, val_main_v217,
    val_main_v218, val_main_v219, val_main_v220, h1, h2, h4]
  simp only [hs, hc, ha, hd]
  rw [show (g : ℕ) * 512 + h * 64 + p = (g * 8 + h) * 64 + p by omega]

/-- It, gated. -/
theorem r_yz (b : Fin 8) (s : Fin 8192) (q : Fin 2048) :
    val_main_v224 (F := Ideal) x0 x2 x3 x8 x9 x10 x11 x12 (ix3 b s q) = P.yz b s q := by
  have hy := r_y R
  have hp := r_proj R
  unfold Params.yz slu sgm
  generalize h1 : val_main_v220 (F := Ideal) x0 x2 x3 x8 x9 x10 x11 x12 = v at hy
  generalize h2 : val_main_v15 (F := Ideal) x0 x2 x3 = w at hp
  pointwise [val_main_v19, val_main_v221, val_main_call11_v0, val_main_call11_v1, val_main_call11_cst,
    val_main_call11_v2, val_main_call11_v3, val_main_call11_cst_0, val_main_call11_v4, val_main_call11_v5,
    val_main_v223, val_main_v224, h1, h2]
  have hq := q.isLt
  rw [hy, hp]
  show (P.yd b ((s : ℕ) / 128 * 128 + s % 128) (((q : ℕ) / 512 * 8 + q / 64 % 8) * 64 + q % 64) + _ + _) * _ = _
  simp only [show (s : ℕ) / 128 * 128 + s % 128 = s by omega,
    show (q : ℕ) / 512 * 8 + q / 64 % 8 = q / 64 by omega, show (q : ℕ) / 64 * 64 + q % 64 = q by omega]

end Cert.Layer

end
-- ==== Proof.Reference.Final.lean ====
/- The end of the reference. -/
module

public import proofs.«01_k».proof.Proof.Reference.Merge
public import Idealize.ShloMosaic.Lib.Pointwise

@[expose] public section

set_option maxRecDepth 16384
set_option maxHeartbeats 800000

noncomputable section

namespace Cert.Layer

open Idealize.ShloMosaic Cert.ReferenceIdeal Cert.ReferenceIdeal.Read

variable {P : Params}
  {x0 : (⟨S8x8192x1024, .f32⟩ : BufTy).Contents (Elt Ideal)} {x1 : (⟨S1x8x8192x256, .f32⟩ : BufTy).Contents
  (Elt Ideal)} {x2 : (⟨S1x1024, .f32⟩ : BufTy).Contents (Elt Ideal)} {x3 : (⟨S1x1024x10272, .f32⟩ : BufTy).Contents
  (Elt Ideal)} {x4 : (⟨S1x1024, .f32⟩ : BufTy).Contents (Elt Ideal)} {x5 : (⟨S1x1024, .f32⟩ : BufTy).Contents
  (Elt Ideal)} {x6 : (⟨S1x4x128x128, .f32⟩ : BufTy).Contents (Elt Ideal)} {x7 : (⟨S1x4x128, .f32⟩ : BufTy).Contents
  (Elt Ideal)} {x8 : (⟨S1x4x3072, .f32⟩ : BufTy).Contents (Elt Ideal)} {x9 : (⟨S1x3072, .f32⟩ : BufTy).Contents
  (Elt Ideal)} {x10 : (⟨S1x32, .f32⟩ : BufTy).Contents (Elt Ideal)} {x11 : (⟨S1x32, .f32⟩ : BufTy).Contents
  (Elt Ideal)} {x12 : (⟨S1x32, .f32⟩ : BufTy).Contents (Elt Ideal)} {x13 : (⟨S1x2048, .f32⟩ : BufTy).Contents
  (Elt Ideal)} {x14 : (⟨S1x1024x1024, .f32⟩ : BufTy).Contents (Elt Ideal)} {x15 :
  (⟨S1x2048x1024, .f32⟩ : BufTy).Contents (Elt Ideal)} {x16 : (⟨S1x1024x1024, .f32⟩ : BufTy).Contents (Elt Ideal)}
  {x17 : (⟨S1x1024, .f32⟩ : BufTy).Contents (Elt Ideal)} {x18 : (⟨S1x1024x1024, .f32⟩ : BufTy).Contents (Elt Ideal)}
  {x19 : (⟨S1x256x1024, .f32⟩ : BufTy).Contents (Elt Ideal)} {x20 : (⟨S1024, .f32⟩ : BufTy).Contents (Elt Ideal)}
  (R : RefIn P x0 x1 x2 x3 x4 x5 x6 x7 x8 x9 x10 x11 x12 x13 x14 x15 x16 x17 x18 x19 x20)

include R

/-- The state-space output, normalized by groups of 512 columns. -/
theorem r_yn (b : Fin 8) (s : Fin 8192) (q : Fin 2048) :
    val_main_v239 (F := Ideal) x0 x2 x3 x8 x9 x10 x11 x12 x13 (ix3 b s q) = P.yn b s q := by
  have hy := r_yz R
  have hg := R.ssmG
  have hq := q.isLt
  unfold Params.yn rinv
  generalize h1 : val_main_v224 (F := Ideal) x0 x2 x3 x8 x9 x10 x11 x12 = v at hy
  pointwise [val_main_v222, val_main_v225, val_main_v226, val_main_cst_23, val_main_v227, val_main_v228,
    val_main_cst_24, val_main_v229, val_main_v230, val_main_cst_25, val_main_v231, val_main_v232, val_main_v233,
    val_main_v234, val_main_v235, val_main_v236, val_main_v237, val_main_v238, val_main_v239, h1]
  simp only [hy, hg, lit]

/-- The state-space branch. -/
theorem r_ob (b : Fin 8) (s : Fin 8192) (d : Fin 1024) :
    val_main_v241 (F := Ideal) x0 x2 x3 x8 x9 x10 x11 x12 x13 x15 (ix3 b s d) = P.ob b s d := by
  unfold Params.ob
  simp only [← r_yn R, ← R.wOb]
  generalize h1 : val_main_v239 (F := Ideal) x0 x2 x3 x8 x9 x10 x11 x12 x13 = v
  pointwise [val_main_v240, val_main_v241, h1]

/-- The branches merged. -/
theorem r_mg (b : Fin 8) (s : Fin 8192) (d : Fin 1024) :
    val_main_v256 (F := Ideal) x0 x2 x3 x4 x5 x6 x7 x8 x9 x10 x11 x12 x13 x14 x15 (ix3 b s d) = P.mg b s d := by
  have hp := r_proj R
  have ha := r_oa R b s d
  have hb := r_ob R b s d
  unfold Params.mg sgm
  generalize h1 : val_main_v15 (F := Ideal) x0 x2 x3 = v at hp
  generalize h2 : val_main_v93 (F := Ideal) x0 x2 x3 x4 x5 x6 x7 x14 = w at ha
  generalize h3 : val_main_v241 (F := Ideal) x0 x2 x3 x8 x9 x10 x11 x12 x13 x15 = u at hb
  pointwise [val_main_v22, val_main_v23, val_main_v242, val_main_v243, val_main_cst_26, val_main_v244, val_main_v245,
    val_main_cst_27, val_main_v246, val_main_v247, val_main_v248, val_main_v249, val_main_v250, val_main_cst_28,
    val_main_v251, val_main_v252, val_main_cst_29, val_main_v253, val_main_v254, val_main_v255, val_main_v256, h1, h2, h3]
  simp only [hp, ha, hb]

/-- The first residual. -/
theorem r_fin1 (b : Fin 8) (s : Fin 8192) (d : Fin 1024) :
    val_main_v259 (F := Ideal) x0 x2 x3 x4 x5 x6 x7 x8 x9 x10 x11 x12 x13 x14 x15 x16 (ix3 b s d)
      = fin1 P (P.x b s) (P.mg b s) d := by
  unfold fin1
  simp only [← r_mg R, ← R.wOut, ← R.x]
  generalize h1 : val_main_v256 (F := Ideal) x0 x2 x3 x4 x5 x6 x7 x8 x9 x10 x11 x12 x13 x14 x15 = v
  pointwise [val_main_v257, val_main_v258, val_main_v259, h1]

/-- It, normalized. -/
theorem r_ple (b : Fin 8) (s : Fin 8192) (d : Fin 1024) :
    val_main_v273 (F := Ideal) x0 x2 x3 x4 x5 x6 x7 x8 x9 x10 x11 x12 x13 x14 x15 x16 x17 (ix3 b s d)
      = rms P.pleG (fin1 P (P.x b s) (P.mg b s)) d := by
  unfold rms rinv
  simp only [← r_fin1 R, ← R.pleG]
  generalize h1 : val_main_v259 (F := Ideal) x0 x2 x3 x4 x5 x6 x7 x8 x9 x10 x11 x12 x13 x14 x15 x16 = v
  pointwise [val_main_v260, val_main_v261, val_main_cst_30, val_main_v262, val_main_v263, val_main_cst_31,
    val_main_v264, val_main_v265, val_main_cst_32, val_main_v266, val_main_v267, val_main_v268, val_main_v269,
    val_main_v270, val_main_v271, val_main_v272, val_main_v273, h1]

/-- The second residual. -/
theorem r_fin2 (b : Fin 8) (s : Fin 8192) (d : Fin 1024) :
    val_main_v286 (F := Ideal) x0 x1 x2 x3 x4 x5 x6 x7 x8 x9 x10 x11 x12 x13 x14 x15 x16 x17 x18 x19 (ix3 b s d)
      = fin2 P (P.x b s) (P.mg b s) (P.p b s) d := by
  unfold fin2 sgm
  simp only [← r_ple R, ← r_fin1 R, ← R.wPg, ← R.wPle, ← R.p]
  generalize h1 : val_main_v259 (F := Ideal) x0 x2 x3 x4 x5 x6 x7 x8 x9 x10 x11 x12 x13 x14 x15 x16 = v
  generalize h2 : val_main_v273 (F := Ideal) x0 x2 x3 x4 x5 x6 x7 x8 x9 x10 x11 x12 x13 x14 x15 x16 x17 = w
  pointwise [val_main_v274, val_main_v275, val_main_v276, val_main_v277, val_main_cst_33, val_main_v278,
    val_main_v279, val_main_cst_34, val_main_v280, val_main_v281, val_main_v282, val_main_v283, val_main_v284,
    val_main_v285, val_main_v286, h1, h2]

/-- The result. -/
theorem r_out (b : Fin 8) (s : Fin 8192) (d : Fin 1024) :
    val_main_v299 (F := Ideal) x0 x1 x2 x3 x4 x5 x6 x7 x8 x9 x10 x11 x12 x13 x14 x15 x16 x17 x18 x19 x20 (ix3 b s d)
      = P.out b s d := by
  unfold Params.out rms rinv
  simp only [← r_fin2 R, ← R.finalG]
  generalize h1 : val_main_v286 (F := Ideal) x0 x1 x2 x3 x4 x5 x6 x7 x8 x9 x10 x11 x12 x13 x14 x15 x16 x17 x18 x19 = v
  pointwise [val_main_v287, val_main_cst_35, val_main_v288, val_main_v289, val_main_cst_36, val_main_v290,
    val_main_v291, val_main_cst_37, val_main_v292, val_main_v293, val_main_v294, val_main_v295, val_main_v296,
    val_main_v297, val_main_v298, val_main_v299, h1]

/-- The reference's result is the layer. -/
theorem ref_out : val_main_v299 (F := Ideal) x0 x1 x2 x3 x4 x5 x6 x7 x8 x9 x10 x11 x12 x13 x14 x15 x16 x17 x18 x19 x20
    = fun i => P.out (i 0) (i 1) (i 2) := by
  funext i
  exact (congrArg _ (eq_ix3 i)).trans (r_out R (i 0) (i 1) (i 2))

end Cert.Layer

end
-- ==== Proof.lean ====
module

public import proofs.«01_k».proof.Defs
public import proofs.«01_k».proof.Proof.Gen.Kernel
public import proofs.«01_k».proof.Proof.Frame.Run
public import proofs.«01_k».proof.Proof.Frame.Kernel
public import proofs.«01_k».proof.Proof.Kernel.Grid
public import proofs.«01_k».proof.Proof.Gen.ReferenceIdeal
public import proofs.«01_k».proof.Proof.Gen.ReferenceIdeal.Run
public import proofs.«01_k».proof.Proof.Gen.ReferenceIdeal.Read
public import proofs.«01_k».proof.Proof.Reference.Final
public import Idealize.ShloMosaic.Adequacy
public import Idealize.ShloMosaic.Init

@[expose] public section

noncomputable section

namespace Cert.Proof

open Idealize.ShloMosaic Idealize.SL.Sem

/-- The reference ends with its arguments unchanged; it has no counters. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run m ρ)

/-- From equal arguments the kernel and the reference end with the same result: both are the layer, `Params.out`, of the
    arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Layer.layerArr (Cert.Layer.parOf m c), ?_, ?_⟩
  · exact (θ_run Cert.KernelIdeal.defs _ _).mono (fun r h c => ⟨(h c).1.trans (Cert.Layer.arr_out m c), (h c).2⟩)
      (Cert.KernelIdeal.Value.run_blocks m g)
  · refine (θ_run Cert.ReferenceIdeal.defs _ _).mono (fun r h c => ⟨(h c).1.trans ?_, (h c).2⟩)
      (Cert.ReferenceIdeal.Value.run m' g')
    obtain ⟨h0, h1, h2, h3, h4, h5, h6, h7, h8, h9, h10, h11, h12, h13, h14, h15, h16, h17, h18, h19, h20⟩ := hargs c
    refine (Cert.ReferenceIdeal.Read.val_main_v299_eq _).trans
      ((Cert.Layer.ref_out (Cert.Layer.refIn _ _ _ _ _ _ _ _ _ _ _ _ _ _ _ _ _ _ _ _ _)).trans ?_)
    show Cert.Layer.layerArr (Cert.Layer.par
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))) = _
    rw [h0, h1, h2, h3, h4, h5, h6, h7, h8, h9, h10, h11, h12, h13, h14, h15, h16, h17, h18, h19, h20]
    rfl

/-- All five claims: the three frames, that the two kernels have the same text, and the equality of the results. -/
theorem claim : Cert.Claim :=
  ⟨Cert.Kernel.Gen.facts, Cert.KernelIdeal.Gen.facts, Cert.ReferenceIdeal.Gen.facts,
    frame_kernel, fun m ρ _ => Cert.KernelIdeal.Gen.frame m ρ, frame_reference, trivial, algebraic⟩

end Cert.Proof

end
